-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Kernel3Ideal_finite_in_range [hPre_finite_in_range : Cert.Pre_finite_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in_range [hPre_finite_in_range : Cert.Pre_finite_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_in_range [hKernel3Ideal : Cert.Kernel3Ideal.Facts] [hPre_finite_in_range : Cert.Pre_finite_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_in_range [hReference3Ideal : Cert.Reference3Ideal.Facts] [hPre_finite_in_range : Cert.Pre_finite_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_in_range [hKernel3Ideal : Cert.Kernel3Ideal.Facts] [hReference3Ideal : Cert.Reference3Ideal.Facts] [hPre_finite_in_range : Cert.Pre_finite_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts) (hPre_finite_in_range : Cert.Pre_finite_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3) (hPre_in_range := hPre_in_range)
    ∧ quiescent_Kernel3Ideal (hKernel3Ideal := hKernel3Ideal) (hPre_in_range := hPre_in_range)
    ∧ quiescent_Kernel3Ideal_pre_finite_in_range (hKernel3Ideal := hKernel3Ideal) (hPre_finite_in_range := hPre_finite_in_range)
    ∧ quiescent_Reference3Ideal (hReference3Ideal := hReference3Ideal)
    ∧ quiescent_Reference3Ideal_pre_finite_in_range (hReference3Ideal := hReference3Ideal) (hPre_finite_in_range := hPre_finite_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_in_range (hKernel3Ideal := hKernel3Ideal) (hReference3Ideal := hReference3Ideal) (hPre_finite_in_range := hPre_finite_in_range)
-- ==== Pre_finite.lean ====
abbrev S100000x3 : Shape := ⟨2, ![100000, 3]⟩
abbrev S4x1568x3 : Shape := ⟨3, ![4, 1568, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S4x1568x3 : S_.BroadcastsInDim S4x1568x3 (![] : Fin 0 → Fin S4x1568x3.rank)
  reducesTo_S4x1568x3_S_d0_1_2 : S4x1568x3.ReducesTo [0, 1, 2] S_

variable [Facts]

def fn {F : FTy → Type} [FloatOps F] (main_arg0 : FVec F S100000x3 .f32) (main_arg1 : FVec F S4x1568x3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S4x1568x3 .f32 := Host.absf main_arg1
  let main_cst_0 : FVec F S_ .f32 := constant S_ .f32 0x7F800000#32
  let main_v5 : FVec F S4x1568x3 .f32 := broadcastInDim S4x1568x3 ![] bcast_S_S4x1568x3 main_cst_0
  let main_v6 : IVec S4x1568x3 1 := cmpf .olt main_v4 main_v5
  let main_c_1 : IVec S_ 1 := constantI S_ 1 1#1
  let main_v7 : IVec S_ 1 := (fun x v => Host.reduce IntOp.andi x v reducesTo_S4x1568x3_S_d0_1_2 h_S_) main_v6 main_c_1
  let main_v8 : IVec S_ 1 := andi main_v3 main_v7
  main_v8
-- ==== Pre_finite_in_range.lean ====
abbrev S100000x3 : Shape := ⟨2, ![100000, 3]⟩
abbrev S100000x32 : Shape := ⟨2, ![100000, 32]⟩
abbrev S64x35 : Shape := ⟨2, ![64, 35]⟩
abbrev S64 : Shape := ⟨1, ![64]⟩
abbrev S4x1568x3 : Shape := ⟨3, ![4, 1568, 3]⟩
abbrev S4x1568x16 : Shape := ⟨3, ![4, 1568, 16]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S64x35 : S_.BroadcastsInDim S64x35 (![] : Fin 0 → Fin S64x35.rank)
  reducesTo_S64x35_S_d0_1 : S64x35.ReducesTo [0, 1] S_
  bcast_S_S4x1568x3 : S_.BroadcastsInDim S4x1568x3 (![] : Fin 0 → Fin S4x1568x3.rank)
  reducesTo_S4x1568x3_S_d0_1_2 : S4x1568x3.ReducesTo [0, 1, 2] S_
  bcast_S_S4x1568x16 : S_.BroadcastsInDim S4x1568x16 (![] : Fin 0 → Fin S4x1568x16.rank)
  reducesTo_S4x1568x16_S_d0_1_2 : S4x1568x16.ReducesTo [0, 1, 2] S_

variable [Facts]

def fn_part1 {F : FTy → Type} [FloatOps F] (main_arg6 : IVec S4x1568x16 32) (main_v13 : IVec S_ 1) (main_v16 : IVec S4x1568x3 1) : IVec S_ 1 :=
  let main_c_5 : IVec S_ 1 := constantI S_ 1 1#1
  let main_v17 : IVec S_ 1 := (fun x v => Host.reduce IntOp.andi x v reducesTo_S4x1568x3_S_d0_1_2 h_S_) main_v16 main_c_5
  let main_v18 : IVec S_ 1 := andi main_v13 main_v17
  let main_c_6 : IVec S_ 32 := constantI S_ 32 0#32
  let main_v19 : IVec S4x1568x16 32 := broadcastInDim S4x1568x16 ![] bcast_S_S4x1568x16 main_c_6
  let main_v20 : IVec S4x1568x16 1 := cmpi .sge main_arg6 main_v19
  let main_c_7 : IVec S_ 1 := constantI S_ 1 1#1
  let main_v21 : IVec S_ 1 := (fun x v => Host.reduce IntOp.andi x v reducesTo_S4x1568x16_S_d0_1_2 h_S_) main_v20 main_c_7
  let main_v22 : IVec S_ 1 := andi main_v18 main_v21
  let main_c_8 : IVec S_ 32 := constantI S_ 32 25000#32
  let main_v23 : IVec S4x1568x16 32 := broadcastInDim S4x1568x16 ![] bcast_S_S4x1568x16 main_c_8
  let main_v24 : IVec S4x1568x16 1 := cmpi .slt main_arg6 main_v23
  let main_c_9 : IVec S_ 1 := constantI S_ 1 1#1
  let main_v25 : IVec S_ 1 := (fun x v => Host.reduce IntOp.andi x v reducesTo_S4x1568x16_S_d0_1_2 h_S_) main_v24 main_c_9
  let main_v26 : IVec S_ 1 := andi main_v22 main_v25
  main_v26

def fn {F : FTy → Type} [FloatOps F] (main_arg0 : FVec F S100000x3 .f32) (main_arg1 : FVec F S100000x32 .f32) (main_arg2 : FVec F S64x35 .f32) (main_arg3 : FVec F S64 .f32) (main_arg4 : FVec F S64 .f32) (main_arg5 : FVec F S4x1568x3 .f32) (main_arg6 : IVec S4x1568x16 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x35 .f32 := Host.absf main_arg2
  let main_cst_2 : FVec F S_ .f32 := constant S_ .f32 0x7F800000#32
  let main_v10 : FVec F S64x35 .f32 := broadcastInDim S64x35 ![] bcast_S_S64x35 main_cst_2
  let main_v11 : IVec S64x35 1 := cmpf .olt main_v9 main_v10
  let main_c_3 : IVec S_ 1 := constantI S_ 1 1#1
  let main_v12 : IVec S_ 1 := (fun x v => Host.reduce IntOp.andi x v reducesTo_S64x35_S_d0_1 h_S_) main_v11 main_c_3
  let main_v13 : IVec S_ 1 := andi main_v8 main_v12
  let main_v14 : FVec F S4x1568x3 .f32 := Host.absf main_arg5
  let main_cst_4 : FVec F S_ .f32 := constant S_ .f32 0x7F800000#32
  let main_v15 : FVec F S4x1568x3 .f32 := broadcastInDim S4x1568x3 ![] bcast_S_S4x1568x3 main_cst_4
  let main_v16 : IVec S4x1568x3 1 := cmpf .olt main_v14 main_v15
  fn_part1 (F := F) main_arg6 main_v13 main_v16
-- ==== Pre_in_range.lean ====
abbrev S100000x3 : Shape := ⟨2, ![100000, 3]⟩
abbrev S100000x32 : Shape := ⟨2, ![100000, 32]⟩
abbrev S64x35 : Shape := ⟨2, ![64, 35]⟩
abbrev S64 : Shape := ⟨1, ![64]⟩
abbrev S4x1568x3 : Shape := ⟨3, ![4, 1568, 3]⟩
abbrev S4x1568x16 : Shape := ⟨3, ![4, 1568, 16]⟩
abbrev S_ : Shape := ⟨0, ![]⟩

class Facts : Prop where
  bcast_S_S4x1568x16 : S_.BroadcastsInDim S4x1568x16 (![] : Fin 0 → Fin S4x1568x16.rank)
  reducesTo_S4x1568x16_S_d0_1_2 : S4x1568x16.ReducesTo [0, 1, 2] S_
  h_S_ : 0 < S_.numel

variable [Facts]

def fn {F : FTy → Type} [FloatOps F] (main_arg0 : FVec F S100000x3 .f32) (main_arg1 : FVec F S100000x32 .f32) (main_arg2 : FVec F S64x35 .f32) (main_arg3 : FVec F S64 .f32) (main_arg4 : FVec F S64 .f32) (main_arg5 : FVec F S4x1568x3 .f32) (main_arg6 : IVec S4x1568x16 32) : IVec S_ 1 :=
  let main_c : IVec S_ 32 := constantI S_ 32 0#32
  let main_v0 : IVec S4x1568x16 32 := broadcastInDim S4x1568x16 ![] bcast_S_S4x1568x16 main_c
  let main_v1 : IVec S4x1568x16 1 := cmpi .sge main_arg6 main_v0
  let main_c_0 : IVec S_ 1 := constantI S_ 1 1#1
  let main_v2 : IVec S_ 1 := (fun x v => Host.reduce IntOp.andi x v reducesTo_S4x1568x16_S_d0_1_2 h_S_) main_v1 main_c_0
  let main_c_1 : IVec S_ 32 := constantI S_ 32 25000#32
  let main_v3 : IVec S4x1568x16 32 := broadcastInDim S4x1568x16 ![] bcast_S_S4x1568x16 main_c_1
  let main_v4 : IVec S4x1568x16 1 := cmpi .slt main_arg6 main_v3
  let main_c_2 : IVec S_ 1 := constantI S_ 1 1#1
  let main_v5 : IVec S_ 1 := (fun x v => Host.reduce IntOp.andi x v reducesTo_S4x1568x16_S_d0_1_2 h_S_) main_v4 main_c_2
  let main_v6 : IVec S_ 1 := andi main_v2 main_v5
  main_v6
-- ==== Kernel.lean ====
abbrev S100000x3 : Shape := ⟨2, ![100000, 3]⟩
abbrev S4x25000x3 : Shape := ⟨3, ![4, 25000, 3]⟩
abbrev S_ : Shape := ⟨0, ![]⟩
abbrev S4x25088x3 : Shape := ⟨3, ![4, 25088, 3]⟩
abbrev S4x25088x1 : Shape := ⟨3, ![4, 25088, 1]⟩
abbrev S4x25088 : Shape := ⟨2, ![4, 25088]⟩
abbrev S8x12544 : Shape := ⟨2, ![8, 12544]⟩
abbrev S8x1568x1 : Shape := ⟨3, ![8, 1568, 1]⟩
abbrev S8x1 : Shape := ⟨2, ![8, 1]⟩
abbrev S8 : Shape := ⟨1, ![8]⟩
abbrev S7x1 : Shape := ⟨2, ![7, 1]⟩
abbrev S1x1 : Shape := ⟨2, ![1, 1]⟩
abbrev S8x1x1 : Shape := ⟨3, ![8, 1, 1]⟩
abbrev S4x1568x1 : Shape := ⟨3, ![4, 1568, 1]⟩
abbrev S4x1568x3 : Shape := ⟨3, ![4, 1568, 3]⟩
abbrev S4x1562x3 : Shape := ⟨3, ![4, 1562, 3]⟩
abbrev S6248x3 : Shape := ⟨2, ![6248, 3]⟩
abbrev S4 : Shape := ⟨1, ![4]⟩

abbrev nBuf : Space → Nat
  | .hbm => 30
  | .vmem => 7
  | .smem => 0
  | _ => 0

abbrev bufTy : (tb : Table) → Fin (tcTables nBuf tb) → BufTy
  | .hbm, ⟨0, _⟩ => ⟨S100000x3, .f32⟩
  | .hbm, ⟨1, _⟩ => ⟨S4x25000x3, .f32⟩
  | .hbm, ⟨2, _⟩ => ⟨S_, .i32⟩
  | .hbm, ⟨3, _⟩ => ⟨S_, .f32⟩
  | .hbm, ⟨4, _⟩ => ⟨S4x25088x3, .f32⟩
  | .hbm, ⟨5, _⟩ => ⟨S4x25088x1, .f32⟩
  | .hbm, ⟨6, _⟩ => ⟨S4x25088, .f32⟩
  | .hbm, ⟨7, _⟩ => ⟨S4x25088x1, .f32⟩
  | .hbm, ⟨8, _⟩ => ⟨S4x25088, .f32⟩
  | .hbm, ⟨9, _⟩ => ⟨S4x25088x1, .f32⟩
  | .hbm, ⟨10, _⟩ => ⟨S4x25088, .f32⟩
  | .hbm, ⟨11, _⟩ => ⟨S8x12544, .f32⟩
  | .hbm, ⟨12, _⟩ => ⟨S8x12544, .f32⟩
  | .hbm, ⟨13, _⟩ => ⟨S8x12544, .f32⟩
  | .hbm, ⟨14, _⟩ => ⟨S8x1568x1, .f32⟩
  | .hbm, ⟨15, _⟩ => ⟨S8x1568x1, .f32⟩
  | .hbm, ⟨16, _⟩ => ⟨S8x1568x1, .f32⟩
  | .hbm, ⟨17, _⟩ => ⟨S4x1568x1, .f32⟩
  | .hbm, ⟨18, _⟩ => ⟨S4x1568x1, .f32⟩
  | .hbm, ⟨19, _⟩ => ⟨S4x1568x1, .f32⟩
  | .hbm, ⟨20, _⟩ => ⟨S4x1568x3, .f32⟩
  | .hbm, ⟨21, _⟩ => ⟨S4x1562x3, .f32⟩
  | .hbm, ⟨22, _⟩ => ⟨S6248x3, .f32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .local _ .vmem, ⟨0, _⟩ => ⟨S8x12544, .f32⟩
  | .local _ .vmem, ⟨1, _⟩ => ⟨S8x12544, .f32⟩
  | .local _ .vmem, ⟨2, _⟩ => ⟨S8x12544, .f32⟩
  | .local _ .vmem, ⟨3, _⟩ => ⟨S8x1568x1, .f32⟩
  | .local _ .vmem, ⟨4, _⟩ => ⟨S8x1568x1, .f32⟩
  | .local _ .vmem, ⟨5, _⟩ => ⟨S8x1568x1, .f32⟩
  | .local _ .vmem, ⟨6, _⟩ => ⟨S8x12544, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c1_i32_44 : BitVec 32 := 1#32
  let c1561_i32 : BitVec 32 := 1561#32
  let v102 : BitVec 32 := Scalar.addi c1_i32_44 c1561_i32
  let c1_i32_45 : BitVec 32 := 1#32
  ⟨c1_i32_44, v102, c1_i32_45⟩
def k0_off1 (k0_t1 : Fin k0_t1_loop.trips) : Fin 3 → Nat :=
  let c0_59 : Index := 0#32
  let c1_i32_44 : BitVec 32 := 1#32
  let c1_i32_45 : BitVec 32 := 1#32
  let arg7 : BitVec 32 := Scf.iv c1_i32_44 c1_i32_45 k0_t1
  let v183 : Index := Scalar.indexCast arg7
  let c0_60 : Index := 0#32
  ![0, v183.toNat, 0]
abbrev stage0_0 : Fin 1 → Memref sig .tc .vmem S8x12544 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x12544 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x12544 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1568x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1568x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1568x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S100000x3 : Shape := ⟨2, ![100000, 3]⟩
abbrev S4 : Shape := ⟨1, ![4]⟩
abbrev S4x25000x3 : Shape := ⟨3, ![4, 25000, 3]⟩
abbrev S_ : Shape := ⟨0, ![]⟩
abbrev S4x25000 : Shape := ⟨2, ![4, 25000]⟩
abbrev S4x1562 : Shape := ⟨2, ![4, 1562]⟩
abbrev S4x1 : Shape := ⟨2, ![4, 1]⟩
abbrev S4x1x1 : Shape := ⟨3, ![4, 1, 1]⟩
abbrev S4x1x2 : Shape := ⟨3, ![4, 1, 2]⟩
abbrev S4x1x3 : Shape := ⟨3, ![4, 1, 3]⟩
abbrev S4x1562x1 : Shape := ⟨3, ![4, 1562, 1]⟩
abbrev S4x1562x2 : Shape := ⟨3, ![4, 1562, 2]⟩
abbrev S4x1562x3 : Shape := ⟨3, ![4, 1562, 3]⟩
abbrev S6248x3 : Shape := ⟨2, ![6248, 3]⟩

abbrev nBuf : Space → Nat
  | .hbm => 59
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S4, .i32⟩
  | .hbm, ⟨2, _⟩ => ⟨S4x25000x3, .f32⟩
  | .hbm, ⟨3, _⟩ => ⟨S_, .f32⟩
  | .hbm, ⟨4, _⟩ => ⟨S4x25000, .f32⟩
  | .hbm, ⟨5, _⟩ => ⟨S_, .i32⟩
  | .hbm, ⟨6, _⟩ => ⟨S4x1562, .i32⟩
  | .hbm, ⟨7, _⟩ => ⟨S_, .i32⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S4x25000x3, .f32⟩
  | .hbm, ⟨12, _⟩ => ⟨S_, .i32⟩
  | .hbm, ⟨13, _⟩ => ⟨S_, .i32⟩
  | .hbm, ⟨14, _⟩ => ⟨S4x25000, .f32⟩
  | .hbm, ⟨15, _⟩ => ⟨S4x1562, .i32⟩
  | .hbm, ⟨16, _⟩ => ⟨S4, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S4, .i32⟩
  | .hbm, ⟨22, _⟩ => ⟨S4x1, .i32⟩
  | .hbm, ⟨23, _⟩ => ⟨S4x1, .i32⟩
  | .hbm, ⟨24, _⟩ => ⟨S4x1x1, .i32⟩
  | .hbm, ⟨25, _⟩ => ⟨S4x1x1, .i32⟩
  | .hbm, ⟨26, _⟩ => ⟨S4x1x2, .i32⟩
  | .hbm, ⟨27, _⟩ => ⟨S4x1x3, .f32⟩
  | .hbm, ⟨28, _⟩ => ⟨S4x25000x3, .f32⟩
  | .hbm, ⟨29, _⟩ => ⟨S4x25000x3, .f32⟩
  | .hbm, ⟨30, _⟩ => ⟨S4x25000x3, .f32⟩
  | .hbm, ⟨31, _⟩ => ⟨S_, .f32⟩
  | .hbm, ⟨32, _⟩ => ⟨S4x25000, .f32⟩
  | .hbm, ⟨33, _⟩ => ⟨S4x25000, .f32⟩
  | .hbm, ⟨34, _⟩ => ⟨S4x25000, .i32⟩
  | .hbm, ⟨35, _⟩ => ⟨S_, .f32⟩
  | .hbm, ⟨36, _⟩ => ⟨S_, .i32⟩
  | .hbm, ⟨37, _⟩ => ⟨S4, .f32⟩
  | .hbm, ⟨38, _⟩ => ⟨S4, .i32⟩
  | .hbm, ⟨39, _⟩ => ⟨S4x1, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4x1562, .i32⟩
  | .hbm, ⟨48, _⟩ => ⟨S_, .i32⟩
  | .hbm, ⟨49, _⟩ => ⟨S_, .i32⟩
  | .hbm, ⟨50, _⟩ => ⟨S4x25000x3, .f32⟩
  | .hbm, ⟨51, _⟩ => ⟨S4, .i32⟩
  | .hbm, ⟨52, _⟩ => ⟨S4x1, .i32⟩
  | .hbm, ⟨53, _⟩ => ⟨S4x1562, .i32⟩
  | .hbm, ⟨54, _⟩ => ⟨S4x1562x1, .i32⟩
  | .hbm, ⟨55, _⟩ => ⟨S4x1562x1, .i32⟩
  | .hbm, ⟨56, _⟩ => ⟨S4x1562x2, .i32⟩
  | .hbm, ⟨57, _⟩ => ⟨S4x1562x3, .f32⟩
  | .hbm, ⟨58, _⟩ => ⟨S6248x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_c_2 : Ref sig .tc := ⟨.hbm, 9, rfl⟩
abbrev main_c_3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_9 : Ref sig .tc := ⟨.hbm, 17, rfl⟩
abbrev main_while0c_v14 : Ref sig .tc := ⟨.hbm, 18, rfl⟩
abbrev main_while0b_c_9 : Ref sig .tc := ⟨.hbm, 19, rfl⟩
abbrev main_while0b_v14 : Ref sig .tc := ⟨.hbm, 20, rfl⟩
abbrev main_while0b_v15 : Ref sig .tc := ⟨.hbm, 21, rfl⟩
abbrev main_while0b_v16 : Ref sig .tc := ⟨.hbm, 22, rfl⟩
abbrev main_while0b_v17 : Ref sig .tc := ⟨.hbm, 23, rfl⟩
abbrev main_while0b_v18 : Ref sig .tc := ⟨.hbm, 24, rfl⟩
abbrev main_while0b_v19 : Ref sig .tc := ⟨.hbm, 25, rfl⟩
abbrev main_while0b_v20 : Ref sig .tc := ⟨.hbm, 26, rfl⟩
abbrev main_while0b_v21 : Ref sig .tc := ⟨.hbm, 27, rfl⟩
abbrev main_while0b_v22 : Ref sig .tc := ⟨.hbm, 28, rfl⟩
abbrev main_while0b_v23 : Ref sig .tc := ⟨.hbm, 29, rfl⟩
abbrev main_while0b_v24 : Ref sig .tc := ⟨.hbm, 30, rfl⟩
abbrev main_while0b_cst_10 : Ref sig .tc := ⟨.hbm, 31, rfl⟩
abbrev main_while0b_v25 : Ref sig .tc := ⟨.hbm, 32, rfl⟩
abbrev main_while0b_v26 : Ref sig .tc := ⟨.hbm, 33, rfl⟩
abbrev main_while0b_call0_v0 : Ref sig .tc := ⟨.hbm, 34, rfl⟩
abbrev main_while0b_call0_cst : Ref sig .tc := ⟨.hbm, 35, rfl⟩
abbrev main_while0b_call0_c : Ref sig .tc := ⟨.hbm, 36, rfl⟩
abbrev main_while0b_call0_v1_0 : Ref sig .tc := ⟨.hbm, 37, rfl⟩
abbrev main_while0b_v27 : Ref sig .tc := ⟨.hbm, 38, rfl⟩
abbrev main_while0b_v28 : Ref sig .tc := ⟨.hbm, 39, rfl⟩
abbrev main_while0b_c_11 : Ref sig .tc := ⟨.hbm, 40, rfl⟩
abbrev main_while0b_v29 : Ref sig .tc := ⟨.hbm, 41, rfl⟩
abbrev main_while0b_v30 : Ref sig .tc := ⟨.hbm, 42, rfl⟩
abbrev main_while0b_c_12 : Ref sig .tc := ⟨.hbm, 43, rfl⟩
abbrev main_while0b_v31 : Ref sig .tc := ⟨.hbm, 44, rfl⟩
abbrev main_while0b_v32 : Ref sig .tc := ⟨.hbm, 45, rfl⟩
abbrev main_while0b_c_13 : Ref sig .tc := ⟨.hbm, 46, rfl⟩
abbrev main_while0b_v33 : Ref sig .tc := ⟨.hbm, 47, rfl⟩
abbrev main_while0b_c_14 : Ref sig .tc := ⟨.hbm, 48, rfl⟩
abbrev main_while0b_v34 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩

abbrev nD : Nat := 1
abbrev τ : Topo := Topo.v7x

variable {F : FTy → Type} [FloatOps F]

abbrev main_while0_count : Scf.Loop 32 := ⟨0#32, 1561#32, 1#32⟩
-- ==== Kernel2.lean ====
abbrev S100000x3 : Shape := ⟨2, ![100000, 3]⟩
abbrev S4x1568x3 : Shape := ⟨3, ![4, 1568, 3]⟩
abbrev S4x25000x3 : Shape := ⟨3, ![4, 25000, 3]⟩
abbrev S_ : Shape := ⟨0, ![]⟩
abbrev S4x25088x3 : Shape := ⟨3, ![4, 25088, 3]⟩
abbrev S4x25088x1 : Shape := ⟨3, ![4, 25088, 1]⟩
abbrev S4x25088 : Shape := ⟨2, ![4, 25088]⟩
abbrev S4x49x32x3 : Shape := ⟨4, ![4, 49, 32, 3]⟩
abbrev S4x1x25088 : Shape := ⟨3, ![4, 1, 25088]⟩
abbrev S4x49x32x16 : Shape := ⟨4, ![4, 49, 32, 16]⟩
abbrev S1x1x25088 : Shape := ⟨3, ![1, 1, 25088]⟩
abbrev S1x1x32x3 : Shape := ⟨4, ![1, 1, 32, 3]⟩
abbrev S1x1x32x16 : Shape := ⟨4, ![1, 1, 32, 16]⟩
abbrev S32x25088 : Shape := ⟨2, ![32, 25088]⟩
abbrev S1x1x32x1 : Shape := ⟨4, ![1, 1, 32, 1]⟩
abbrev S32x1 : Shape := ⟨2, ![32, 1]⟩
abbrev S1x25088 : Shape := ⟨2, ![1, 25088]⟩
abbrev S32x16 : Shape := ⟨2, ![32, 16]⟩
abbrev S32 : Shape := ⟨1, ![32]⟩

abbrev nBuf : Space → Nat
  | .hbm => 17
  | .vmem => 11
  | .smem => 0
  | _ => 0

abbrev bufTy : (tb : Table) → Fin (tcTables nBuf tb) → BufTy
  | .hbm, ⟨0, _⟩ => ⟨S100000x3, .f32⟩
  | .hbm, ⟨1, _⟩ => ⟨S4x1568x3, .f32⟩
  | .hbm, ⟨2, _⟩ => ⟨S4x25000x3, .f32⟩
  | .hbm, ⟨3, _⟩ => ⟨S_, .i32⟩
  | .hbm, ⟨4, _⟩ => ⟨S_, .f32⟩
  | .hbm, ⟨5, _⟩ => ⟨S4x25088x3, .f32⟩
  | .hbm, ⟨6, _⟩ => ⟨S4x25088x1, .f32⟩
  | .hbm, ⟨7, _⟩ => ⟨S4x25088, .f32⟩
  | .hbm, ⟨8, _⟩ => ⟨S4x25088x1, .f32⟩
  | .hbm, ⟨9, _⟩ => ⟨S4x25088, .f32⟩
  | .hbm, ⟨10, _⟩ => ⟨S4x25088x1, .f32⟩
  | .hbm, ⟨11, _⟩ => ⟨S4x25088, .f32⟩
  | .hbm, ⟨12, _⟩ => ⟨S4x49x32x3, .f32⟩
  | .hbm, ⟨13, _⟩ => ⟨S4x1x25088, .f32⟩
  | .hbm, ⟨14, _⟩ => ⟨S4x1x25088, .f32⟩
  | .hbm, ⟨15, _⟩ => ⟨S4x1x25088, .f32⟩
  | .hbm, ⟨16, _⟩ => ⟨S4x49x32x16, .i32⟩
  | .local _ .vmem, ⟨0, _⟩ => ⟨S1x1x25088, .f32⟩
  | .local _ .vmem, ⟨1, _⟩ => ⟨S1x1x25088, .f32⟩
  | .local _ .vmem, ⟨2, _⟩ => ⟨S1x1x25088, .f32⟩
  | .local _ .vmem, ⟨3, _⟩ => ⟨S1x1x25088, .f32⟩
  | .local _ .vmem, ⟨4, _⟩ => ⟨S1x1x25088, .f32⟩
  | .local _ .vmem, ⟨5, _⟩ => ⟨S1x1x25088, .f32⟩
  | .local _ .vmem, ⟨6, _⟩ => ⟨S1x1x32x3, .f32⟩
  | .local _ .vmem, ⟨7, _⟩ => ⟨S1x1x32x3, .f32⟩
  | .local _ .vmem, ⟨8, _⟩ => ⟨S1x1x32x16, .i32⟩
  | .local _ .vmem, ⟨9, _⟩ => ⟨S1x1x32x16, .i32⟩
  | .local _ .vmem, ⟨10, _⟩ => ⟨S32x25088, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 49], ![false, false]⟩

@[reducible] def k0_t1_loop : Scf.Loop 32 :=
  let c0_i32_20 : BitVec 32 := 0#32
  let c16_i32 : BitVec 32 := 16#32
  let v36 : BitVec 32 := Scalar.addi c0_i32_20 c16_i32
  let c1_i32 : BitVec 32 := 1#32
  ⟨c0_i32_20, v36, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S100000x3 : Shape := ⟨2, ![100000, 3]⟩
abbrev S4x1568x3 : Shape := ⟨3, ![4, 1568, 3]⟩
abbrev S4x25000x3 : Shape := ⟨3, ![4, 25000, 3]⟩
abbrev S4x1568x1x3 : Shape := ⟨4, ![4, 1568, 1, 3]⟩
abbrev S4x1x25000x3 : Shape := ⟨4, ![4, 1, 25000, 3]⟩
abbrev S4x1568x25000x3 : Shape := ⟨4, ![4, 1568, 25000, 3]⟩
abbrev S_ : Shape := ⟨0, ![]⟩
abbrev S4x1568x25000 : Shape := ⟨3, ![4, 1568, 25000]⟩
abbrev S4x1568x16 : Shape := ⟨3, ![4, 1568, 16]⟩
abbrev S4x49x32x16 : Shape := ⟨4, ![4, 49, 32, 16]⟩

abbrev nBuf : Space → Nat
  | .hbm => 15
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S4x1568x3, .f32⟩
  | .hbm, ⟨2, _⟩ => ⟨S4x25000x3, .f32⟩
  | .hbm, ⟨3, _⟩ => ⟨S4x1568x1x3, .f32⟩
  | .hbm, ⟨4, _⟩ => ⟨S4x1x25000x3, .f32⟩
  | .hbm, ⟨5, _⟩ => ⟨S4x1568x25000x3, .f32⟩
  | .hbm, ⟨6, _⟩ => ⟨S4x1568x25000x3, .f32⟩
  | .hbm, ⟨7, _⟩ => ⟨S4x1568x25000x3, .f32⟩
  | .hbm, ⟨8, _⟩ => ⟨S4x1568x25000x3, .f32⟩
  | .hbm, ⟨9, _⟩ => ⟨S_, .f32⟩
  | .hbm, ⟨10, _⟩ => ⟨S4x1568x25000, .f32⟩
  | .hbm, ⟨11, _⟩ => ⟨S4x1568x25000, .f32⟩
  | .hbm, ⟨12, _⟩ => ⟨S4x1568x16, .f32⟩
  | .hbm, ⟨13, _⟩ => ⟨S4x1568x16, .i32⟩
  | .hbm, ⟨14, _⟩ => ⟨S4x49x32x16, .i32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_values : Ref sig .tc := ⟨.hbm, 12, rfl⟩
abbrev main_indices : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S100000x3 : Shape := ⟨2, ![100000, 3]⟩
abbrev S100000x32 : Shape := ⟨2, ![100000, 32]⟩
abbrev S64x35 : Shape := ⟨2, ![64, 35]⟩
abbrev S64 : Shape := ⟨1, ![64]⟩
abbrev S4x1568x3 : Shape := ⟨3, ![4, 1568, 3]⟩
abbrev S4x1568x16 : Shape := ⟨3, ![4, 1568, 16]⟩
abbrev S4x25000x3 : Shape := ⟨3, ![4, 25000, 3]⟩
abbrev S4x25000x32 : Shape := ⟨3, ![4, 25000, 32]⟩
abbrev S_ : Shape := ⟨0, ![]⟩
abbrev S4x25088x3 : Shape := ⟨3, ![4, 25088, 3]⟩
abbrev S4x25088x32 : Shape := ⟨3, ![4, 25088, 32]⟩
abbrev S4x1568x1 : Shape := ⟨3, ![4, 1568, 1]⟩
abbrev S4x25088x35 : Shape := ⟨3, ![4, 25088, 35]⟩
abbrev S35x64 : Shape := ⟨2, ![35, 64]⟩
abbrev S4x25088x64 : Shape := ⟨3, ![4, 25088, 64]⟩
abbrev S1x3136x35 : Shape := ⟨3, ![1, 3136, 35]⟩
abbrev S1x3136x64 : Shape := ⟨3, ![1, 3136, 64]⟩
abbrev S3136x35 : Shape := ⟨2, ![3136, 35]⟩
abbrev S3136x64 : Shape := ⟨2, ![3136, 64]⟩
abbrev S4x196x8x16 : Shape := ⟨4, ![4, 196, 8, 16]⟩
abbrev S4x196x8x64 : Shape := ⟨4, ![4, 196, 8, 64]⟩
abbrev S1x1x8x16 : Shape := ⟨4, ![1, 1, 8, 16]⟩
abbrev S1x25088x64 : Shape := ⟨3, ![1, 25088, 64]⟩
abbrev S1x1x8x64 : Shape := ⟨4, ![1, 1, 8, 64]⟩
abbrev S1x1x1x1 : Shape := ⟨4, ![1, 1, 1, 1]⟩
abbrev S1x1x64 : Shape := ⟨3, ![1, 1, 64]⟩
abbrev S1x64 : Shape := ⟨2, ![1, 64]⟩
abbrev S8x64 : Shape := ⟨2, ![8, 64]⟩
abbrev S6272x64 : Shape := ⟨2, ![6272, 64]⟩
abbrev S6272x1 : Shape := ⟨2, ![6272, 1]⟩
abbrev S64x1 : Shape := ⟨2, ![64, 1]⟩
abbrev S4x1568x64 : Shape := ⟨3, ![4, 1568, 64]⟩
abbrev S4x1562x64 : Shape := ⟨3, ![4, 1562, 64]⟩
abbrev S6248x64 : Shape := ⟨2, ![6248, 64]⟩

abbrev nBuf : Space → Nat
  | .hbm => 48
  | .vmem => 28
  | .smem => 2
  | _ => 0

abbrev bufTy : (tb : Table) → Fin (tcTables nBuf tb) → BufTy
  | .hbm, ⟨0, _⟩ => ⟨S100000x3, .f32⟩
  | .hbm, ⟨1, _⟩ => ⟨S100000x32, .f32⟩
  | .hbm, ⟨2, _⟩ => ⟨S64x35, .f32⟩
  | .hbm, ⟨3, _⟩ => ⟨S64, .f32⟩
  | .hbm, ⟨4, _⟩ => ⟨S64, .f32⟩
  | .hbm, ⟨5, _⟩ => ⟨S4x1568x3, .f32⟩
  | .hbm, ⟨6, _⟩ => ⟨S4x1568x16, .i32⟩
  | .hbm, ⟨7, _⟩ => ⟨S4x25000x3, .f32⟩
  | .hbm, ⟨8, _⟩ => ⟨S4x25000x32, .f32⟩
  | .hbm, ⟨9, _⟩ => ⟨S_, .i32⟩
  | .hbm, ⟨10, _⟩ => ⟨S_, .f32⟩
  | .hbm, ⟨11, _⟩ => ⟨S4x25088x3, .f32⟩
  | .hbm, ⟨12, _⟩ => ⟨S_, .i32⟩
  | .hbm, ⟨13, _⟩ => ⟨S_, .f32⟩
  | .hbm, ⟨14, _⟩ => ⟨S4x25088x32, .f32⟩
  | .hbm, ⟨15, _⟩ => ⟨S4x1568x1, .f32⟩
  | .hbm, ⟨16, _⟩ => ⟨S4x1568x1, .f32⟩
  | .hbm, ⟨17, _⟩ => ⟨S4x1568x1, .f32⟩
  | .hbm, ⟨18, _⟩ => ⟨S4x25088x35, .f32⟩
  | .hbm, ⟨19, _⟩ => ⟨S35x64, .f32⟩
  | .hbm, ⟨20, _⟩ => ⟨S4x25088x64, .f32⟩
  | .hbm, ⟨21, _⟩ => ⟨S4x196x8x16, .i32⟩
  | .hbm, ⟨22, _⟩ => ⟨S4x196x8x64, .f32⟩
  | .hbm, ⟨23, _⟩ => ⟨S4x196x8x64, .f32⟩
  | .hbm, ⟨24, _⟩ => ⟨S4x196x8x64, .f32⟩
  | .hbm, ⟨25, _⟩ => ⟨S4x196x8x64, .f32⟩
  | .hbm, ⟨26, _⟩ => ⟨S6272x64, .f32⟩
  | .hbm, ⟨27, _⟩ => ⟨S6272x64, .f32⟩
  | .hbm, ⟨28, _⟩ => ⟨S6272x64, .f32⟩
  | .hbm, ⟨29, _⟩ => ⟨S6272x64, .f32⟩
  | .hbm, ⟨30, _⟩ => ⟨S6272x1, .f32⟩
  | .hbm, ⟨31, _⟩ => ⟨S6272x1, .f32⟩
  | .hbm, ⟨32, _⟩ => ⟨S6272x1, .f32⟩
  | .hbm, ⟨33, _⟩ => ⟨S64x1, .f32⟩
  | .hbm, ⟨34, _⟩ => ⟨S64, .f32⟩
  | .hbm, ⟨35, _⟩ => ⟨S1x64, .f32⟩
  | .hbm, ⟨36, _⟩ => ⟨S64x1, .f32⟩
  | .hbm, ⟨37, _⟩ => ⟨S64, .f32⟩
  | .hbm, ⟨38, _⟩ => ⟨S1x64, .f32⟩
  | .hbm, ⟨39, _⟩ => ⟨S64x1, .f32⟩
  | .hbm, ⟨40, _⟩ => ⟨S64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S6272x64, .f32⟩
  | .hbm, ⟨45, _⟩ => ⟨S4x1568x64, .f32⟩
  | .hbm, ⟨46, _⟩ => ⟨S4x1562x64, .f32⟩
  | .hbm, ⟨47, _⟩ => ⟨S6248x64, .f32⟩
  | .local _ .vmem, ⟨0, _⟩ => ⟨S1x3136x35, .f32⟩
  | .local _ .vmem, ⟨1, _⟩ => ⟨S1x3136x35, .f32⟩
  | .local _ .vmem, ⟨2, _⟩ => ⟨S35x64, .f32⟩
  | .local _ .vmem, ⟨3, _⟩ => ⟨S1x3136x64, .f32⟩
  | .local _ .vmem, ⟨4, _⟩ => ⟨S1x3136x64, .f32⟩
  | .local _ .vmem, ⟨5, _⟩ => ⟨S1x25088x64, .f32⟩
  | .local _ .vmem, ⟨6, _⟩ => ⟨S1x25088x64, .f32⟩
  | .local _ .vmem, ⟨7, _⟩ => ⟨S1x1x8x64, .f32⟩
  | .local _ .vmem, ⟨8, _⟩ => ⟨S1x1x8x64, .f32⟩
  | .local _ .vmem, ⟨9, _⟩ => ⟨S1x1x8x64, .f32⟩
  | .local _ .vmem, ⟨10, _⟩ => ⟨S1x1x8x64, .f32⟩
  | .local _ .vmem, ⟨11, _⟩ => ⟨S1x1x8x64, .f32⟩
  | .local _ .vmem, ⟨12, _⟩ => ⟨S1x1x8x64, .f32⟩
  | .local _ .vmem, ⟨13, _⟩ => ⟨S1x1x8x64, .f32⟩
  | .local _ .vmem, ⟨14, _⟩ => ⟨S1x1x8x64, .f32⟩
  | .local _ .vmem, ⟨15, _⟩ => ⟨S6272x64, .f32⟩
  | .local _ .vmem, ⟨16, _⟩ => ⟨S6272x64, .f32⟩
  | .local _ .vmem, ⟨17, _⟩ => ⟨S6272x64, .f32⟩
  | .local _ .vmem, ⟨18, _⟩ => ⟨S6272x64, .f32⟩
  | .local _ .vmem, ⟨19, _⟩ => ⟨S6272x1, .f32⟩
  | .local _ .vmem, ⟨20, _⟩ => ⟨S6272x1, .f32⟩
  | .local _ .vmem, ⟨21, _⟩ => ⟨S6272x1, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S6272x64, .f32⟩
  | .local _ .smem, ⟨0, _⟩ => ⟨S1x1x8x16, .i32⟩
  | .local _ .smem, ⟨1, _⟩ => ⟨S1x1x8x16, .i32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3136x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S35x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3136x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 196], ![false, false]⟩

def k1_off1 (v0 : BitVec 32) : Fin 3 → Nat :=
  let c0_3 : Index := 0#32
  let v1 : Index := Scalar.indexCast v0
  let c0_4 : Index := 0#32
  ![0, v1.toNat, 0]

def k1_chk1 (v0 : BitVec 32) : Prop :=
  (∀ a, (k1_off1 v0) a + S1x1x64.size a ≤ S1x25088x64.size a)
theorem k1_off1_inb : ∀ (v0 : BitVec 32) (k1_hw1 : k1_chk1 v0), ∀ a, (k1_off1 v0) a + S1x1x64.size a ≤ S1x25088x64.size a := fun v0 k1_hw1 => k1_hw1

def k1_off2 (v5 : BitVec 32) : Fin 3 → Nat :=
  let c0_8 : Index := 0#32
  let v6 : Index := Scalar.indexCast v5
  let c0_9 : Index := 0#32
  ![0, v6.toNat, 0]

def k1_chk2 (v5 : BitVec 32) : Prop :=
  (∀ a, (k1_off2 v5) a + S1x1x64.size a ≤ S1x25088x64.size a)
theorem k1_off2_inb : ∀ (v5 : BitVec 32) (k1_hw2 : k1_chk2 v5), ∀ a, (k1_off2 v5) a + S1x1x64.size a ≤ S1x25088x64.size a := fun v5 k1_hw2 => k1_hw2

def k1_off3 (v14 : BitVec 32) : Fin 3 → Nat :=
  let c0_13 : Index := 0#32
  let v15 : Index := Scalar.indexCast v14
  let c0_14 : Index := 0#32
  ![0, v15.toNat, 0]

def k1_chk3 (v14 : BitVec 32) : Prop :=
  (∀ a, (k1_off3 v14) a + S1x1x64.size a ≤ S1x25088x64.size a)
theorem k1_off3_inb : ∀ (v14 : BitVec 32) (k1_hw3 : k1_chk3 v14), ∀ a, (k1_off3 v14) a + S1x1x64.size a ≤ S1x25088x64.size a := fun v14 k1_hw3 => k1_hw3

def k1_off4 (v23 : BitVec 32) : Fin 3 → Nat :=
  let c0_18 : Index := 0#32
  let v24 : Index := Scalar.indexCast v23
  let c0_19 : Index := 0#32
  ![0, v24.toNat, 0]

def k1_chk4 (v23 : BitVec 32) : Prop :=
  (∀ a, (k1_off4 v23) a + S1x1x64.size a ≤ S1x25088x64.size a)
theorem k1_off4_inb : ∀ (v23 : BitVec 32) (k1_hw4 : k1_chk4 v23), ∀ a, (k1_off4 v23) a + S1x1x64.size a ≤ S1x25088x64.size a := fun v23 k1_hw4 => k1_hw4

def k1_off5 (v32 : BitVec 32) : Fin 3 → Nat :=
  let c0_23 : Index := 0#32
  let v33 : Index := Scalar.indexCast v32
  let c0_24 : Index := 0#32
  ![0, v33.toNat, 0]

def k1_chk5 (v32 : BitVec 32) : Prop :=
  (∀ a, (k1_off5 v32) a + S1x1x64.size a ≤ S1x25088x64.size a)
theorem k1_off5_inb : ∀ (v32 : BitVec 32) (k1_hw5 : k1_chk5 v32), ∀ a, (k1_off5 v32) a + S1x1x64.size a ≤ S1x25088x64.size a := fun v32 k1_hw5 => k1_hw5

def k1_off6 (v41 : BitVec 32) : Fin 3 → Nat :=
  let c0_28 : Index := 0#32
  let v42 : Index := Scalar.indexCast v41
  let c0_29 : Index := 0#32
  ![0, v42.toNat, 0]

def k1_chk6 (v41 : BitVec 32) : Prop :=
  (∀ a, (k1_off6 v41) a + S1x1x64.size a ≤ S1x25088x64.size a)
theorem k1_off6_inb : ∀ (v41 : BitVec 32) (k1_hw6 : k1_chk6 v41), ∀ a, (k1_off6 v41) a + S1x1x64.size a ≤ S1x25088x64.size a := fun v41 k1_hw6 => k1_hw6

def k1_off7 (v50 : BitVec 32) : Fin 3 → Nat :=
  let c0_33 : Index := 0#32
  let v51 : Index := Scalar.indexCast v50
  let c0_34 : Index := 0#32
  ![0, v51.toNat, 0]

def k1_chk7 (v50 : BitVec 32) : Prop :=
  (∀ a, (k1_off7 v50) a + S1x1x64.size a ≤ S1x25088x64.size a)
theorem k1_off7_inb : ∀ (v50 : BitVec 32) (k1_hw7 : k1_chk7 v50), ∀ a, (k1_off7 v50) a + S1x1x64.size a ≤ S1x25088x64.size a := fun v50 k1_hw7 => k1_hw7

def k1_off8 (v59 : BitVec 32) : Fin 3 → Nat :=
  let c0_38 : Index := 0#32
  let v60 : Index := Scalar.indexCast v59
  let c0_39 : Index := 0#32
  ![0, v60.toNat, 0]

def k1_chk8 (v59 : BitVec 32) : Prop :=
  (∀ a, (k1_off8 v59) a + S1x1x64.size a ≤ S1x25088x64.size a)
theorem k1_off8_inb : ∀ (v59 : BitVec 32) (k1_hw8 : k1_chk8 v59), ∀ a, (k1_off8 v59) a + S1x1x64.size a ≤ S1x25088x64.size a := fun v59 k1_hw8 => k1_hw8

def k1_off9 (v68 : BitVec 32) : Fin 3 → Nat :=
  let c0_43 : Index := 0#32
  let v69 : Index := Scalar.indexCast v68
  let c0_44 : Index := 0#32
  ![0, v69.toNat, 0]

def k1_chk9 (v68 : BitVec 32) : Prop :=
  (∀ a, (k1_off9 v68) a + S1x1x64.size a ≤ S1x25088x64.size a)
theorem k1_off9_inb : ∀ (v68 : BitVec 32) (k1_hw9 : k1_chk9 v68), ∀ a, (k1_off9 v68) a + S1x1x64.size a ≤ S1x25088x64.size a := fun v68 k1_hw9 => k1_hw9

def k1_off10 (v77 : BitVec 32) : Fin 3 → Nat :=
  let c0_48 : Index := 0#32
  let v78 : Index := Scalar.indexCast v77
  let c0_49 : Index := 0#32
  ![0, v78.toNat, 0]

def k1_chk10 (v77 : BitVec 32) : Prop :=
  (∀ a, (k1_off10 v77) a + S1x1x64.size a ≤ S1x25088x64.size a)
theorem k1_off10_inb : ∀ (v77 : BitVec 32) (k1_hw10 : k1_chk10 v77), ∀ a, (k1_off10 v77) a + S1x1x64.size a ≤ S1x25088x64.size a := fun v77 k1_hw10 => k1_hw10

def k1_off11 (v86 : BitVec 32) : Fin 3 → Nat :=
  let c0_53 : Index := 0#32
  let v87 : Index := Scalar.indexCast v86
  let c0_54 : Index := 0#32
  ![0, v87.toNat, 0]

def k1_chk11 (v86 : BitVec 32) : Prop :=
  (∀ a, (k1_off11 v86) a + S1x1x64.size a ≤ S1x25088x64.size a)
theorem k1_off11_inb : ∀ (v86 : BitVec 32) (k1_hw11 : k1_chk11 v86), ∀ a, (k1_off11 v86) a + S1x1x64.size a ≤ S1x25088x64.size a := fun v86 k1_hw11 => k1_hw11

def k1_off12 (v95 : BitVec 32) : Fin 3 → Nat :=
  let c0_58 : Index := 0#32
  let v96 : Index := Scalar.indexCast v95
  let c0_59 : Index := 0#32
  ![0, v96.toNat, 0]

def k1_chk12 (v95 : BitVec 32) : Prop :=
  (∀ a, (k1_off12 v95) a + S1x1x64.size a ≤ S1x25088x64.size a)
theorem k1_off12_inb : ∀ (v95 : BitVec 32) (k1_hw12 : k1_chk12 v95), ∀ a, (k1_off12 v95) a + S1x1x64.size a ≤ S1x25088x64.size a := fun v95 k1_hw12 => k1_hw12

def k1_off13 (v104 : BitVec 32) : Fin 3 → Nat :=
  let c0_63 : Index := 0#32
  let v105 : Index := Scalar.indexCast v104
  let c0_64 : Index := 0#32
  ![0, v105.toNat, 0]

def k1_chk13 (v104 : BitVec 32) : Prop :=
  (∀ a, (k1_off13 v104) a + S1x1x64.size a ≤ S1x25088x64.size a)
theorem k1_off13_inb : ∀ (v104 : BitVec 32) (k1_hw13 : k1_chk13 v104), ∀ a, (k1_off13 v104) a + S1x1x64.size a ≤ S1x25088x64.size a := fun v104 k1_hw13 => k1_hw13

def k1_off14 (v113 : BitVec 32) : Fin 3 → Nat :=
  let c0_68 : Index := 0#32
  let v114 : Index := Scalar.indexCast v113
  let c0_69 : Index := 0#32
  ![0, v114.toNat, 0]

def k1_chk14 (v113 : BitVec 32) : Prop :=
  (∀ a, (k1_off14 v113) a + S1x1x64.size a ≤ S1x25088x64.size a)
theorem k1_off14_inb : ∀ (v113 : BitVec 32) (k1_hw14 : k1_chk14 v113), ∀ a, (k1_off14 v113) a + S1x1x64.size a ≤ S1x25088x64.size a := fun v113 k1_hw14 => k1_hw14

def k1_off15 (v122 : BitVec 32) : Fin 3 → Nat :=
  let c0_73 : Index := 0#32
  let v123 : Index := Scalar.indexCast v122
  let c0_74 : Index := 0#32
  ![0, v123.toNat, 0]

def k1_chk15 (v122 : BitVec 32) : Prop :=
  (∀ a, (k1_off15 v122) a + S1x1x64.size a ≤ S1x25088x64.size a)
theorem k1_off15_inb : ∀ (v122 : BitVec 32) (k1_hw15 : k1_chk15 v122), ∀ a, (k1_off15 v122) a + S1x1x64.size a ≤ S1x25088x64.size a := fun v122 k1_hw15 => k1_hw15

def k1_off16 (v131 : BitVec 32) : Fin 3 → Nat :=
  let c0_78 : Index := 0#32
  let v132 : Index := Scalar.indexCast v131
  let c0_79 : Index := 0#32
  ![0, v132.toNat, 0]

def k1_chk16 (v131 : BitVec 32) : Prop :=
  (∀ a, (k1_off16 v131) a + S1x1x64.size a ≤ S1x25088x64.size a)
theorem k1_off16_inb : ∀ (v131 : BitVec 32) (k1_hw16 : k1_chk16 v131), ∀ a, (k1_off16 v131) a + S1x1x64.size a ≤ S1x25088x64.size a := fun v131 k1_hw16 => k1_hw16

def k1_off17 (v140 : BitVec 32) : Fin 3 → Nat :=
  let c0_84 : Index := 0#32
  let v141 : Index := Scalar.indexCast v140
  let c0_85 : Index := 0#32
  ![0, v141.toNat, 0]

def k1_chk17 (v140 : BitVec 32) : Prop :=
  (∀ a, (k1_off17 v140) a + S1x1x64.size a ≤ S1x25088x64.size a)
theorem k1_off17_inb : ∀ (v140 : BitVec 32) (k1_hw17 : k1_chk17 v140), ∀ a, (k1_off17 v140) a + S1x1x64.size a ≤ S1x25088x64.size a := fun v140 k1_hw17 => k1_hw17

def k1_off18 (v145 : BitVec 32) : Fin 3 → Nat :=
  let c0_90 : Index := 0#32
  let v146 : Index := Scalar.indexCast v145
  let c0_91 : Index := 0#32
  ![0, v146.toNat, 0]

def k1_chk18 (v145 : BitVec 32) : Prop :=
  (∀ a, (k1_off18 v145) a + S1x1x64.size a ≤ S1x25088x64.size a)
theorem k1_off18_inb : ∀ (v145 : BitVec 32) (k1_hw18 : k1_chk18 v145), ∀ a, (k1_off18 v145) a + S1x1x64.size a ≤ S1x25088x64.size a := fun v145 k1_hw18 => k1_hw18

def k1_off19 (v154 : BitVec 32) : Fin 3 → Nat :=
  let c0_96 : Index := 0#32
  let v155 : Index := Scalar.indexCast v154
  let c0_97 : Index := 0#32
  ![0, v155.toNat, 0]

def k1_chk19 (v154 : BitVec 32) : Prop :=
  (∀ a, (k1_off19 v154) a + S1x1x64.size a ≤ S1x25088x64.size a)
theorem k1_off19_inb : ∀ (v154 : BitVec 32) (k1_hw19 : k1_chk19 v154), ∀ a, (k1_off19 v154) a + S1x1x64.size a ≤ S1x25088x64.size a := fun v154 k1_hw19 => k1_hw19

def k1_off20 (v163 : BitVec 32) : Fin 3 → Nat :=
  let c0_102 : Index := 0#32
  let v164 : Index := Scalar.indexCast v163
  let c0_103 : Index := 0#32
  ![0, v164.toNat, 0]

def k1_chk20 (v163 : BitVec 32) : Prop :=
  (∀ a, (k1_off20 v163) a + S1x1x64.size a ≤ S1x25088x64.size a)
theorem k1_off20_inb : ∀ (v163 : BitVec 32) (k1_hw20 : k1_chk20 v163), ∀ a, (k1_off20 v163) a + S1x1x64.size a ≤ S1x25088x64.size a := fun v163 k1_hw20 => k1_hw20

def k1_off21 (v172 : BitVec 32) : Fin 3 → Nat :=
  let c0_108 : Index := 0#32
  let v173 : Index := Scalar.indexCast v172
  let c0_109 : Index := 0#32
  ![0, v173.toNat, 0]

def k1_chk21 (v172 : BitVec 32) : Prop :=
  (∀ a, (k1_off21 v172) a + S1x1x64.size a ≤ S1x25088x64.size a)
theorem k1_off21_inb : ∀ (v172 : BitVec 32) (k1_hw21 : k1_chk21 v172), ∀ a, (k1_off21 v172) a + S1x1x64.size a ≤ S1x25088x64.size a := fun v172 k1_hw21 => k1_hw21

def k1_off22 (v181 : BitVec 32) : Fin 3 → Nat :=
  let c0_114 : Index := 0#32
  let v182 : Index := Scalar.indexCast v181
  let c0_115 : Index := 0#32
  ![0, v182.toNat, 0]

def k1_chk22 (v181 : BitVec 32) : Prop :=
  (∀ a, (k1_off22 v181) a + S1x1x64.size a ≤ S1x25088x64.size a)
theorem k1_off22_inb : ∀ (v181 : BitVec 32) (k1_hw22 : k1_chk22 v181), ∀ a, (k1_off22 v181) a + S1x1x64.size a ≤ S1x25088x64.size a := fun v181 k1_hw22 => k1_hw22

def k1_off23 (v190 : BitVec 32) : Fin 3 → Nat :=
  let c0_120 : Index := 0#32
  let v191 : Index := Scalar.indexCast v190
  let c0_121 : Index := 0#32
  ![0, v191.toNat, 0]

def k1_chk23 (v190 : BitVec 32) : Prop :=
  (∀ a, (k1_off23 v190) a + S1x1x64.size a ≤ S1x25088x64.size a)
theorem k1_off23_inb : ∀ (v190 : BitVec 32) (k1_hw23 : k1_chk23 v190), ∀ a, (k1_off23 v190) a + S1x1x64.size a ≤ S1x25088x64.size a := fun v190 k1_hw23 => k1_hw23

def k1_off24 (v199 : BitVec 32) : Fin 3 → Nat :=
  let c0_126 : Index := 0#32
  let v200 : Index := Scalar.indexCast v199
  let c0_127 : Index := 0#32
  ![0, v200.toNat, 0]

def k1_chk24 (v199 : BitVec 32) : Prop :=
  (∀ a, (k1_off24 v199) a + S1x1x64.size a ≤ S1x25088x64.size a)
theorem k1_off24_inb : ∀ (v199 : BitVec 32) (k1_hw24 : k1_chk24 v199), ∀ a, (k1_off24 v199) a + S1x1x64.size a ≤ S1x25088x64.size a := fun v199 k1_hw24 => k1_hw24

def k1_off25 (v208 : BitVec 32) : Fin 3 → Nat :=
  let c0_132 : Index := 0#32
  let v209 : Index := Scalar.indexCast v208
  let c0_133 : Index := 0#32
  ![0, v209.toNat, 0]

def k1_chk25 (v208 : BitVec 32) : Prop :=
  (∀ a, (k1_off25 v208) a + S1x1x64.size a ≤ S1x25088x64.size a)
theorem k1_off25_inb : ∀ (v208 : BitVec 32) (k1_hw25 : k1_chk25 v208), ∀ a, (k1_off25 v208) a + S1x1x64.size a ≤ S1x25088x64.size a := fun v208 k1_hw25 => k1_hw25

def k1_off26 (v217 : BitVec 32) : Fin 3 → Nat :=
  let c0_138 : Index := 0#32
  let v218 : Index := Scalar.indexCast v217
  let c0_139 : Index := 0#32
  ![0, v218.toNat, 0]

def k1_chk26 (v217 : BitVec 32) : Prop :=
  (∀ a, (k1_off26 v217) a + S1x1x64.size a ≤ S1x25088x64.size a)
theorem k1_off26_inb : ∀ (v217 : BitVec 32) (k1_hw26 : k1_chk26 v217), ∀ a, (k1_off26 v217) a + S1x1x64.size a ≤ S1x25088x64.size a := fun v217 k1_hw26 => k1_hw26

def k1_off27 (v226 : BitVec 32) : Fin 3 → Nat :=
  let c0_144 : Index := 0#32
  let v227 : Index := Scalar.indexCast v226
  let c0_145 : Index := 0#32
  ![0, v227.toNat, 0]

def k1_chk27 (v226 : BitVec 32) : Prop :=
  (∀ a, (k1_off27 v226) a + S1x1x64.size a ≤ S1x25088x64.size a)
theorem k1_off27_inb : ∀ (v226 : BitVec 32) (k1_hw27 : k1_chk27 v226), ∀ a, (k1_off27 v226) a + S1x1x64.size a ≤ S1x25088x64.size a := fun v226 k1_hw27 => k1_hw27

def k1_off28 (v235 : BitVec 32) : Fin 3 → Nat :=
  let c0_150 : Index := 0#32
  let v236 : Index := Scalar.indexCast v235
  let c0_151 : Index := 0#32
  ![0, v236.toNat, 0]

def k1_chk28 (v235 : BitVec 32) : Prop :=
  (∀ a, (k1_off28 v235) a + S1x1x64.size a ≤ S1x25088x64.size a)
theorem k1_off28_inb : ∀ (v235 : BitVec 32) (k1_hw28 : k1_chk28 v235), ∀ a, (k1_off28 v235) a + S1x1x64.size a ≤ S1x25088x64.size a := fun v235 k1_hw28 => k1_hw28

def k1_off29 (v244 : BitVec 32) : Fin 3 → Nat :=
  let c0_156 : Index := 0#32
  let v245 : Index := Scalar.indexCast v244
  let c0_157 : Index := 0#32
  ![0, v245.toNat, 0]

def k1_chk29 (v244 : BitVec 32) : Prop :=
  (∀ a, (k1_off29 v244) a + S1x1x64.size a ≤ S1x25088x64.size a)
theorem k1_off29_inb : ∀ (v244 : BitVec 32) (k1_hw29 : k1_chk29 v244), ∀ a, (k1_off29 v244) a + S1x1x64.size a ≤ S1x25088x64.size a := fun v244 k1_hw29 => k1_hw29

def k1_off30 (v253 : BitVec 32) : Fin 3 → Nat :=
  let c0_162 : Index := 0#32
  let v254 : Index := Scalar.indexCast v253
  let c0_163 : Index := 0#32
  ![0, v254.toNat, 0]

def k1_chk30 (v253 : BitVec 32) : Prop :=
  (∀ a, (k1_off30 v253) a + S1x1x64.size a ≤ S1x25088x64.size a)
theorem k1_off30_inb : ∀ (v253 : BitVec 32) (k1_hw30 : k1_chk30 v253), ∀ a, (k1_off30 v253) a + S1x1x64.size a ≤ S1x25088x64.size a := fun v253 k1_hw30 => k1_hw30

def k1_off31 (v262 : BitVec 32) : Fin 3 → Nat :=
  let c0_168 : Index := 0#32
  let v263 : Index := Scalar.indexCast v262
  let c0_169 : Index := 0#32
  ![0, v263.toNat, 0]

def k1_chk31 (v262 : BitVec 32) : Prop :=
  (∀ a, (k1_off31 v262) a + S1x1x64.size a ≤ S1x25088x64.size a)
theorem k1_off31_inb : ∀ (v262 : BitVec 32) (k1_hw31 : k1_chk31 v262), ∀ a, (k1_off31 v262) a + S1x1x64.size a ≤ S1x25088x64.size a := fun v262 k1_hw31 => k1_hw31

def k1_off32 (v271 : BitVec 32) : Fin 3 → Nat :=
  let c0_174 : Index := 0#32
  let v272 : Index := Scalar.indexCast v271
  let c0_175 : Index := 0#32
  ![0, v272.toNat, 0]

def k1_chk32 (v271 : BitVec 32) : Prop :=
  (∀ a, (k1_off32 v271) a + S1x1x64.size a ≤ S1x25088x64.size a)
theorem k1_off32_inb : ∀ (v271 : BitVec 32) (k1_hw32 : k1_chk32 v271), ∀ a, (k1_off32 v271) a + S1x1x64.size a ≤ S1x25088x64.size a := fun v271 k1_hw32 => k1_hw32

def k1_off33 (v280 : BitVec 32) : Fin 3 → Nat :=
  let c0_180 : Index := 0#32
  let v281 : Index := Scalar.indexCast v280
  let c0_181 : Index := 0#32
  ![0, v281.toNat, 0]

def k1_chk33 (v280 : BitVec 32) : Prop :=
  (∀ a, (k1_off33 v280) a + S1x1x64.size a ≤ S1x25088x64.size a)
theorem k1_off33_inb : ∀ (v280 : BitVec 32) (k1_hw33 : k1_chk33 v280), ∀ a, (k1_off33 v280) a + S1x1x64.size a ≤ S1x25088x64.size a := fun v280 k1_hw33 => k1_hw33

def k1_off34 (v285 : BitVec 32) : Fin 3 → Nat :=
  let c0_186 : Index := 0#32
  let v286 : Index := Scalar.indexCast v285
  let c0_187 : Index := 0#32
  ![0, v286.toNat, 0]

def k1_chk34 (v285 : BitVec 32) : Prop :=
  (∀ a, (k1_off34 v285) a + S1x1x64.size a ≤ S1x25088x64.size a)
theorem k1_off34_inb : ∀ (v285 : BitVec 32) (k1_hw34 : k1_chk34 v285), ∀ a, (k1_off34 v285) a + S1x1x64.size a ≤ S1x25088x64.size a := fun v285 k1_hw34 => k1_hw34

def k1_off35 (v294 : BitVec 32) : Fin 3 → Nat :=
  let c0_192 : Index := 0#32
  let v295 : Index := Scalar.indexCast v294
  let c0_193 : Index := 0#32
  ![0, v295.toNat, 0]

def k1_chk35 (v294 : BitVec 32) : Prop :=
  (∀ a, (k1_off35 v294) a + S1x1x64.size a ≤ S1x25088x64.size a)
theorem k1_off35_inb : ∀ (v294 : BitVec 32) (k1_hw35 : k1_chk35 v294), ∀ a, (k1_off35 v294) a + S1x1x64.size a ≤ S1x25088x64.size a := fun v294 k1_hw35 => k1_hw35

def k1_off36 (v303 : BitVec 32) : Fin 3 → Nat :=
  let c0_198 : Index := 0#32
  let v304 : Index := Scalar.indexCast v303
  let c0_199 : Index := 0#32
  ![0, v304.toNat, 0]

def k1_chk36 (v303 : BitVec 32) : Prop :=
  (∀ a, (k1_off36 v303) a + S1x1x64.size a ≤ S1x25088x64.size a)
theorem k1_off36_inb : ∀ (v303 : BitVec 32) (k1_hw36 : k1_chk36 v303), ∀ a, (k1_off36 v303) a + S1x1x64.size a ≤ S1x25088x64.size a := fun v303 k1_hw36 => k1_hw36

def k1_off37 (v312 : BitVec 32) : Fin 3 → Nat :=
  let c0_204 : Index := 0#32
  let v313 : Index := Scalar.indexCast v312
  let c0_205 : Index := 0#32
  ![0, v313.toNat, 0]

def k1_chk37 (v312 : BitVec 32) : Prop :=
  (∀ a, (k1_off37 v312) a + S1x1x64.size a ≤ S1x25088x64.size a)
theorem k1_off37_inb : ∀ (v312 : BitVec 32) (k1_hw37 : k1_chk37 v312), ∀ a, (k1_off37 v312) a + S1x1x64.size a ≤ S1x25088x64.size a := fun v312 k1_hw37 => k1_hw37

def k1_off38 (v321 : BitVec 32) : Fin 3 → Nat :=
  let c0_210 : Index := 0#32
  let v322 : Index := Scalar.indexCast v321
  let c0_211 : Index := 0#32
  ![0, v322.toNat, 0]

def k1_chk38 (v321 : BitVec 32) : Prop :=
  (∀ a, (k1_off38 v321) a + S1x1x64.size a ≤ S1x25088x64.size a)
theorem k1_off38_inb : ∀ (v321 : BitVec 32) (k1_hw38 : k1_chk38 v321), ∀ a, (k1_off38 v321) a + S1x1x64.size a ≤ S1x25088x64.size a := fun v321 k1_hw38 => k1_hw38

def k1_off39 (v330 : BitVec 32) : Fin 3 → Nat :=
  let c0_216 : Index := 0#32
  let v331 : Index := Scalar.indexCast v330
  let c0_217 : Index := 0#32
  ![0, v331.toNat, 0]

def k1_chk39 (v330 : BitVec 32) : Prop :=
  (∀ a, (k1_off39 v330) a + S1x1x64.size a ≤ S1x25088x64.size a)
theorem k1_off39_inb : ∀ (v330 : BitVec 32) (k1_hw39 : k1_chk39 v330), ∀ a, (k1_off39 v330) a + S1x1x64.size a ≤ S1x25088x64.size a := fun v330 k1_hw39 => k1_hw39

def k1_off40 (v339 : BitVec 32) : Fin 3 → Nat :=
  let c0_222 : Index := 0#32
  let v340 : Index := Scalar.indexCast v339
  let c0_223 : Index := 0#32
  ![0, v340.toNat, 0]

def k1_chk40 (v339 : BitVec 32) : Prop :=
  (∀ a, (k1_off40 v339) a + S1x1x64.size a ≤ S1x25088x64.size a)
theorem k1_off40_inb : ∀ (v339 : BitVec 32) (k1_hw40 : k1_chk40 v339), ∀ a, (k1_off40 v339) a + S1x1x64.size a ≤ S1x25088x64.size a := fun v339 k1_hw40 => k1_hw40

def k1_off41 (v348 : BitVec 32) : Fin 3 → Nat :=
  let c0_228 : Index := 0#32
  let v349 : Index := Scalar.indexCast v348
  let c0_229 : Index := 0#32
  ![0, v349.toNat, 0]

def k1_chk41 (v348 : BitVec 32) : Prop :=
  (∀ a, (k1_off41 v348) a + S1x1x64.size a ≤ S1x25088x64.size a)
theorem k1_off41_inb : ∀ (v348 : BitVec 32) (k1_hw41 : k1_chk41 v348), ∀ a, (k1_off41 v348) a + S1x1x64.size a ≤ S1x25088x64.size a := fun v348 k1_hw41 => k1_hw41

def k1_off42 (v357 : BitVec 32) : Fin 3 → Nat :=
  let c0_234 : Index := 0#32
  let v358 : Index := Scalar.indexCast v357
  let c0_235 : Index := 0#32
  ![0, v358.toNat, 0]

def k1_chk42 (v357 : BitVec 32) : Prop :=
  (∀ a, (k1_off42 v357) a + S1x1x64.size a ≤ S1x25088x64.size a)
theorem k1_off42_inb : ∀ (v357 : BitVec 32) (k1_hw42 : k1_chk42 v357), ∀ a, (k1_off42 v357) a + S1x1x64.size a ≤ S1x25088x64.size a := fun v357 k1_hw42 => k1_hw42

def k1_off43 (v366 : BitVec 32) : Fin 3 → Nat :=
  let c0_240 : Index := 0#32
  let v367 : Index := Scalar.indexCast v366
  let c0_241 : Index := 0#32
  ![0, v367.toNat, 0]

def k1_chk43 (v366 : BitVec 32) : Prop :=
  (∀ a, (k1_off43 v366) a + S1x1x64.size a ≤ S1x25088x64.size a)
theorem k1_off43_inb : ∀ (v366 : BitVec 32) (k1_hw43 : k1_chk43 v366), ∀ a, (k1_off43 v366) a + S1x1x64.size a ≤ S1x25088x64.size a := fun v366 k1_hw43 => k1_hw43

def k1_off44 (v375 : BitVec 32) : Fin 3 → Nat :=
  let c0_246 : Index := 0#32
  let v376 : Index := Scalar.indexCast v375
  let c0_247 : Index := 0#32
  ![0, v376.toNat, 0]

def k1_chk44 (v375 : BitVec 32) : Prop :=
  (∀ a, (k1_off44 v375) a + S1x1x64.size a ≤ S1x25088x64.size a)
theorem k1_off44_inb : ∀ (v375 : BitVec 32) (k1_hw44 : k1_chk44 v375), ∀ a, (k1_off44 v375) a + S1x1x64.size a ≤ S1x25088x64.size a := fun v375 k1_hw44 => k1_hw44

def k1_off45 (v384 : BitVec 32) : Fin 3 → Nat :=
  let c0_252 : Index := 0#32
  let v385 : Index := Scalar.indexCast v384
  let c0_253 : Index := 0#32
  ![0, v385.toNat, 0]

def k1_chk45 (v384 : BitVec 32) : Prop :=
  (∀ a, (k1_off45 v384) a + S1x1x64.size a ≤ S1x25088x64.size a)
theorem k1_off45_inb : ∀ (v384 : BitVec 32) (k1_hw45 : k1_chk45 v384), ∀ a, (k1_off45 v384) a + S1x1x64.size a ≤ S1x25088x64.size a := fun v384 k1_hw45 => k1_hw45

def k1_off46 (v393 : BitVec 32) : Fin 3 → Nat :=
  let c0_258 : Index := 0#32
  let v394 : Index := Scalar.indexCast v393
  let c0_259 : Index := 0#32
  ![0, v394.toNat, 0]

def k1_chk46 (v393 : BitVec 32) : Prop :=
  (∀ a, (k1_off46 v393) a + S1x1x64.size a ≤ S1x25088x64.size a)
theorem k1_off46_inb : ∀ (v393 : BitVec 32) (k1_hw46 : k1_chk46 v393), ∀ a, (k1_off46 v393) a + S1x1x64.size a ≤ S1x25088x64.size a := fun v393 k1_hw46 => k1_hw46

def k1_off47 (v402 : BitVec 32) : Fin 3 → Nat :=
  let c0_264 : Index := 0#32
  let v403 : Index := Scalar.indexCast v402
  let c0_265 : Index := 0#32
  ![0, v403.toNat, 0]

def k1_chk47 (v402 : BitVec 32) : Prop :=
  (∀ a, (k1_off47 v402) a + S1x1x64.size a ≤ S1x25088x64.size a)
theorem k1_off47_inb : ∀ (v402 : BitVec 32) (k1_hw47 : k1_chk47 v402), ∀ a, (k1_off47 v402) a + S1x1x64.size a ≤ S1x25088x64.size a := fun v402 k1_hw47 => k1_hw47

def k1_off48 (v411 : BitVec 32) : Fin 3 → Nat :=
  let c0_270 : Index := 0#32
  let v412 : Index := Scalar.indexCast v411
  let c0_271 : Index := 0#32
  ![0, v412.toNat, 0]

def k1_chk48 (v411 : BitVec 32) : Prop :=
  (∀ a, (k1_off48 v411) a + S1x1x64.size a ≤ S1x25088x64.size a)
theorem k1_off48_inb : ∀ (v411 : BitVec 32) (k1_hw48 : k1_chk48 v411), ∀ a, (k1_off48 v411) a + S1x1x64.size a ≤ S1x25088x64.size a := fun v411 k1_hw48 => k1_hw48

def k1_off49 (v420 : BitVec 32) : Fin 3 → Nat :=
  let c0_276 : Index := 0#32
  let v421 : Index := Scalar.indexCast v420
  let c0_277 : Index := 0#32
  ![0, v421.toNat, 0]

def k1_chk49 (v420 : BitVec 32) : Prop :=
  (∀ a, (k1_off49 v420) a + S1x1x64.size a ≤ S1x25088x64.size a)
theorem k1_off49_inb : ∀ (v420 : BitVec 32) (k1_hw49 : k1_chk49 v420), ∀ a, (k1_off49 v420) a + S1x1x64.size a ≤ S1x25088x64.size a := fun v420 k1_hw49 => k1_hw49

def k1_off50 (v425 : BitVec 32) : Fin 3 → Nat :=
  let c0_282 : Index := 0#32
  let v426 : Index := Scalar.indexCast v425
  let c0_283 : Index := 0#32
  ![0, v426.toNat, 0]

def k1_chk50 (v425 : BitVec 32) : Prop :=
  (∀ a, (k1_off50 v425) a + S1x1x64.size a ≤ S1x25088x64.size a)
theorem k1_off50_inb : ∀ (v425 : BitVec 32) (k1_hw50 : k1_chk50 v425), ∀ a, (k1_off50 v425) a + S1x1x64.size a ≤ S1x25088x64.size a := fun v425 k1_hw50 => k1_hw50

def k1_off51 (v434 : BitVec 32) : Fin 3 → Nat :=
  let c0_288 : Index := 0#32
  let v435 : Index := Scalar.indexCast v434
  let c0_289 : Index := 0#32
  ![0, v435.toNat, 0]

def k1_chk51 (v434 : BitVec 32) : Prop :=
  (∀ a, (k1_off51 v434) a + S1x1x64.size a ≤ S1x25088x64.size a)
theorem k1_off51_inb : ∀ (v434 : BitVec 32) (k1_hw51 : k1_chk51 v434), ∀ a, (k1_off51 v434) a + S1x1x64.size a ≤ S1x25088x64.size a := fun v434 k1_hw51 => k1_hw51

def k1_off52 (v443 : BitVec 32) : Fin 3 → Nat :=
  let c0_294 : Index := 0#32
  let v444 : Index := Scalar.indexCast v443
  let c0_295 : Index := 0#32
  ![0, v444.toNat, 0]

def k1_chk52 (v443 : BitVec 32) : Prop :=
  (∀ a, (k1_off52 v443) a + S1x1x64.size a ≤ S1x25088x64.size a)
theorem k1_off52_inb : ∀ (v443 : BitVec 32) (k1_hw52 : k1_chk52 v443), ∀ a, (k1_off52 v443) a + S1x1x64.size a ≤ S1x25088x64.size a := fun v443 k1_hw52 => k1_hw52

def k1_off53 (v452 : BitVec 32) : Fin 3 → Nat :=
  let c0_300 : Index := 0#32
  let v453 : Index := Scalar.indexCast v452
  let c0_301 : Index := 0#32
  ![0, v453.toNat, 0]

def k1_chk53 (v452 : BitVec 32) : Prop :=
  (∀ a, (k1_off53 v452) a + S1x1x64.size a ≤ S1x25088x64.size a)
theorem k1_off53_inb : ∀ (v452 : BitVec 32) (k1_hw53 : k1_chk53 v452), ∀ a, (k1_off53 v452) a + S1x1x64.size a ≤ S1x25088x64.size a := fun v452 k1_hw53 => k1_hw53

def k1_off54 (v461 : BitVec 32) : Fin 3 → Nat :=
  let c0_306 : Index := 0#32
  let v462 : Index := Scalar.indexCast v461
  let c0_307 : Index := 0#32
  ![0, v462.toNat, 0]

def k1_chk54 (v461 : BitVec 32) : Prop :=
  (∀ a, (k1_off54 v461) a + S1x1x64.size a ≤ S1x25088x64.size a)
theorem k1_off54_inb : ∀ (v461 : BitVec 32) (k1_hw54 : k1_chk54 v461), ∀ a, (k1_off54 v461) a + S1x1x64.size a ≤ S1x25088x64.size a := fun v461 k1_hw54 => k1_hw54

def k1_off55 (v470 : BitVec 32) : Fin 3 → Nat :=
  let c0_312 : Index := 0#32
  let v471 : Index := Scalar.indexCast v470
  let c0_313 : Index := 0#32
  ![0, v471.toNat, 0]

def k1_chk55 (v470 : BitVec 32) : Prop :=
  (∀ a, (k1_off55 v470) a + S1x1x64.size a ≤ S1x25088x64.size a)
theorem k1_off55_inb : ∀ (v470 : BitVec 32) (k1_hw55 : k1_chk55 v470), ∀ a, (k1_off55 v470) a + S1x1x64.size a ≤ S1x25088x64.size a := fun v470 k1_hw55 => k1_hw55

def k1_off56 (v479 : BitVec 32) : Fin 3 → Nat :=
  let c0_318 : Index := 0#32
  let v480 : Index := Scalar.indexCast v479
  let c0_319 : Index := 0#32
  ![0, v480.toNat, 0]

def k1_chk56 (v479 : BitVec 32) : Prop :=
  (∀ a, (k1_off56 v479) a + S1x1x64.size a ≤ S1x25088x64.size a)
theorem k1_off56_inb : ∀ (v479 : BitVec 32) (k1_hw56 : k1_chk56 v479), ∀ a, (k1_off56 v479) a + S1x1x64.size a ≤ S1x25088x64.size a := fun v479 k1_hw56 => k1_hw56

def k1_off57 (v488 : BitVec 32) : Fin 3 → Nat :=
  let c0_324 : Index := 0#32
  let v489 : Index := Scalar.indexCast v488
  let c0_325 : Index := 0#32
  ![0, v489.toNat, 0]

def k1_chk57 (v488 : BitVec 32) : Prop :=
  (∀ a, (k1_off57 v488) a + S1x1x64.size a ≤ S1x25088x64.size a)
theorem k1_off57_inb : ∀ (v488 : BitVec 32) (k1_hw57 : k1_chk57 v488), ∀ a, (k1_off57 v488) a + S1x1x64.size a ≤ S1x25088x64.size a := fun v488 k1_hw57 => k1_hw57

def k1_off58 (v497 : BitVec 32) : Fin 3 → Nat :=
  let c0_330 : Index := 0#32
  let v498 : Index := Scalar.indexCast v497
  let c0_331 : Index := 0#32
  ![0, v498.toNat, 0]

def k1_chk58 (v497 : BitVec 32) : Prop :=
  (∀ a, (k1_off58 v497) a + S1x1x64.size a ≤ S1x25088x64.size a)
theorem k1_off58_inb : ∀ (v497 : BitVec 32) (k1_hw58 : k1_chk58 v497), ∀ a, (k1_off58 v497) a + S1x1x64.size a ≤ S1x25088x64.size a := fun v497 k1_hw58 => k1_hw58

def k1_off59 (v506 : BitVec 32) : Fin 3 → Nat :=
  let c0_336 : Index := 0#32
  let v507 : Index := Scalar.indexCast v506
  let c0_337 : Index := 0#32
  ![0, v507.toNat, 0]

def k1_chk59 (v506 : BitVec 32) : Prop :=
  (∀ a, (k1_off59 v506) a + S1x1x64.size a ≤ S1x25088x64.size a)
theorem k1_off59_inb : ∀ (v506 : BitVec 32) (k1_hw59 : k1_chk59 v506), ∀ a, (k1_off59 v506) a + S1x1x64.size a ≤ S1x25088x64.size a := fun v506 k1_hw59 => k1_hw59

def k1_off60 (v515 : BitVec 32) : Fin 3 → Nat :=
  let c0_342 : Index := 0#32
  let v516 : Index := Scalar.indexCast v515
  let c0_343 : Index := 0#32
  ![0, v516.toNat, 0]

def k1_chk60 (v515 : BitVec 32) : Prop :=
  (∀ a, (k1_off60 v515) a + S1x1x64.size a ≤ S1x25088x64.size a)
theorem k1_off60_inb : ∀ (v515 : BitVec 32) (k1_hw60 : k1_chk60 v515), ∀ a, (k1_off60 v515) a + S1x1x64.size a ≤ S1x25088x64.size a := fun v515 k1_hw60 => k1_hw60

def k1_off61 (v524 : BitVec 32) : Fin 3 → Nat :=
  let c0_348 : Index := 0#32
  let v525 : Index := Scalar.indexCast v524
  let c0_349 : Index := 0#32
  ![0, v525.toNat, 0]

def k1_chk61 (v524 : BitVec 32) : Prop :=
  (∀ a, (k1_off61 v524) a + S1x1x64.size a ≤ S1x25088x64.size a)
theorem k1_off61_inb : ∀ (v524 : BitVec 32) (k1_hw61 : k1_chk61 v524), ∀ a, (k1_off61 v524) a + S1x1x64.size a ≤ S1x25088x64.size a := fun v524 k1_hw61 => k1_hw61

def k1_off62 (v533 : BitVec 32) : Fin 3 → Nat :=
  let c0_354 : Index := 0#32
  let v534 : Index := Scalar.indexCast v533
  let c0_355 : Index := 0#32
  ![0, v534.toNat, 0]

def k1_chk62 (v533 : BitVec 32) : Prop :=
  (∀ a, (k1_off62 v533) a + S1x1x64.size a ≤ S1x25088x64.size a)
theorem k1_off62_inb : ∀ (v533 : BitVec 32) (k1_hw62 : k1_chk62 v533), ∀ a, (k1_off62 v533) a + S1x1x64.size a ≤ S1x25088x64.size a := fun v533 k1_hw62 => k1_hw62

def k1_off63 (v542 : BitVec 32) : Fin 3 → Nat :=
  let c0_360 : Index := 0#32
  let v543 : Index := Scalar.indexCast v542
  let c0_361 : Index := 0#32
  ![0, v543.toNat, 0]

def k1_chk63 (v542 : BitVec 32) : Prop :=
  (∀ a, (k1_off63 v542) a + S1x1x64.size a ≤ S1x25088x64.size a)
theorem k1_off63_inb : ∀ (v542 : BitVec 32) (k1_hw63 : k1_chk63 v542), ∀ a, (k1_off63 v542) a + S1x1x64.size a ≤ S1x25088x64.size a := fun v542 k1_hw63 => k1_hw63

def k1_off64 (v551 : BitVec 32) : Fin 3 → Nat :=
  let c0_366 : Index := 0#32
  let v552 : Index := Scalar.indexCast v551
  let c0_367 : Index := 0#32
  ![0, v552.toNat, 0]

def k1_chk64 (v551 : BitVec 32) : Prop :=
  (∀ a, (k1_off64 v551) a + S1x1x64.size a ≤ S1x25088x64.size a)
theorem k1_off64_inb : ∀ (v551 : BitVec 32) (k1_hw64 : k1_chk64 v551), ∀ a, (k1_off64 v551) a + S1x1x64.size a ≤ S1x25088x64.size a := fun v551 k1_hw64 => k1_hw64

def k1_off65 (v560 : BitVec 32) : Fin 3 → Nat :=
  let c0_372 : Index := 0#32
  let v561 : Index := Scalar.indexCast v560
  let c0_373 : Index := 0#32
  ![0, v561.toNat, 0]

def k1_chk65 (v560 : BitVec 32) : Prop :=
  (∀ a, (k1_off65 v560) a + S1x1x64.size a ≤ S1x25088x64.size a)
theorem k1_off65_inb : ∀ (v560 : BitVec 32) (k1_hw65 : k1_chk65 v560), ∀ a, (k1_off65 v560) a + S1x1x64.size a ≤ S1x25088x64.size a := fun v560 k1_hw65 => k1_hw65

def k1_off66 (v565 : BitVec 32) : Fin 3 → Nat :=
  let c0_378 : Index := 0#32
  let v566 : Index := Scalar.indexCast v565
  let c0_379 : Index := 0#32
  ![0, v566.toNat, 0]

def k1_chk66 (v565 : BitVec 32) : Prop :=
  (∀ a, (k1_off66 v565) a + S1x1x64.size a ≤ S1x25088x64.size a)
theorem k1_off66_inb : ∀ (v565 : BitVec 32) (k1_hw66 : k1_chk66 v565), ∀ a, (k1_off66 v565) a + S1x1x64.size a ≤ S1x25088x64.size a := fun v565 k1_hw66 => k1_hw66

def k1_off67 (v574 : BitVec 32) : Fin 3 → Nat :=
  let c0_384 : Index := 0#32
  let v575 : Index := Scalar.indexCast v574
  let c0_385 : Index := 0#32
  ![0, v575.toNat, 0]

def k1_chk67 (v574 : BitVec 32) : Prop :=
  (∀ a, (k1_off67 v574) a + S1x1x64.size a ≤ S1x25088x64.size a)
theorem k1_off67_inb : ∀ (v574 : BitVec 32) (k1_hw67 : k1_chk67 v574), ∀ a, (k1_off67 v574) a + S1x1x64.size a ≤ S1x25088x64.size a := fun v574 k1_hw67 => k1_hw67

def k1_off68 (v583 : BitVec 32) : Fin 3 → Nat :=
  let c0_390 : Index := 0#32
  let v584 : Index := Scalar.indexCast v583
  let c0_391 : Index := 0#32
  ![0, v584.toNat, 0]

def k1_chk68 (v583 : BitVec 32) : Prop :=
  (∀ a, (k1_off68 v583) a + S1x1x64.size a ≤ S1x25088x64.size a)
theorem k1_off68_inb : ∀ (v583 : BitVec 32) (k1_hw68 : k1_chk68 v583), ∀ a, (k1_off68 v583) a + S1x1x64.size a ≤ S1x25088x64.size a := fun v583 k1_hw68 => k1_hw68

def k1_off69 (v592 : BitVec 32) : Fin 3 → Nat :=
  let c0_396 : Index := 0#32
  let v593 : Index := Scalar.indexCast v592
  let c0_397 : Index := 0#32
  ![0, v593.toNat, 0]

def k1_chk69 (v592 : BitVec 32) : Prop :=
  (∀ a, (k1_off69 v592) a + S1x1x64.size a ≤ S1x25088x64.size a)
theorem k1_off69_inb : ∀ (v592 : BitVec 32) (k1_hw69 : k1_chk69 v592), ∀ a, (k1_off69 v592) a + S1x1x64.size a ≤ S1x25088x64.size a := fun v592 k1_hw69 => k1_hw69

def k1_off70 (v601 : BitVec 32) : Fin 3 → Nat :=
  let c0_402 : Index := 0#32
  let v602 : Index := Scalar.indexCast v601
  let c0_403 : Index := 0#32
  ![0, v602.toNat, 0]

def k1_chk70 (v601 : BitVec 32) : Prop :=
  (∀ a, (k1_off70 v601) a + S1x1x64.size a ≤ S1x25088x64.size a)
theorem k1_off70_inb : ∀ (v601 : BitVec 32) (k1_hw70 : k1_chk70 v601), ∀ a, (k1_off70 v601) a + S1x1x64.size a ≤ S1x25088x64.size a := fun v601 k1_hw70 => k1_hw70

def k1_off71 (v610 : BitVec 32) : Fin 3 → Nat :=
  let c0_408 : Index := 0#32
  let v611 : Index := Scalar.indexCast v610
  let c0_409 : Index := 0#32
  ![0, v611.toNat, 0]

def k1_chk71 (v610 : BitVec 32) : Prop :=
  (∀ a, (k1_off71 v610) a + S1x1x64.size a ≤ S1x25088x64.size a)
theorem k1_off71_inb : ∀ (v610 : BitVec 32) (k1_hw71 : k1_chk71 v610), ∀ a, (k1_off71 v610) a + S1x1x64.size a ≤ S1x25088x64.size a := fun v610 k1_hw71 => k1_hw71

def k1_off72 (v619 : BitVec 32) : Fin 3 → Nat :=
  let c0_414 : Index := 0#32
  let v620 : Index := Scalar.indexCast v619
  let c0_415 : Index := 0#32
  ![0, v620.toNat, 0]

def k1_chk72 (v619 : BitVec 32) : Prop :=
  (∀ a, (k1_off72 v619) a + S1x1x64.size a ≤ S1x25088x64.size a)
theorem k1_off72_inb : ∀ (v619 : BitVec 32) (k1_hw72 : k1_chk72 v619), ∀ a, (k1_off72 v619) a + S1x1x64.size a ≤ S1x25088x64.size a := fun v619 k1_hw72 => k1_hw72

def k1_off73 (v628 : BitVec 32) : Fin 3 → Nat :=
  let c0_420 : Index := 0#32
  let v629 : Index := Scalar.indexCast v628
  let c0_421 : Index := 0#32
  ![0, v629.toNat, 0]

def k1_chk73 (v628 : BitVec 32) : Prop :=
  (∀ a, (k1_off73 v628) a + S1x1x64.size a ≤ S1x25088x64.size a)
theorem k1_off73_inb : ∀ (v628 : BitVec 32) (k1_hw73 : k1_chk73 v628), ∀ a, (k1_off73 v628) a + S1x1x64.size a ≤ S1x25088x64.size a := fun v628 k1_hw73 => k1_hw73

def k1_off74 (v637 : BitVec 32) : Fin 3 → Nat :=
  let c0_426 : Index := 0#32
  let v638 : Index := Scalar.indexCast v637
  let c0_427 : Index := 0#32
  ![0, v638.toNat, 0]

def k1_chk74 (v637 : BitVec 32) : Prop :=
  (∀ a, (k1_off74 v637) a + S1x1x64.size a ≤ S1x25088x64.size a)
theorem k1_off74_inb : ∀ (v637 : BitVec 32) (k1_hw74 : k1_chk74 v637), ∀ a, (k1_off74 v637) a + S1x1x64.size a ≤ S1x25088x64.size a := fun v637 k1_hw74 => k1_hw74

def k1_off75 (v646 : BitVec 32) : Fin 3 → Nat :=
  let c0_432 : Index := 0#32
  let v647 : Index := Scalar.indexCast v646
  let c0_433 : Index := 0#32
  ![0, v647.toNat, 0]

def k1_chk75 (v646 : BitVec 32) : Prop :=
  (∀ a, (k1_off75 v646) a + S1x1x64.size a ≤ S1x25088x64.size a)
theorem k1_off75_inb : ∀ (v646 : BitVec 32) (k1_hw75 : k1_chk75 v646), ∀ a, (k1_off75 v646) a + S1x1x64.size a ≤ S1x25088x64.size a := fun v646 k1_hw75 => k1_hw75

def k1_off76 (v655 : BitVec 32) : Fin 3 → Nat :=
  let c0_438 : Index := 0#32
  let v656 : Index := Scalar.indexCast v655
  let c0_439 : Index := 0#32
  ![0, v656.toNat, 0]

def k1_chk76 (v655 : BitVec 32) : Prop :=
  (∀ a, (k1_off76 v655) a + S1x1x64.size a ≤ S1x25088x64.size a)
theorem k1_off76_inb : ∀ (v655 : BitVec 32) (k1_hw76 : k1_chk76 v655), ∀ a, (k1_off76 v655) a + S1x1x64.size a ≤ S1x25088x64.size a := fun v655 k1_hw76 => k1_hw76

def k1_off77 (v664 : BitVec 32) : Fin 3 → Nat :=
  let c0_444 : Index := 0#32
  let v665 : Index := Scalar.indexCast v664
  let c0_445 : Index := 0#32
  ![0, v665.toNat, 0]

def k1_chk77 (v664 : BitVec 32) : Prop :=
  (∀ a, (k1_off77 v664) a + S1x1x64.size a ≤ S1x25088x64.size a)
theorem k1_off77_inb : ∀ (v664 : BitVec 32) (k1_hw77 : k1_chk77 v664), ∀ a, (k1_off77 v664) a + S1x1x64.size a ≤ S1x25088x64.size a := fun v664 k1_hw77 => k1_hw77

def k1_off78 (v673 : BitVec 32) : Fin 3 → Nat :=
  let c0_450 : Index := 0#32
  let v674 : Index := Scalar.indexCast v673
  let c0_451 : Index := 0#32
  ![0, v674.toNat, 0]

def k1_chk78 (v673 : BitVec 32) : Prop :=
  (∀ a, (k1_off78 v673) a + S1x1x64.size a ≤ S1x25088x64.size a)
theorem k1_off78_inb : ∀ (v673 : BitVec 32) (k1_hw78 : k1_chk78 v673), ∀ a, (k1_off78 v673) a + S1x1x64.size a ≤ S1x25088x64.size a := fun v673 k1_hw78 => k1_hw78

def k1_off79 (v682 : BitVec 32) : Fin 3 → Nat :=
  let c0_456 : Index := 0#32
  let v683 : Index := Scalar.indexCast v682
  let c0_457 : Index := 0#32
  ![0, v683.toNat, 0]

def k1_chk79 (v682 : BitVec 32) : Prop :=
  (∀ a, (k1_off79 v682) a + S1x1x64.size a ≤ S1x25088x64.size a)
theorem k1_off79_inb : ∀ (v682 : BitVec 32) (k1_hw79 : k1_chk79 v682), ∀ a, (k1_off79 v682) a + S1x1x64.size a ≤ S1x25088x64.size a := fun v682 k1_hw79 => k1_hw79

def k1_off80 (v691 : BitVec 32) : Fin 3 → Nat :=
  let c0_462 : Index := 0#32
  let v692 : Index := Scalar.indexCast v691
  let c0_463 : Index := 0#32
  ![0, v692.toNat, 0]

def k1_chk80 (v691 : BitVec 32) : Prop :=
  (∀ a, (k1_off80 v691) a + S1x1x64.size a ≤ S1x25088x64.size a)
theorem k1_off80_inb : ∀ (v691 : BitVec 32) (k1_hw80 : k1_chk80 v691), ∀ a, (k1_off80 v691) a + S1x1x64.size a ≤ S1x25088x64.size a := fun v691 k1_hw80 => k1_hw80

def k1_off81 (v700 : BitVec 32) : Fin 3 → Nat :=
  let c0_468 : Index := 0#32
  let v701 : Index := Scalar.indexCast v700
  let c0_469 : Index := 0#32
  ![0, v701.toNat, 0]

def k1_chk81 (v700 : BitVec 32) : Prop :=
  (∀ a, (k1_off81 v700) a + S1x1x64.size a ≤ S1x25088x64.size a)
theorem k1_off81_inb : ∀ (v700 : BitVec 32) (k1_hw81 : k1_chk81 v700), ∀ a, (k1_off81 v700) a + S1x1x64.size a ≤ S1x25088x64.size a := fun v700 k1_hw81 => k1_hw81

def k1_off82 (v705 : BitVec 32) : Fin 3 → Nat :=
  let c0_474 : Index := 0#32
  let v706 : Index := Scalar.indexCast v705
  let c0_475 : Index := 0#32
  ![0, v706.toNat, 0]

def k1_chk82 (v705 : BitVec 32) : Prop :=
  (∀ a, (k1_off82 v705) a + S1x1x64.size a ≤ S1x25088x64.size a)
theorem k1_off82_inb : ∀ (v705 : BitVec 32) (k1_hw82 : k1_chk82 v705), ∀ a, (k1_off82 v705) a + S1x1x64.size a ≤ S1x25088x64.size a := fun v705 k1_hw82 => k1_hw82

def k1_off83 (v714 : BitVec 32) : Fin 3 → Nat :=
  let c0_480 : Index := 0#32
  let v715 : Index := Scalar.indexCast v714
  let c0_481 : Index := 0#32
  ![0, v715.toNat, 0]

def k1_chk83 (v714 : BitVec 32) : Prop :=
  (∀ a, (k1_off83 v714) a + S1x1x64.size a ≤ S1x25088x64.size a)
theorem k1_off83_inb : ∀ (v714 : BitVec 32) (k1_hw83 : k1_chk83 v714), ∀ a, (k1_off83 v714) a + S1x1x64.size a ≤ S1x25088x64.size a := fun v714 k1_hw83 => k1_hw83

def k1_off84 (v723 : BitVec 32) : Fin 3 → Nat :=
  let c0_486 : Index := 0#32
  let v724 : Index := Scalar.indexCast v723
  let c0_487 : Index := 0#32
  ![0, v724.toNat, 0]

def k1_chk84 (v723 : BitVec 32) : Prop :=
  (∀ a, (k1_off84 v723) a + S1x1x64.size a ≤ S1x25088x64.size a)
theorem k1_off84_inb : ∀ (v723 : BitVec 32) (k1_hw84 : k1_chk84 v723), ∀ a, (k1_off84 v723) a + S1x1x64.size a ≤ S1x25088x64.size a := fun v723 k1_hw84 => k1_hw84

def k1_off85 (v732 : BitVec 32) : Fin 3 → Nat :=
  let c0_492 : Index := 0#32
  let v733 : Index := Scalar.indexCast v732
  let c0_493 : Index := 0#32
  ![0, v733.toNat, 0]

def k1_chk85 (v732 : BitVec 32) : Prop :=
  (∀ a, (k1_off85 v732) a + S1x1x64.size a ≤ S1x25088x64.size a)
theorem k1_off85_inb : ∀ (v732 : BitVec 32) (k1_hw85 : k1_chk85 v732), ∀ a, (k1_off85 v732) a + S1x1x64.size a ≤ S1x25088x64.size a := fun v732 k1_hw85 => k1_hw85

def k1_off86 (v741 : BitVec 32) : Fin 3 → Nat :=
  let c0_498 : Index := 0#32
  let v742 : Index := Scalar.indexCast v741
  let c0_499 : Index := 0#32
  ![0, v742.toNat, 0]

def k1_chk86 (v741 : BitVec 32) : Prop :=
  (∀ a, (k1_off86 v741) a + S1x1x64.size a ≤ S1x25088x64.size a)
theorem k1_off86_inb : ∀ (v741 : BitVec 32) (k1_hw86 : k1_chk86 v741), ∀ a, (k1_off86 v741) a + S1x1x64.size a ≤ S1x25088x64.size a := fun v741 k1_hw86 => k1_hw86

def k1_off87 (v750 : BitVec 32) : Fin 3 → Nat :=
  let c0_504 : Index := 0#32
  let v751 : Index := Scalar.indexCast v750
  let c0_505 : Index := 0#32
  ![0, v751.toNat, 0]

def k1_chk87 (v750 : BitVec 32) : Prop :=
  (∀ a, (k1_off87 v750) a + S1x1x64.size a ≤ S1x25088x64.size a)
theorem k1_off87_inb : ∀ (v750 : BitVec 32) (k1_hw87 : k1_chk87 v750), ∀ a, (k1_off87 v750) a + S1x1x64.size a ≤ S1x25088x64.size a := fun v750 k1_hw87 => k1_hw87

def k1_off88 (v759 : BitVec 32) : Fin 3 → Nat :=
  let c0_510 : Index := 0#32
  let v760 : Index := Scalar.indexCast v759
  let c0_511 : Index := 0#32
  ![0, v760.toNat, 0]

def k1_chk88 (v759 : BitVec 32) : Prop :=
  (∀ a, (k1_off88 v759) a + S1x1x64.size a ≤ S1x25088x64.size a)
theorem k1_off88_inb : ∀ (v759 : BitVec 32) (k1_hw88 : k1_chk88 v759), ∀ a, (k1_off88 v759) a + S1x1x64.size a ≤ S1x25088x64.size a := fun v759 k1_hw88 => k1_hw88

def k1_off89 (v768 : BitVec 32) : Fin 3 → Nat :=
  let c0_516 : Index := 0#32
  let v769 : Index := Scalar.indexCast v768
  let c0_517 : Index := 0#32
  ![0, v769.toNat, 0]

def k1_chk89 (v768 : BitVec 32) : Prop :=
  (∀ a, (k1_off89 v768) a + S1x1x64.size a ≤ S1x25088x64.size a)
theorem k1_off89_inb : ∀ (v768 : BitVec 32) (k1_hw89 : k1_chk89 v768), ∀ a, (k1_off89 v768) a + S1x1x64.size a ≤ S1x25088x64.size a := fun v768 k1_hw89 => k1_hw89

def k1_off90 (v777 : BitVec 32) : Fin 3 → Nat :=
  let c0_522 : Index := 0#32
  let v778 : Index := Scalar.indexCast v777
  let c0_523 : Index := 0#32
  ![0, v778.toNat, 0]

def k1_chk90 (v777 : BitVec 32) : Prop :=
  (∀ a, (k1_off90 v777) a + S1x1x64.size a ≤ S1x25088x64.size a)
theorem k1_off90_inb : ∀ (v777 : BitVec 32) (k1_hw90 : k1_chk90 v777), ∀ a, (k1_off90 v777) a + S1x1x64.size a ≤ S1x25088x64.size a := fun v777 k1_hw90 => k1_hw90

def k1_off91 (v786 : BitVec 32) : Fin 3 → Nat :=
  let c0_528 : Index := 0#32
  let v787 : Index := Scalar.indexCast v786
  let c0_529 : Index := 0#32
  ![0, v787.toNat, 0]

def k1_chk91 (v786 : BitVec 32) : Prop :=
  (∀ a, (k1_off91 v786) a + S1x1x64.size a ≤ S1x25088x64.size a)
theorem k1_off91_inb : ∀ (v786 : BitVec 32) (k1_hw91 : k1_chk91 v786), ∀ a, (k1_off91 v786) a + S1x1x64.size a ≤ S1x25088x64.size a := fun v786 k1_hw91 => k1_hw91

def k1_off92 (v795 : BitVec 32) : Fin 3 → Nat :=
  let c0_534 : Index := 0#32
  let v796 : Index := Scalar.indexCast v795
  let c0_535 : Index := 0#32
  ![0, v796.toNat, 0]

def k1_chk92 (v795 : BitVec 32) : Prop :=
  (∀ a, (k1_off92 v795) a + S1x1x64.size a ≤ S1x25088x64.size a)
theorem k1_off92_inb : ∀ (v795 : BitVec 32) (k1_hw92 : k1_chk92 v795), ∀ a, (k1_off92 v795) a + S1x1x64.size a ≤ S1x25088x64.size a := fun v795 k1_hw92 => k1_hw92

def k1_off93 (v804 : BitVec 32) : Fin 3 → Nat :=
  let c0_540 : Index := 0#32
  let v805 : Index := Scalar.indexCast v804
  let c0_541 : Index := 0#32
  ![0, v805.toNat, 0]

def k1_chk93 (v804 : BitVec 32) : Prop :=
  (∀ a, (k1_off93 v804) a + S1x1x64.size a ≤ S1x25088x64.size a)
theorem k1_off93_inb : ∀ (v804 : BitVec 32) (k1_hw93 : k1_chk93 v804), ∀ a, (k1_off93 v804) a + S1x1x64.size a ≤ S1x25088x64.size a := fun v804 k1_hw93 => k1_hw93

def k1_off94 (v813 : BitVec 32) : Fin 3 → Nat :=
  let c0_546 : Index := 0#32
  let v814 : Index := Scalar.indexCast v813
  let c0_547 : Index := 0#32
  ![0, v814.toNat, 0]

def k1_chk94 (v813 : BitVec 32) : Prop :=
  (∀ a, (k1_off94 v813) a + S1x1x64.size a ≤ S1x25088x64.size a)
theorem k1_off94_inb : ∀ (v813 : BitVec 32) (k1_hw94 : k1_chk94 v813), ∀ a, (k1_off94 v813) a + S1x1x64.size a ≤ S1x25088x64.size a := fun v813 k1_hw94 => k1_hw94

def k1_off95 (v822 : BitVec 32) : Fin 3 → Nat :=
  let c0_552 : Index := 0#32
  let v823 : Index := Scalar.indexCast v822
  let c0_553 : Index := 0#32
  ![0, v823.toNat, 0]

def k1_chk95 (v822 : BitVec 32) : Prop :=
  (∀ a, (k1_off95 v822) a + S1x1x64.size a ≤ S1x25088x64.size a)
theorem k1_off95_inb : ∀ (v822 : BitVec 32) (k1_hw95 : k1_chk95 v822), ∀ a, (k1_off95 v822) a + S1x1x64.size a ≤ S1x25088x64.size a := fun v822 k1_hw95 => k1_hw95

def k1_off96 (v831 : BitVec 32) : Fin 3 → Nat :=
  let c0_558 : Index := 0#32
  let v832 : Index := Scalar.indexCast v831
  let c0_559 : Index := 0#32
  ![0, v832.toNat, 0]

def k1_chk96 (v831 : BitVec 32) : Prop :=
  (∀ a, (k1_off96 v831) a + S1x1x64.size a ≤ S1x25088x64.size a)
theorem k1_off96_inb : ∀ (v831 : BitVec 32) (k1_hw96 : k1_chk96 v831), ∀ a, (k1_off96 v831) a + S1x1x64.size a ≤ S1x25088x64.size a := fun v831 k1_hw96 => k1_hw96

def k1_off97 (v840 : BitVec 32) : Fin 3 → Nat :=
  let c0_564 : Index := 0#32
  let v841 : Index := Scalar.indexCast v840
  let c0_565 : Index := 0#32
  ![0, v841.toNat, 0]

def k1_chk97 (v840 : BitVec 32) : Prop :=
  (∀ a, (k1_off97 v840) a + S1x1x64.size a ≤ S1x25088x64.size a)
theorem k1_off97_inb : ∀ (v840 : BitVec 32) (k1_hw97 : k1_chk97 v840), ∀ a, (k1_off97 v840) a + S1x1x64.size a ≤ S1x25088x64.size a := fun v840 k1_hw97 => k1_hw97

def k1_off98 (v845 : BitVec 32) : Fin 3 → Nat :=
  let c0_570 : Index := 0#32
  let v846 : Index := Scalar.indexCast v845
  let c0_571 : Index := 0#32
  ![0, v846.toNat, 0]

def k1_chk98 (v845 : BitVec 32) : Prop :=
  (∀ a, (k1_off98 v845) a + S1x1x64.size a ≤ S1x25088x64.size a)
theorem k1_off98_inb : ∀ (v845 : BitVec 32) (k1_hw98 : k1_chk98 v845), ∀ a, (k1_off98 v845) a + S1x1x64.size a ≤ S1x25088x64.size a := fun v845 k1_hw98 => k1_hw98

def k1_off99 (v854 : BitVec 32) : Fin 3 → Nat :=
  let c0_576 : Index := 0#32
  let v855 : Index := Scalar.indexCast v854
  let c0_577 : Index := 0#32
  ![0, v855.toNat, 0]

def k1_chk99 (v854 : BitVec 32) : Prop :=
  (∀ a, (k1_off99 v854) a + S1x1x64.size a ≤ S1x25088x64.size a)
theorem k1_off99_inb : ∀ (v854 : BitVec 32) (k1_hw99 : k1_chk99 v854), ∀ a, (k1_off99 v854) a + S1x1x64.size a ≤ S1x25088x64.size a := fun v854 k1_hw99 => k1_hw99

def k1_off100 (v863 : BitVec 32) : Fin 3 → Nat :=
  let c0_582 : Index := 0#32
  let v864 : Index := Scalar.indexCast v863
  let c0_583 : Index := 0#32
  ![0, v864.toNat, 0]

def k1_chk100 (v863 : BitVec 32) : Prop :=
  (∀ a, (k1_off100 v863) a + S1x1x64.size a ≤ S1x25088x64.size a)
theorem k1_off100_inb : ∀ (v863 : BitVec 32) (k1_hw100 : k1_chk100 v863), ∀ a, (k1_off100 v863) a + S1x1x64.size a ≤ S1x25088x64.size a := fun v863 k1_hw100 => k1_hw100

def k1_off101 (v872 : BitVec 32) : Fin 3 → Nat :=
  let c0_588 : Index := 0#32
  let v873 : Index := Scalar.indexCast v872
  let c0_589 : Index := 0#32
  ![0, v873.toNat, 0]

def k1_chk101 (v872 : BitVec 32) : Prop :=
  (∀ a, (k1_off101 v872) a + S1x1x64.size a ≤ S1x25088x64.size a)
theorem k1_off101_inb : ∀ (v872 : BitVec 32) (k1_hw101 : k1_chk101 v872), ∀ a, (k1_off101 v872) a + S1x1x64.size a ≤ S1x25088x64.size a := fun v872 k1_hw101 => k1_hw101

def k1_off102 (v881 : BitVec 32) : Fin 3 → Nat :=
  let c0_594 : Index := 0#32
  let v882 : Index := Scalar.indexCast v881
  let c0_595 : Index := 0#32
  ![0, v882.toNat, 0]

def k1_chk102 (v881 : BitVec 32) : Prop :=
  (∀ a, (k1_off102 v881) a + S1x1x64.size a ≤ S1x25088x64.size a)
theorem k1_off102_inb : ∀ (v881 : BitVec 32) (k1_hw102 : k1_chk102 v881), ∀ a, (k1_off102 v881) a + S1x1x64.size a ≤ S1x25088x64.size a := fun v881 k1_hw102 => k1_hw102

def k1_off103 (v890 : BitVec 32) : Fin 3 → Nat :=
  let c0_600 : Index := 0#32
  let v891 : Index := Scalar.indexCast v890
  let c0_601 : Index := 0#32
  ![0, v891.toNat, 0]

def k1_chk103 (v890 : BitVec 32) : Prop :=
  (∀ a, (k1_off103 v890) a + S1x1x64.size a ≤ S1x25088x64.size a)
theorem k1_off103_inb : ∀ (v890 : BitVec 32) (k1_hw103 : k1_chk103 v890), ∀ a, (k1_off103 v890) a + S1x1x64.size a ≤ S1x25088x64.size a := fun v890 k1_hw103 => k1_hw103

def k1_off104 (v899 : BitVec 32) : Fin 3 → Nat :=
  let c0_606 : Index := 0#32
  let v900 : Index := Scalar.indexCast v899
  let c0_607 : Index := 0#32
  ![0, v900.toNat, 0]

def k1_chk104 (v899 : BitVec 32) : Prop :=
  (∀ a, (k1_off104 v899) a + S1x1x64.size a ≤ S1x25088x64.size a)
theorem k1_off104_inb : ∀ (v899 : BitVec 32) (k1_hw104 : k1_chk104 v899), ∀ a, (k1_off104 v899) a + S1x1x64.size a ≤ S1x25088x64.size a := fun v899 k1_hw104 => k1_hw104

def k1_off105 (v908 : BitVec 32) : Fin 3 → Nat :=
  let c0_612 : Index := 0#32
  let v909 : Index := Scalar.indexCast v908
  let c0_613 : Index := 0#32
  ![0, v909.toNat, 0]

def k1_chk105 (v908 : BitVec 32) : Prop :=
  (∀ a, (k1_off105 v908) a + S1x1x64.size a ≤ S1x25088x64.size a)
theorem k1_off105_inb : ∀ (v908 : BitVec 32) (k1_hw105 : k1_chk105 v908), ∀ a, (k1_off105 v908) a + S1x1x64.size a ≤ S1x25088x64.size a := fun v908 k1_hw105 => k1_hw105

def k1_off106 (v917 : BitVec 32) : Fin 3 → Nat :=
  let c0_618 : Index := 0#32
  let v918 : Index := Scalar.indexCast v917
  let c0_619 : Index := 0#32
  ![0, v918.toNat, 0]

def k1_chk106 (v917 : BitVec 32) : Prop :=
  (∀ a, (k1_off106 v917) a + S1x1x64.size a ≤ S1x25088x64.size a)
theorem k1_off106_inb : ∀ (v917 : BitVec 32) (k1_hw106 : k1_chk106 v917), ∀ a, (k1_off106 v917) a + S1x1x64.size a ≤ S1x25088x64.size a := fun v917 k1_hw106 => k1_hw106

def k1_off107 (v926 : BitVec 32) : Fin 3 → Nat :=
  let c0_624 : Index := 0#32
  let v927 : Index := Scalar.indexCast v926
  let c0_625 : Index := 0#32
  ![0, v927.toNat, 0]

def k1_chk107 (v926 : BitVec 32) : Prop :=
  (∀ a, (k1_off107 v926) a + S1x1x64.size a ≤ S1x25088x64.size a)
theorem k1_off107_inb : ∀ (v926 : BitVec 32) (k1_hw107 : k1_chk107 v926), ∀ a, (k1_off107 v926) a + S1x1x64.size a ≤ S1x25088x64.size a := fun v926 k1_hw107 => k1_hw107

def k1_off108 (v935 : BitVec 32) : Fin 3 → Nat :=
  let c0_630 : Index := 0#32
  let v936 : Index := Scalar.indexCast v935
  let c0_631 : Index := 0#32
  ![0, v936.toNat, 0]

def k1_chk108 (v935 : BitVec 32) : Prop :=
  (∀ a, (k1_off108 v935) a + S1x1x64.size a ≤ S1x25088x64.size a)
theorem k1_off108_inb : ∀ (v935 : BitVec 32) (k1_hw108 : k1_chk108 v935), ∀ a, (k1_off108 v935) a + S1x1x64.size a ≤ S1x25088x64.size a := fun v935 k1_hw108 => k1_hw108

def k1_off109 (v944 : BitVec 32) : Fin 3 → Nat :=
  let c0_636 : Index := 0#32
  let v945 : Index := Scalar.indexCast v944
  let c0_637 : Index := 0#32
  ![0, v945.toNat, 0]

def k1_chk109 (v944 : BitVec 32) : Prop :=
  (∀ a, (k1_off109 v944) a + S1x1x64.size a ≤ S1x25088x64.size a)
theorem k1_off109_inb : ∀ (v944 : BitVec 32) (k1_hw109 : k1_chk109 v944), ∀ a, (k1_off109 v944) a + S1x1x64.size a ≤ S1x25088x64.size a := fun v944 k1_hw109 => k1_hw109

def k1_off110 (v953 : BitVec 32) : Fin 3 → Nat :=
  let c0_642 : Index := 0#32
  let v954 : Index := Scalar.indexCast v953
  let c0_643 : Index := 0#32
  ![0, v954.toNat, 0]

def k1_chk110 (v953 : BitVec 32) : Prop :=
  (∀ a, (k1_off110 v953) a + S1x1x64.size a ≤ S1x25088x64.size a)
theorem k1_off110_inb : ∀ (v953 : BitVec 32) (k1_hw110 : k1_chk110 v953), ∀ a, (k1_off110 v953) a + S1x1x64.size a ≤ S1x25088x64.size a := fun v953 k1_hw110 => k1_hw110

def k1_off111 (v962 : BitVec 32) : Fin 3 → Nat :=
  let c0_648 : Index := 0#32
  let v963 : Index := Scalar.indexCast v962
  let c0_649 : Index := 0#32
  ![0, v963.toNat, 0]

def k1_chk111 (v962 : BitVec 32) : Prop :=
  (∀ a, (k1_off111 v962) a + S1x1x64.size a ≤ S1x25088x64.size a)
theorem k1_off111_inb : ∀ (v962 : BitVec 32) (k1_hw111 : k1_chk111 v962), ∀ a, (k1_off111 v962) a + S1x1x64.size a ≤ S1x25088x64.size a := fun v962 k1_hw111 => k1_hw111

def k1_off112 (v971 : BitVec 32) : Fin 3 → Nat :=
  let c0_654 : Index := 0#32
  let v972 : Index := Scalar.indexCast v971
  let c0_655 : Index := 0#32
  ![0, v972.toNat, 0]

def k1_chk112 (v971 : BitVec 32) : Prop :=
  (∀ a, (k1_off112 v971) a + S1x1x64.size a ≤ S1x25088x64.size a)
theorem k1_off112_inb : ∀ (v971 : BitVec 32) (k1_hw112 : k1_chk112 v971), ∀ a, (k1_off112 v971) a + S1x1x64.size a ≤ S1x25088x64.size a := fun v971 k1_hw112 => k1_hw112

def k1_off113 (v980 : BitVec 32) : Fin 3 → Nat :=
  let c0_660 : Index := 0#32
  let v981 : Index := Scalar.indexCast v980
  let c0_661 : Index := 0#32
  ![0, v981.toNat, 0]

def k1_chk113 (v980 : BitVec 32) : Prop :=
  (∀ a, (k1_off113 v980) a + S1x1x64.size a ≤ S1x25088x64.size a)
theorem k1_off113_inb : ∀ (v980 : BitVec 32) (k1_hw113 : k1_chk113 v980), ∀ a, (k1_off113 v980) a + S1x1x64.size a ≤ S1x25088x64.size a := fun v980 k1_hw113 => k1_hw113

def k1_off114 (v985 : BitVec 32) : Fin 3 → Nat :=
  let c0_666 : Index := 0#32
  let v986 : Index := Scalar.indexCast v985
  let c0_667 : Index := 0#32
  ![0, v986.toNat, 0]

def k1_chk114 (v985 : BitVec 32) : Prop :=
  (∀ a, (k1_off114 v985) a + S1x1x64.size a ≤ S1x25088x64.size a)
theorem k1_off114_inb : ∀ (v985 : BitVec 32) (k1_hw114 : k1_chk114 v985), ∀ a, (k1_off114 v985) a + S1x1x64.size a ≤ S1x25088x64.size a := fun v985 k1_hw114 => k1_hw114

def k1_off115 (v994 : BitVec 32) : Fin 3 → Nat :=
  let c0_672 : Index := 0#32
  let v995 : Index := Scalar.indexCast v994
  let c0_673 : Index := 0#32
  ![0, v995.toNat, 0]

def k1_chk115 (v994 : BitVec 32) : Prop :=
  (∀ a, (k1_off115 v994) a + S1x1x64.size a ≤ S1x25088x64.size a)
theorem k1_off115_inb : ∀ (v994 : BitVec 32) (k1_hw115 : k1_chk115 v994), ∀ a, (k1_off115 v994) a + S1x1x64.size a ≤ S1x25088x64.size a := fun v994 k1_hw115 => k1_hw115

def k1_off116 (v1003 : BitVec 32) : Fin 3 → Nat :=
  let c0_678 : Index := 0#32
  let v1004 : Index := Scalar.indexCast v1003
  let c0_679 : Index := 0#32
  ![0, v1004.toNat, 0]

def k1_chk116 (v1003 : BitVec 32) : Prop :=
  (∀ a, (k1_off116 v1003) a + S1x1x64.size a ≤ S1x25088x64.size a)
theorem k1_off116_inb : ∀ (v1003 : BitVec 32) (k1_hw116 : k1_chk116 v1003), ∀ a, (k1_off116 v1003) a + S1x1x64.size a ≤ S1x25088x64.size a := fun v1003 k1_hw116 => k1_hw116

def k1_off117 (v1012 : BitVec 32) : Fin 3 → Nat :=
  let c0_684 : Index := 0#32
  let v1013 : Index := Scalar.indexCast v1012
  let c0_685 : Index := 0#32
  ![0, v1013.toNat, 0]

def k1_chk117 (v1012 : BitVec 32) : Prop :=
  (∀ a, (k1_off117 v1012) a + S1x1x64.size a ≤ S1x25088x64.size a)
theorem k1_off117_inb : ∀ (v1012 : BitVec 32) (k1_hw117 : k1_chk117 v1012), ∀ a, (k1_off117 v1012) a + S1x1x64.size a ≤ S1x25088x64.size a := fun v1012 k1_hw117 => k1_hw117

def k1_off118 (v1021 : BitVec 32) : Fin 3 → Nat :=
  let c0_690 : Index := 0#32
  let v1022 : Index := Scalar.indexCast v1021
  let c0_691 : Index := 0#32
  ![0, v1022.toNat, 0]

def k1_chk118 (v1021 : BitVec 32) : Prop :=
  (∀ a, (k1_off118 v1021) a + S1x1x64.size a ≤ S1x25088x64.size a)
theorem k1_off118_inb : ∀ (v1021 : BitVec 32) (k1_hw118 : k1_chk118 v1021), ∀ a, (k1_off118 v1021) a + S1x1x64.size a ≤ S1x25088x64.size a := fun v1021 k1_hw118 => k1_hw118

def k1_off119 (v1030 : BitVec 32) : Fin 3 → Nat :=
  let c0_696 : Index := 0#32
  let v1031 : Index := Scalar.indexCast v1030
  let c0_697 : Index := 0#32
  ![0, v1031.toNat, 0]

def k1_chk119 (v1030 : BitVec 32) : Prop :=
  (∀ a, (k1_off119 v1030) a + S1x1x64.size a ≤ S1x25088x64.size a)
theorem k1_off119_inb : ∀ (v1030 : BitVec 32) (k1_hw119 : k1_chk119 v1030), ∀ a, (k1_off119 v1030) a + S1x1x64.size a ≤ S1x25088x64.size a := fun v1030 k1_hw119 => k1_hw119

def k1_off120 (v1039 : BitVec 32) : Fin 3 → Nat :=
  let c0_702 : Index := 0#32
  let v1040 : Index := Scalar.indexCast v1039
  let c0_703 : Index := 0#32
  ![0, v1040.toNat, 0]

def k1_chk120 (v1039 : BitVec 32) : Prop :=
  (∀ a, (k1_off120 v1039) a + S1x1x64.size a ≤ S1x25088x64.size a)
theorem k1_off120_inb : ∀ (v1039 : BitVec 32) (k1_hw120 : k1_chk120 v1039), ∀ a, (k1_off120 v1039) a + S1x1x64.size a ≤ S1x25088x64.size a := fun v1039 k1_hw120 => k1_hw120

def k1_off121 (v1048 : BitVec 32) : Fin 3 → Nat :=
  let c0_708 : Index := 0#32
  let v1049 : Index := Scalar.indexCast v1048
  let c0_709 : Index := 0#32
  ![0, v1049.toNat, 0]

def k1_chk121 (v1048 : BitVec 32) : Prop :=
  (∀ a, (k1_off121 v1048) a + S1x1x64.size a ≤ S1x25088x64.size a)
theorem k1_off121_inb : ∀ (v1048 : BitVec 32) (k1_hw121 : k1_chk121 v1048), ∀ a, (k1_off121 v1048) a + S1x1x64.size a ≤ S1x25088x64.size a := fun v1048 k1_hw121 => k1_hw121

def k1_off122 (v1057 : BitVec 32) : Fin 3 → Nat :=
  let c0_714 : Index := 0#32
  let v1058 : Index := Scalar.indexCast v1057
  let c0_715 : Index := 0#32
  ![0, v1058.toNat, 0]

def k1_chk122 (v1057 : BitVec 32) : Prop :=
  (∀ a, (k1_off122 v1057) a + S1x1x64.size a ≤ S1x25088x64.size a)
theorem k1_off122_inb : ∀ (v1057 : BitVec 32) (k1_hw122 : k1_chk122 v1057), ∀ a, (k1_off122 v1057) a + S1x1x64.size a ≤ S1x25088x64.size a := fun v1057 k1_hw122 => k1_hw122

def k1_off123 (v1066 : BitVec 32) : Fin 3 → Nat :=
  let c0_720 : Index := 0#32
  let v1067 : Index := Scalar.indexCast v1066
  let c0_721 : Index := 0#32
  ![0, v1067.toNat, 0]

def k1_chk123 (v1066 : BitVec 32) : Prop :=
  (∀ a, (k1_off123 v1066) a + S1x1x64.size a ≤ S1x25088x64.size a)
theorem k1_off123_inb : ∀ (v1066 : BitVec 32) (k1_hw123 : k1_chk123 v1066), ∀ a, (k1_off123 v1066) a + S1x1x64.size a ≤ S1x25088x64.size a := fun v1066 k1_hw123 => k1_hw123

def k1_off124 (v1075 : BitVec 32) : Fin 3 → Nat :=
  let c0_726 : Index := 0#32
  let v1076 : Index := Scalar.indexCast v1075
  let c0_727 : Index := 0#32
  ![0, v1076.toNat, 0]

def k1_chk124 (v1075 : BitVec 32) : Prop :=
  (∀ a, (k1_off124 v1075) a + S1x1x64.size a ≤ S1x25088x64.size a)
theorem k1_off124_inb : ∀ (v1075 : BitVec 32) (k1_hw124 : k1_chk124 v1075), ∀ a, (k1_off124 v1075) a + S1x1x64.size a ≤ S1x25088x64.size a := fun v1075 k1_hw124 => k1_hw124

def k1_off125 (v1084 : BitVec 32) : Fin 3 → Nat :=
  let c0_732 : Index := 0#32
  let v1085 : Index := Scalar.indexCast v1084
  let c0_733 : Index := 0#32
  ![0, v1085.toNat, 0]

def k1_chk125 (v1084 : BitVec 32) : Prop :=
  (∀ a, (k1_off125 v1084) a + S1x1x64.size a ≤ S1x25088x64.size a)
theorem k1_off125_inb : ∀ (v1084 : BitVec 32) (k1_hw125 : k1_chk125 v1084), ∀ a, (k1_off125 v1084) a + S1x1x64.size a ≤ S1x25088x64.size a := fun v1084 k1_hw125 => k1_hw125

def k1_off126 (v1093 : BitVec 32) : Fin 3 → Nat :=
  let c0_738 : Index := 0#32
  let v1094 : Index := Scalar.indexCast v1093
  let c0_739 : Index := 0#32
  ![0, v1094.toNat, 0]

def k1_chk126 (v1093 : BitVec 32) : Prop :=
  (∀ a, (k1_off126 v1093) a + S1x1x64.size a ≤ S1x25088x64.size a)
theorem k1_off126_inb : ∀ (v1093 : BitVec 32) (k1_hw126 : k1_chk126 v1093), ∀ a, (k1_off126 v1093) a + S1x1x64.size a ≤ S1x25088x64.size a := fun v1093 k1_hw126 => k1_hw126

def k1_off127 (v1102 : BitVec 32) : Fin 3 → Nat :=
  let c0_744 : Index := 0#32
  let v1103 : Index := Scalar.indexCast v1102
  let c0_745 : Index := 0#32
  ![0, v1103.toNat, 0]

def k1_chk127 (v1102 : BitVec 32) : Prop :=
  (∀ a, (k1_off127 v1102) a + S1x1x64.size a ≤ S1x25088x64.size a)
theorem k1_off127_inb : ∀ (v1102 : BitVec 32) (k1_hw127 : k1_chk127 v1102), ∀ a, (k1_off127 v1102) a + S1x1x64.size a ≤ S1x25088x64.size a := fun v1102 k1_hw127 => k1_hw127

def k1_off128 (v1111 : BitVec 32) : Fin 3 → Nat :=
  let c0_750 : Index := 0#32
  let v1112 : Index := Scalar.indexCast v1111
  let c0_751 : Index := 0#32
  ![0, v1112.toNat, 0]

def k1_chk128 (v1111 : BitVec 32) : Prop :=
  (∀ a, (k1_off128 v1111) a + S1x1x64.size a ≤ S1x25088x64.size a)
theorem k1_off128_inb : ∀ (v1111 : BitVec 32) (k1_hw128 : k1_chk128 v1111), ∀ a, (k1_off128 v1111) a + S1x1x64.size a ≤ S1x25088x64.size a := fun v1111 k1_hw128 => k1_hw128

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .smem S1x1x8x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x25088x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := .none

abbrev stage2_0 : Fin 1 → Memref sig .tc .vmem S6272x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S6272x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S6272x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S6272x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S6272x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S6272x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S6272x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S6272x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
-- ==== Reference3Ideal.lean ====
abbrev S100000x3 : Shape := ⟨2, ![100000, 3]⟩
abbrev S100000x32 : Shape := ⟨2, ![100000, 32]⟩
abbrev S64x35 : Shape := ⟨2, ![64, 35]⟩
abbrev S64 : Shape := ⟨1, ![64]⟩
abbrev S4x1568x3 : Shape := ⟨3, ![4, 1568, 3]⟩
abbrev S4x1568x16 : Shape := ⟨3, ![4, 1568, 16]⟩
abbrev S4x25000x3 : Shape := ⟨3, ![4, 25000, 3]⟩
abbrev S4x25000x32 : Shape := ⟨3, ![4, 25000, 32]⟩
abbrev S4x1562x3 : Shape := ⟨3, ![4, 1562, 3]⟩
abbrev S4 : Shape := ⟨1, ![4]⟩
abbrev S4x1x1 : Shape := ⟨3, ![4, 1, 1]⟩
abbrev S4x1562x16 : Shape := ⟨3, ![4, 1562, 16]⟩
abbrev S4x1562x16x1 : Shape := ⟨4, ![4, 1562, 16, 1]⟩
abbrev S4x1562x16x2 : Shape := ⟨4, ![4, 1562, 16, 2]⟩
abbrev S4x1562x16x3 : Shape := ⟨4, ![4, 1562, 16, 3]⟩
abbrev S4x1562x1x3 : Shape := ⟨4, ![4, 1562, 1, 3]⟩
abbrev S4x1562x16x32 : Shape := ⟨4, ![4, 1562, 16, 32]⟩
abbrev S4x1562x16x35 : Shape := ⟨4, ![4, 1562, 16, 35]⟩
abbrev S6248x16x35 : Shape := ⟨3, ![6248, 16, 35]⟩
abbrev S6248x16x64 : Shape := ⟨3, ![6248, 16, 64]⟩
abbrev S6248x64x16 : Shape := ⟨3, ![6248, 64, 16]⟩
abbrev S_ : Shape := ⟨0, ![]⟩
abbrev S1x64x1 : Shape := ⟨3, ![1, 64, 1]⟩
abbrev S6248x64 : Shape := ⟨2, ![6248, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x32, .f32⟩
  | .hbm, ⟨2, _⟩ => ⟨S64x35, .f32⟩
  | .hbm, ⟨3, _⟩ => ⟨S64, .f32⟩
  | .hbm, ⟨4, _⟩ => ⟨S64, .f32⟩
  | .hbm, ⟨5, _⟩ => ⟨S4x1568x3, .f32⟩
  | .hbm, ⟨6, _⟩ => ⟨S4x1568x16, .i32⟩
  | .hbm, ⟨7, _⟩ => ⟨S4x25000x3, .f32⟩
  | .hbm, ⟨8, _⟩ => ⟨S4x25000x32, .f32⟩
  | .hbm, ⟨9, _⟩ => ⟨S4x1562x3, .f32⟩
  | .hbm, ⟨10, _⟩ => ⟨S4, .i32⟩
  | .hbm, ⟨11, _⟩ => ⟨S4x1x1, .i32⟩
  | .hbm, ⟨12, _⟩ => ⟨S4x1562x16, .i32⟩
  | .hbm, ⟨13, _⟩ => ⟨S4x1562x16, .i32⟩
  | .hbm, ⟨14, _⟩ => ⟨S4x1562x16x1, .i32⟩
  | .hbm, ⟨15, _⟩ => ⟨S4x1562x16x1, .i32⟩
  | .hbm, ⟨16, _⟩ => ⟨S4x1562x16x2, .i32⟩
  | .hbm, ⟨17, _⟩ => ⟨S4x1562x16x3, .f32⟩
  | .hbm, ⟨18, _⟩ => ⟨S4x1562x1x3, .f32⟩
  | .hbm, ⟨19, _⟩ => ⟨S4x1562x16x3, .f32⟩
  | .hbm, ⟨20, _⟩ => ⟨S4x1562x16x3, .f32⟩
  | .hbm, ⟨21, _⟩ => ⟨S4, .i32⟩
  | .hbm, ⟨22, _⟩ => ⟨S4x1x1, .i32⟩
  | .hbm, ⟨23, _⟩ => ⟨S4x1562x16, .i32⟩
  | .hbm, ⟨24, _⟩ => ⟨S4x1562x16, .i32⟩
  | .hbm, ⟨25, _⟩ => ⟨S4x1562x16x1, .i32⟩
  | .hbm, ⟨26, _⟩ => ⟨S4x1562x16x1, .i32⟩
  | .hbm, ⟨27, _⟩ => ⟨S4x1562x16x2, .i32⟩
  | .hbm, ⟨28, _⟩ => ⟨S4x1562x16x32, .f32⟩
  | .hbm, ⟨29, _⟩ => ⟨S4x1562x16x35, .f32⟩
  | .hbm, ⟨30, _⟩ => ⟨S6248x16x35, .f32⟩
  | .hbm, ⟨31, _⟩ => ⟨S6248x16x64, .f32⟩
  | .hbm, ⟨32, _⟩ => ⟨S6248x64x16, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .i32⟩
  | .hbm, ⟨39, _⟩ => ⟨S_, .f32⟩
  | .hbm, ⟨40, _⟩ => ⟨S64, .f32⟩
  | .hbm, ⟨41, _⟩ => ⟨S1x64x1, .f32⟩
  | .hbm, ⟨42, _⟩ => ⟨S_, .f32⟩
  | .hbm, ⟨43, _⟩ => ⟨S1x64x1, .f32⟩
  | .hbm, ⟨44, _⟩ => ⟨S1x64x1, .f32⟩
  | .hbm, ⟨45, _⟩ => ⟨S6248x64x16, .f32⟩
  | .hbm, ⟨46, _⟩ => ⟨S6248x64x16, .f32⟩
  | .hbm, ⟨47, _⟩ => ⟨S6248x64x16, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S1x64x1, .f32⟩
  | .hbm, ⟨62, _⟩ => ⟨S6248x64x16, .f32⟩
  | .hbm, ⟨63, _⟩ => ⟨S6248x64x16, .f32⟩
  | .hbm, ⟨64, _⟩ => ⟨S1x64x1, .f32⟩
  | .hbm, ⟨65, _⟩ => ⟨S_, .f32⟩
  | .hbm, ⟨66, _⟩ => ⟨S1x64x1, .f32⟩
  | .hbm, ⟨67, _⟩ => ⟨S1x64x1, .f32⟩
  | .hbm, ⟨68, _⟩ => ⟨S1x64x1, .f32⟩
  | .hbm, ⟨69, _⟩ => ⟨S6248x64x16, .f32⟩
  | .hbm, ⟨70, _⟩ => ⟨S6248x64x16, .f32⟩
  | .hbm, ⟨71, _⟩ => ⟨S1x64x1, .f32⟩
  | .hbm, ⟨72, _⟩ => ⟨S6248x64x16, .f32⟩
  | .hbm, ⟨73, _⟩ => ⟨S6248x64x16, .f32⟩
  | .hbm, ⟨74, _⟩ => ⟨S1x64x1, .f32⟩
  | .hbm, ⟨75, _⟩ => ⟨S6248x64x16, .f32⟩
  | .hbm, ⟨76, _⟩ => ⟨S6248x64x16, .f32⟩
  | .hbm, ⟨77, _⟩ => ⟨S_, .f32⟩
  | .hbm, ⟨78, _⟩ => ⟨S6248x64x16, .f32⟩
  | .hbm, ⟨79, _⟩ => ⟨S6248x64x16, .f32⟩
  | .hbm, ⟨80, _⟩ => ⟨S_, .f32⟩
  | .hbm, ⟨81, _⟩ => ⟨S6248x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call1_cst : Ref sig .tc := ⟨.hbm, 77, rfl⟩
abbrev main_call1_v0 : Ref sig .tc := ⟨.hbm, 78, rfl⟩
abbrev main_v45 : Ref sig .tc := ⟨.hbm, 79, rfl⟩
abbrev main_cst_2 : Ref sig .tc := ⟨.hbm, 80, rfl⟩
abbrev main_v46 : Ref sig .tc := ⟨.hbm, 81, rfl⟩

abbrev nD : Nat := 1
abbrev τ : Topo := Topo.v7x

variable {F : FTy → Type} [FloatOps F]
-- ==== Proof.KernelTrip.lean ====
module

public import proofs.«01_k».proof.Defs
public import proofs.«01_k».proof.Proof.Gen.KernelIdeal.Frame
public import Idealize.ShloMosaic.Lib.Pipeline.Value
public import Idealize.ShloMosaic.Lib.WritesUnit
public import Idealize.ShloMosaic.Lib.VecWindow
public import Idealize.ShloMosaic.Lib.Tactic

@[expose] public section

/-! # What the sampling kernel's loop computes

The generated run lists what each trip of the kernel's loop writes, as a recursion over the memrefs.  Here the same
recursion is stated on the values alone (`step`, `state`), and the columns of the three outputs are read off it. -/

set_option maxRecDepth 16384

noncomputable section

namespace Cert.KernelIdeal.Value

open Idealize.ShloMosaic Idealize.ShloMosaic.TcCoe Idealize.SL.Sem
open Idealize.ShloMosaic.View (readAt_writes_full read_writes_cons_unit_of_mem read_writes_cons_unit_of_not_mem)
open Cert.KernelIdeal Cert.KernelIdeal.Gen

variable {F : FTy → Type} [FloatOps F]

/-- The point chosen last, per row: its three coordinates. -/
abbrev Q (F : FTy → Type) : Type := FVec F S8x1 .f32 × FVec F S8x1 .f32 × FVec F S8x1 .f32

/-- One trip: the distances are lowered to the distances from the point chosen last, and the next point is chosen. -/
def step (v5 v7 v9 : FVec F S8x12544 .f32) (v30 : IVec S8x12544 32) (v49 : IVec S8x1 1) (s : FVec F S8x12544 .f32 × Q F) :
    FVec F S8x12544 .f32 × Q F :=
  (k0_pay13 v5 v7 v9 s.2.1 s.2.2.1 s.2.2.2 s.1,
    k0_pay6 v49 (k0_pay15 v5 v7 v9 v30 v49 s.2.1 s.2.2.1 s.2.2.2 s.1) (k0_pay16 v5 v7 v9 v30 v49 s.2.1 s.2.2.1 s.2.2.2 s.1),
    k0_pay7 v7 v49 (k0_pay14 v5 v7 v9 v30 v49 s.2.1 s.2.2.1 s.2.2.2 s.1),
    k0_pay8 v9 v49 (k0_pay14 v5 v7 v9 v30 v49 s.2.1 s.2.2.1 s.2.2.2 s.1))

/-- The distances and the point chosen last after `k` trips, from `s`. -/
def state (v5 v7 v9 : FVec F S8x12544 .f32) (v30 : IVec S8x12544 32) (v49 : IVec S8x1 1) (s : FVec F S8x12544 .f32 × Q F) :
    ℕ → FVec F S8x12544 .f32 × Q F
  | 0 => s
  | k + 1 => step v5 v7 v9 v30 v49 (state v5 v7 v9 v30 v49 s k)

section Trip

variable (𝒱 : Variants) (c : Dev nD) (bd : Option 𝒱.V) (arg0 : Memref sig .tc .vmem S8x12544 .f32) (harg0 : arg0.IsWhole) (arg1 : Memref sig .tc .vmem S8x12544 .f32) (harg1 : arg1.IsWhole) (arg2 : Memref sig .tc .vmem S8x12544 .f32) (harg2 : arg2.IsWhole) (arg3 : Memref sig .tc .vmem S8x1568x1 .f32) (harg3 : arg3.IsWhole) (arg4 : Memref sig .tc .vmem S8x1568x1 .f32) (harg4 : arg4.IsWhole) (arg5 : Memref sig .tc .vmem S8x1568x1 .f32) (harg5 : arg5.IsWhole) (arg6 : Memref sig .tc .vmem S8x12544 .f32) (harg6 : arg6.IsWhole) (v5 : FVec F S8x12544 .f32) (v7 : FVec F S8x12544 .f32) (v9 : FVec F S8x12544 .f32) (v30 : IVec S8x12544 32) (v49 : IVec S8x1 1)

/-- The whole of the scratch buffer, as a trip loads it. -/
abbrev scratch (f6 : BufTy.Contents (Elt F) arg6.view.ty) : FVec F S8x12544 .f32 :=
  View.readAt (Elt F) arg6.view (Rect.unit ![0, 0] S8x12544.size inb_S8x12544_S8x12544_0_0).toLoadRect f6

section One

variable (k : Fin k0_t1_loop.trips) (acc : Q F)
  (f3 : BufTy.Contents (Elt F) arg3.view.ty) (f4 : BufTy.Contents (Elt F) arg4.view.ty) (f5 : BufTy.Contents (Elt F) arg5.view.ty) (f6 : BufTy.Contents (Elt F) arg6.view.ty)

/-- What one trip carries on: the step's chosen point. -/
theorem tripR_eq : tripR_k0_t1 𝒱 c bd arg0 harg0 arg1 harg1 arg2 harg2 arg3 harg3 arg4 harg4 arg5 harg5 arg6 harg6 v5 v7 v9 v30 v49 k acc f3 f4 f5 f6
    = (step v5 v7 v9 v30 v49 (scratch arg6 f6, acc)).2 := by
  unfold tripR_k0_t1 trip_k0_t1
  dsimp only
  sl_unfold_words
  rfl

/-- What one trip stores: a column of each output, and the distances. -/
theorem tripL_eq : tripL_k0_t1 𝒱 c bd arg0 harg0 arg1 harg1 arg2 harg2 arg3 harg3 arg4 harg4 arg5 harg5 arg6 harg6 v5 v7 v9 v30 v49 k acc f3 f4 f5 f6
    = ([⟨Rect.unit (k0_off1 k) S8x1x1.size (k0_off1_inb k), shapeCast S8x1x1 (step v5 v7 v9 v30 v49 (scratch arg6 f6, acc)).2.1 shapeCasts_S8x1_S8x1x1⟩],
      [⟨Rect.unit (k0_off1 k) S8x1x1.size (k0_off1_inb k), shapeCast S8x1x1 (step v5 v7 v9 v30 v49 (scratch arg6 f6, acc)).2.2.1 shapeCasts_S8x1_S8x1x1⟩],
      [⟨Rect.unit (k0_off1 k) S8x1x1.size (k0_off1_inb k), shapeCast S8x1x1 (step v5 v7 v9 v30 v49 (scratch arg6 f6, acc)).2.2.2 shapeCasts_S8x1_S8x1x1⟩],
      [⟨Rect.unit ![0, 0] S8x12544.size inb_S8x12544_S8x12544_0_0, (step v5 v7 v9 v30 v49 (scratch arg6 f6, acc)).1⟩]) := by
  unfold tripL_k0_t1 trip_k0_t1
  dsimp only
  sl_unfold_words
  rfl

end One

variable (G3 : BufTy.Contents (Elt F) arg3.view.ty) (G4 : BufTy.Contents (Elt F) arg4.view.ty) (G5 : BufTy.Contents (Elt F) arg5.view.ty) (G6 : BufTy.Contents (Elt F) arg6.view.ty) (init : Q F)

/-- The generated recursion at this loop's operands. -/
abbrev run (k : ℕ) := st_k0_t1 (F := F) 𝒱 c bd arg0 harg0 arg1 harg1 arg2 harg2 arg3 harg3 arg4 harg4 arg5 harg5 arg6 harg6 v5 v7 v9 v30 v49 G3 G4 G5 G6 init k

/-- The recursion's carried point and scratch buffer are the state's. -/
theorem run_state : ∀ k : ℕ, k ≤ k0_t1_loop.trips →
    (run 𝒱 c bd arg0 harg0 arg1 harg1 arg2 harg2 arg3 harg3 arg4 harg4 arg5 harg5 arg6 harg6 v5 v7 v9 v30 v49 G3 G4 G5 G6 init k).1 = (state v5 v7 v9 v30 v49 (scratch arg6 G6, init) k).2
    ∧ scratch arg6 (arg6.view.writes (Elt F) G6 (run 𝒱 c bd arg0 harg0 arg1 harg1 arg2 harg2 arg3 harg3 arg4 harg4 arg5 harg5 arg6 harg6 v5 v7 v9 v30 v49 G3 G4 G5 G6 init k).2.2.2.2) = (state v5 v7 v9 v30 v49 (scratch arg6 G6, init) k).1
  | 0, _ => ⟨rfl, rfl⟩
  | k + 1, hk => by
    obtain ⟨h1, h2⟩ := run_state k (Nat.le_of_succ_le hk)
    have e := st_k0_t1_succ 𝒱 c bd arg0 harg0 arg1 harg1 arg2 harg2 arg3 harg3 arg4 harg4 arg5 harg5 arg6 harg6 v5 v7 v9 v30 v49 G3 G4 G5 G6 init ⟨k, hk⟩
    refine ⟨?_, ?_⟩
    · rw [show (run 𝒱 c bd arg0 harg0 arg1 harg1 arg2 harg2 arg3 harg3 arg4 harg4 arg5 harg5 arg6 harg6 v5 v7 v9 v30 v49 G3 G4 G5 G6 init (k + 1)) = _ from e]
      show tripR_k0_t1 _ _ _ _ _ _ _ _ _ _ _ _ _ _ _ _ _ _ _ _ _ _ _ _ _ _ _ _ = _
      rw [tripR_eq, h2, h1]
      rfl
    · rw [show (run 𝒱 c bd arg0 harg0 arg1 harg1 arg2 harg2 arg3 harg3 arg4 harg4 arg5 harg5 arg6 harg6 v5 v7 v9 v30 v49 G3 G4 G5 G6 init (k + 1)) = _ from e]
      show scratch arg6 (arg6.view.writes (Elt F) G6 ((tripL_k0_t1 _ _ _ _ _ _ _ _ _ _ _ _ _ _ _ _ _ _ _ _ _ _ _ _ _ _ _ _).2.2.2 ++ _)) = _
      rw [tripL_eq, h2, h1]
      exact readAt_writes_full _ _ _ _ _ _

/-- Output 3's column after `k` trips: the columns that the trips wrote hold the state's chosen points, the others what they held. -/
theorem col3 {κ : Kind} {sp : Space} (v : View sig κ sp S8x1568x1 .f32) (f : v.ty.Contents (Elt F)) (L : List (View.Piece (Elt F) S8x1568x1 .f32))
    (y : S8x1568x1.Idx) (x : S8x1x1.Idx) (hx : (x 0).val = (y 0).val) : ∀ k : ℕ, k ≤ k0_t1_loop.trips →
    v.read (Elt F) (v.writes (Elt F) f ((run 𝒱 c bd arg0 harg0 arg1 harg1 arg2 harg2 arg3 harg3 arg4 harg4 arg5 harg5 arg6 harg6 v5 v7 v9 v30 v49 G3 G4 G5 G6 init k).2.1 ++ L)) y
      = if 1 ≤ (y 1).val ∧ (y 1).val ≤ k then shapeCast S8x1x1 (state v5 v7 v9 v30 v49 (scratch arg6 G6, init) (y 1).val).2.1 shapeCasts_S8x1_S8x1x1 x
        else v.read (Elt F) (v.writes (Elt F) f L) y
  | 0, _ => by rw [if_neg (by omega)]; rfl
  | k + 1, hk => by
    obtain ⟨h1, h2⟩ := run_state 𝒱 c bd arg0 harg0 arg1 harg1 arg2 harg2 arg3 harg3 arg4 harg4 arg5 harg5 arg6 harg6 v5 v7 v9 v30 v49 G3 G4 G5 G6 init k (Nat.le_of_succ_le hk)
    have ih := col3 v f L y x hx k (Nat.le_of_succ_le hk)
    have e := st_k0_t1_succ 𝒱 c bd arg0 harg0 arg1 harg1 arg2 harg2 arg3 harg3 arg4 harg4 arg5 harg5 arg6 harg6 v5 v7 v9 v30 v49 G3 G4 G5 G6 init ⟨k, hk⟩
    rw [show (run 𝒱 c bd arg0 harg0 arg1 harg1 arg2 harg2 arg3 harg3 arg4 harg4 arg5 harg5 arg6 harg6 v5 v7 v9 v30 v49 G3 G4 G5 G6 init (k + 1)) = _ from e]
    show v.read (Elt F) (v.writes (Elt F) f (((tripL_k0_t1 _ _ _ _ _ _ _ _ _ _ _ _ _ _ _ _ _ _ _ _ _ _ _ _ _ _ _ _).1 ++ _) ++ L)) y = _
    rw [tripL_eq, h2, h1]
    by_cases hy : (y 1).val = k + 1
    · rw [if_pos (by omega), hy]
      refine read_writes_cons_unit_of_mem v f _ _ _ y x (k0_off1_eq ⟨k, hk⟩) fun a => ?_
      have x1 : (x 1).val < 1 := (x 1).isLt
      have x2 : (x 2).val < 1 := (x 2).isLt
      have y2 : (y 2).val < 1 := (y 2).isLt
      match a with
      | ⟨0, _⟩ => show (y 0).val = 0 + (x 0).val; omega
      | ⟨1, _⟩ => show (y 1).val = k + 1 + (x 1).val; omega
      | ⟨2, _⟩ => show (y 2).val = 0 + (x 2).val; omega
    · refine (read_writes_cons_unit_of_not_mem v f _ _ _ y (k0_off1_eq ⟨k, hk⟩) 1 ?_).trans (ih.trans ?_)
      · show (y 1).val < k + 1 ∨ k + 1 + 1 ≤ (y 1).val
        omega
      · by_cases hy' : 1 ≤ (y 1).val ∧ (y 1).val ≤ k
        · rw [if_pos hy', if_pos (by omega)]
        · rw [if_neg hy', if_neg (by omega)]

/-- Output 4's column after `k` trips: the columns that the trips wrote hold the state's chosen points, the others what they held. -/
theorem col4 {κ : Kind} {sp : Space} (v : View sig κ sp S8x1568x1 .f32) (f : v.ty.Contents (Elt F)) (L : List (View.Piece (Elt F) S8x1568x1 .f32))
    (y : S8x1568x1.Idx) (x : S8x1x1.Idx) (hx : (x 0).val = (y 0).val) : ∀ k : ℕ, k ≤ k0_t1_loop.trips →
    v.read (Elt F) (v.writes (Elt F) f ((run 𝒱 c bd arg0 harg0 arg1 harg1 arg2 harg2 arg3 harg3 arg4 harg4 arg5 harg5 arg6 harg6 v5 v7 v9 v30 v49 G3 G4 G5 G6 init k).2.2.1 ++ L)) y
      = if 1 ≤ (y 1).val ∧ (y 1).val ≤ k then shapeCast S8x1x1 (state v5 v7 v9 v30 v49 (scratch arg6 G6, init) (y 1).val).2.2.1 shapeCasts_S8x1_S8x1x1 x
        else v.read (Elt F) (v.writes (Elt F) f L) y
  | 0, _ => by rw [if_neg (by omega)]; rfl
  | k + 1, hk => by
    obtain ⟨h1, h2⟩ := run_state 𝒱 c bd arg0 harg0 arg1 harg1 arg2 harg2 arg3 harg3 arg4 harg4 arg5 harg5 arg6 harg6 v5 v7 v9 v30 v49 G3 G4 G5 G6 init k (Nat.le_of_succ_le hk)
    have ih := col4 v f L y x hx k (Nat.le_of_succ_le hk)
    have e := st_k0_t1_succ 𝒱 c bd arg0 harg0 arg1 harg1 arg2 harg2 arg3 harg3 arg4 harg4 arg5 harg5 arg6 harg6 v5 v7 v9 v30 v49 G3 G4 G5 G6 init ⟨k, hk⟩
    rw [show (run 𝒱 c bd arg0 harg0 arg1 harg1 arg2 harg2 arg3 harg3 arg4 harg4 arg5 harg5 arg6 harg6 v5 v7 v9 v30 v49 G3 G4 G5 G6 init (k + 1)) = _ from e]
    show v.read (Elt F) (v.writes (Elt F) f (((tripL_k0_t1 _ _ _ _ _ _ _ _ _ _ _ _ _ _ _ _ _ _ _ _ _ _ _ _ _ _ _ _).2.1 ++ _) ++ L)) y = _
    rw [tripL_eq, h2, h1]
    by_cases hy : (y 1).val = k + 1
    · rw [if_pos (by omega), hy]
      refine read_writes_cons_unit_of_mem v f _ _ _ y x (k0_off1_eq ⟨k, hk⟩) fun a => ?_
      have x1 : (x 1).val < 1 := (x 1).isLt
      have x2 : (x 2).val < 1 := (x 2).isLt
      have y2 : (y 2).val < 1 := (y 2).isLt
      match a with
      | ⟨0, _⟩ => show (y 0).val = 0 + (x 0).val; omega
      | ⟨1, _⟩ => show (y 1).val = k + 1 + (x 1).val; omega
      | ⟨2, _⟩ => show (y 2).val = 0 + (x 2).val; omega
    · refine (read_writes_cons_unit_of_not_mem v f _ _ _ y (k0_off1_eq ⟨k, hk⟩) 1 ?_).trans (ih.trans ?_)
      · show (y 1).val < k + 1 ∨ k + 1 + 1 ≤ (y 1).val
        omega
      · by_cases hy' : 1 ≤ (y 1).val ∧ (y 1).val ≤ k
        · rw [if_pos hy', if_pos (by omega)]
        · rw [if_neg hy', if_neg (by omega)]

/-- Output 5's column after `k` trips: the columns that the trips wrote hold the state's chosen points, the others what they held. -/
theorem col5 {κ : Kind} {sp : Space} (v : View sig κ sp S8x1568x1 .f32) (f : v.ty.Contents (Elt F)) (L : List (View.Piece (Elt F) S8x1568x1 .f32))
    (y : S8x1568x1.Idx) (x : S8x1x1.Idx) (hx : (x 0).val = (y 0).val) : ∀ k : ℕ, k ≤ k0_t1_loop.trips →
    v.read (Elt F) (v.writes (Elt F) f ((run 𝒱 c bd arg0 harg0 arg1 harg1 arg2 harg2 arg3 harg3 arg4 harg4 arg5 harg5 arg6 harg6 v5 v7 v9 v30 v49 G3 G4 G5 G6 init k).2.2.2.1 ++ L)) y
      = if 1 ≤ (y 1).val ∧ (y 1).val ≤ k then shapeCast S8x1x1 (state v5 v7 v9 v30 v49 (scratch arg6 G6, init) (y 1).val).2.2.2 shapeCasts_S8x1_S8x1x1 x
        else v.read (Elt F) (v.writes (Elt F) f L) y
  | 0, _ => by rw [if_neg (by omega)]; rfl
  | k + 1, hk => by
    obtain ⟨h1, h2⟩ := run_state 𝒱 c bd arg0 harg0 arg1 harg1 arg2 harg2 arg3 harg3 arg4 harg4 arg5 harg5 arg6 harg6 v5 v7 v9 v30 v49 G3 G4 G5 G6 init k (Nat.le_of_succ_le hk)
    have ih := col5 v f L y x hx k (Nat.le_of_succ_le hk)
    have e := st_k0_t1_succ 𝒱 c bd arg0 harg0 arg1 harg1 arg2 harg2 arg3 harg3 arg4 harg4 arg5 harg5 arg6 harg6 v5 v7 v9 v30 v49 G3 G4 G5 G6 init ⟨k, hk⟩
    rw [show (run 𝒱 c bd arg0 harg0 arg1 harg1 arg2 harg2 arg3 harg3 arg4 harg4 arg5 harg5 arg6 harg6 v5 v7 v9 v30 v49 G3 G4 G5 G6 init (k + 1)) = _ from e]
    show v.read (Elt F) (v.writes (Elt F) f (((tripL_k0_t1 _ _ _ _ _ _ _ _ _ _ _ _ _ _ _ _ _ _ _ _ _ _ _ _ _ _ _ _).2.2.1 ++ _) ++ L)) y = _
    rw [tripL_eq, h2, h1]
    by_cases hy : (y 1).val = k + 1
    · rw [if_pos (by omega), hy]
      refine read_writes_cons_unit_of_mem v f _ _ _ y x (k0_off1_eq ⟨k, hk⟩) fun a => ?_
      have x1 : (x 1).val < 1 := (x 1).isLt
      have x2 : (x 2).val < 1 := (x 2).isLt
      have y2 : (y 2).val < 1 := (y 2).isLt
      match a with
      | ⟨0, _⟩ => show (y 0).val = 0 + (x 0).val; omega
      | ⟨1, _⟩ => show (y 1).val = k + 1 + (x 1).val; omega
      | ⟨2, _⟩ => show (y 2).val = 0 + (x 2).val; omega
    · refine (read_writes_cons_unit_of_not_mem v f _ _ _ y (k0_off1_eq ⟨k, hk⟩) 1 ?_).trans (ih.trans ?_)
      · show (y 1).val < k + 1 ∨ k + 1 + 1 ≤ (y 1).val
        omega
      · by_cases hy' : 1 ≤ (y 1).val ∧ (y 1).val ≤ k
        · rw [if_pos hy', if_pos (by omega)]
        · rw [if_neg hy', if_neg (by omega)]

end Trip

/-- The mask of the even rows. -/
abbrev evenRow : IVec S8x1 1 := k0_pay22 (iota Kind.tc S8x1 32 [0] iota_S8x1_d0_w32) 2#32 0#32

/-- The state at the loop's entry: the initial distances, and the first point. -/
def state0 (x0 x1 x2 : FVec F S8x12544 .f32) : FVec F S8x12544 .f32 × Q F :=
  (k0_pay23 k0_pay21,
    k0_pay25 x0 k0_pay21 (iota Kind.tc S8x1 32 [0] iota_S8x1_d0_w32) 2#32 0#32,
    k0_pay1 evenRow (k0_pay26 x1 k0_pay21),
    k0_pay2 x2 evenRow (k0_pay24 k0_pay21))

/-- The kernel's state after `k` trips on the block's three inputs. -/
abbrev kState (x0 x1 x2 : FVec F S8x12544 .f32) (k : ℕ) : FVec F S8x12544 .f32 × Q F :=
  state x0 x1 x2 k0_pay21 evenRow (state0 x0 x1 x2) k

theorem trips_eq : k0_t1_loop.trips = 1561 := by decide

theorem hz2 : (![0, 0] : Fin 2 → Nat) = fun _ => 0 := funext fun a => by fin_cases a <;> rfl

/-- Column `(y 1)` of output 3 is the point chosen after `(y 1)` trips. -/
theorem out_3 (c : Dev nD) (arg0 : Memref sig .tc .vmem S8x12544 .f32) (harg0 : arg0.IsWhole) (arg1 : Memref sig .tc .vmem S8x12544 .f32) (harg1 : arg1.IsWhole) (arg2 : Memref sig .tc .vmem S8x12544 .f32) (harg2 : arg2.IsWhole) (arg3 : Memref sig .tc .vmem S8x1568x1 .f32) (harg3 : arg3.IsWhole) (arg4 : Memref sig .tc .vmem S8x1568x1 .f32) (harg4 : arg4.IsWhole) (arg5 : Memref sig .tc .vmem S8x1568x1 .f32) (harg5 : arg5.IsWhole) (arg6 : Memref sig .tc .vmem S8x12544 .f32) (harg6 : arg6.IsWhole)
    (x0 : Vec F S8x12544 .f32) (x1 : Vec F S8x12544 .f32) (x2 : Vec F S8x12544 .f32)
    (y : S8x1568x1.Idx) (x : S8x1x1.Idx) (hx : (x 0).val = (y 0).val) (hy : (y 1).val ≤ 1561) :
    out0_A_3 c arg0 harg0 arg1 harg1 arg2 harg2 arg3 harg3 arg4 harg4 arg5 harg5 arg6 harg6 x0 x1 x2 y = shapeCast S8x1x1 (kState x0 x1 x2 (y 1).val).2.1 shapeCasts_S8x1_S8x1x1 x := by
  unfold out0_A_3 kernelRun0_A
  dsimp only
  sl_unfold_words
  unfold k0_pay18 k0_pay19 k0_pay20
  simp only [View.readAt_eq_ld, harg0.read_unread, harg1.read_unread, harg2.read_unread, View.ld_unit_zero (S := S8x12544) hz2, shapeCast_self]
  refine (col3 _ _ _ arg0 harg0 arg1 harg1 arg2 harg2 arg3 harg3 arg4 harg4 arg5 harg5 arg6 harg6 _ _ _ _ _ _ _ _ _ _ VO0_3 VO0_3.junk _ y x hx _ (le_of_eq rfl)).trans ?_
  have hs : scratch arg6 (arg6.view.writes (Elt F) arg6.view.junk [⟨Rect.unit ![0, 0] ![8, 12544] inb_S8x12544_S8x12544_0_0, k0_pay23 k0_pay21⟩]) = k0_pay23 k0_pay21 :=
    readAt_writes_full _ _ _ _ _ _
  rw [trips_eq, hs]
  by_cases h0 : 1 ≤ (y 1).val
  · rw [if_pos ⟨h0, hy⟩]; rfl
  · rw [if_neg (by omega)]
    have h1 : (y 1).val = 0 := by omega
    rw [h1]
    refine read_writes_cons_unit_of_mem VO0_3 _ _ _ _ y x rfl fun a => ?_
    have x1 : (x 1).val < 1 := (x 1).isLt
    have x2 : (x 2).val < 1 := (x 2).isLt
    have y2 : (y 2).val < 1 := (y 2).isLt
    match a with
    | ⟨0, _⟩ => show (y 0).val = 0 + (x 0).val; omega
    | ⟨1, _⟩ => show (y 1).val = 0 + (x 1).val; omega
    | ⟨2, _⟩ => show (y 2).val = 0 + (x 2).val; omega

/-- Column `(y 1)` of output 4 is the point chosen after `(y 1)` trips. -/
theorem out_4 (c : Dev nD) (arg0 : Memref sig .tc .vmem S8x12544 .f32) (harg0 : arg0.IsWhole) (arg1 : Memref sig .tc .vmem S8x12544 .f32) (harg1 : arg1.IsWhole) (arg2 : Memref sig .tc .vmem S8x12544 .f32) (harg2 : arg2.IsWhole) (arg3 : Memref sig .tc .vmem S8x1568x1 .f32) (harg3 : arg3.IsWhole) (arg4 : Memref sig .tc .vmem S8x1568x1 .f32) (harg4 : arg4.IsWhole) (arg5 : Memref sig .tc .vmem S8x1568x1 .f32) (harg5 : arg5.IsWhole) (arg6 : Memref sig .tc .vmem S8x12544 .f32) (harg6 : arg6.IsWhole)
    (x0 : Vec F S8x12544 .f32) (x1 : Vec F S8x12544 .f32) (x2 : Vec F S8x12544 .f32)
    (y : S8x1568x1.Idx) (x : S8x1x1.Idx) (hx : (x 0).val = (y 0).val) (hy : (y 1).val ≤ 1561) :
    out0_A_4 c arg0 harg0 arg1 harg1 arg2 harg2 arg3 harg3 arg4 harg4 arg5 harg5 arg6 harg6 x0 x1 x2 y = shapeCast S8x1x1 (kState x0 x1 x2 (y 1).val).2.2.1 shapeCasts_S8x1_S8x1x1 x := by
  unfold out0_A_4 kernelRun0_A
  dsimp only
  sl_unfold_words
  unfold k0_pay18 k0_pay19 k0_pay20
  simp only [View.readAt_eq_ld, harg0.read_unread, harg1.read_unread, harg2.read_unread, View.ld_unit_zero (S := S8x12544) hz2, shapeCast_self]
  refine (col4 _ _ _ arg0 harg0 arg1 harg1 arg2 harg2 arg3 harg3 arg4 harg4 arg5 harg5 arg6 harg6 _ _ _ _ _ _ _ _ _ _ VO0_4 VO0_4.junk _ y x hx _ (le_of_eq rfl)).trans ?_
  have hs : scratch arg6 (arg6.view.writes (Elt F) arg6.view.junk [⟨Rect.unit ![0, 0] ![8, 12544] inb_S8x12544_S8x12544_0_0, k0_pay23 k0_pay21⟩]) = k0_pay23 k0_pay21 :=
    readAt_writes_full _ _ _ _ _ _
  rw [trips_eq, hs]
  by_cases h0 : 1 ≤ (y 1).val
  · rw [if_pos ⟨h0, hy⟩]; rfl
  · rw [if_neg (by omega)]
    have h1 : (y 1).val = 0 := by omega
    rw [h1]
    refine read_writes_cons_unit_of_mem VO0_4 _ _ _ _ y x rfl fun a => ?_
    have x1 : (x 1).val < 1 := (x 1).isLt
    have x2 : (x 2).val < 1 := (x 2).isLt
    have y2 : (y 2).val < 1 := (y 2).isLt
    match a with
    | ⟨0, _⟩ => show (y 0).val = 0 + (x 0).val; omega
    | ⟨1, _⟩ => show (y 1).val = 0 + (x 1).val; omega
    | ⟨2, _⟩ => show (y 2).val = 0 + (x 2).val; omega

/-- Column `(y 1)` of output 5 is the point chosen after `(y 1)` trips. -/
theorem out_5 (c : Dev nD) (arg0 : Memref sig .tc .vmem S8x12544 .f32) (harg0 : arg0.IsWhole) (arg1 : Memref sig .tc .vmem S8x12544 .f32) (harg1 : arg1.IsWhole) (arg2 : Memref sig .tc .vmem S8x12544 .f32) (harg2 : arg2.IsWhole) (arg3 : Memref sig .tc .vmem S8x1568x1 .f32) (harg3 : arg3.IsWhole) (arg4 : Memref sig .tc .vmem S8x1568x1 .f32) (harg4 : arg4.IsWhole) (arg5 : Memref sig .tc .vmem S8x1568x1 .f32) (harg5 : arg5.IsWhole) (arg6 : Memref sig .tc .vmem S8x12544 .f32) (harg6 : arg6.IsWhole)
    (x0 : Vec F S8x12544 .f32) (x1 : Vec F S8x12544 .f32) (x2 : Vec F S8x12544 .f32)
    (y : S8x1568x1.Idx) (x : S8x1x1.Idx) (hx : (x 0).val = (y 0).val) (hy : (y 1).val ≤ 1561) :
    out0_A_5 c arg0 harg0 arg1 harg1 arg2 harg2 arg3 harg3 arg4 harg4 arg5 harg5 arg6 harg6 x0 x1 x2 y = shapeCast S8x1x1 (kState x0 x1 x2 (y 1).val).2.2.2 shapeCasts_S8x1_S8x1x1 x := by
  unfold out0_A_5 kernelRun0_A
  dsimp only
  sl_unfold_words
  unfold k0_pay18 k0_pay19 k0_pay20
  simp only [View.readAt_eq_ld, harg0.read_unread, harg1.read_unread, harg2.read_unread, View.ld_unit_zero (S := S8x12544) hz2, shapeCast_self]
  refine (col5 _ _ _ arg0 harg0 arg1 harg1 arg2 harg2 arg3 harg3 arg4 harg4 arg5 harg5 arg6 harg6 _ _ _ _ _ _ _ _ _ _ VO0_5 VO0_5.junk _ y x hx _ (le_of_eq rfl)).trans ?_
  have hs : scratch arg6 (arg6.view.writes (Elt F) arg6.view.junk [⟨Rect.unit ![0, 0] ![8, 12544] inb_S8x12544_S8x12544_0_0, k0_pay23 k0_pay21⟩]) = k0_pay23 k0_pay21 :=
    readAt_writes_full _ _ _ _ _ _
  rw [trips_eq, hs]
  by_cases h0 : 1 ≤ (y 1).val
  · rw [if_pos ⟨h0, hy⟩]; rfl
  · rw [if_neg (by omega)]
    have h1 : (y 1).val = 0 := by omega
    rw [h1]
    refine read_writes_cons_unit_of_mem VO0_5 _ _ _ _ y x rfl fun a => ?_
    have x1 : (x 1).val < 1 := (x 1).isLt
    have x2 : (x 2).val < 1 := (x 2).isLt
    have y2 : (y 2).val < 1 := (y 2).isLt
    match a with
    | ⟨0, _⟩ => show (y 0).val = 0 + (x 0).val; omega
    | ⟨1, _⟩ => show (y 1).val = 0 + (x 1).val; omega
    | ⟨2, _⟩ => show (y 2).val = 0 + (x 2).val; omega

end Cert.KernelIdeal.Value

end
-- ==== Proof.KernelRun.lean ====
module

public import proofs.«01_k».proof.Proof.KernelTrip
public import Idealize.ShloMosaic.Lib.StableHlo.Run
public import Idealize.ShloMosaic.Lib.StableHlo.RunClose
public import Idealize.ShloMosaic.Lib.Quiescent
public import Idealize.ShloMosaic.Lib.Claim

@[expose] public section

/-! # The kernel program's results

The host's operations before the launch (the three padded coordinate arrays, folded to eight rows), the arrays that the
launch leaves, and the host's operations after it. -/

set_option maxRecDepth 16384

noncomputable section

namespace Cert.KernelIdeal.Value

open Idealize.ShloMosaic Idealize.ShloMosaic.TcCoe Idealize.SL.Sem
open Idealize.ShloMosaic.StableHlo
open Idealize.ShloMosaic.Pipeline (Dat)
open Cert.KernelIdeal Cert.KernelIdeal.Gen

variable {F : FTy → Type} [FloatOps F]

/-- The points padded by 88 zero rows per segment. -/
def padded (p : (⟨S100000x3, .f32⟩ : BufTy).Contents (Elt F)) : (⟨S4x25088x3, .f32⟩ : BufTy).Contents (Elt F) :=
  pad S4x25088x3 ![0, 0, 0] ![0, 88, 0] ![0, 0, 0] (shapeCast S4x25000x3 p shapeCasts_S100000x3_S4x25000x3) (sitofp .f32 (constantI S_ 32 0#32)) pads_S4x25000x3_S4x25088x3_000_0880_000 h_S_

/-- The first coordinates, folded to eight rows. -/
def foldX (p : (⟨S100000x3, .f32⟩ : BufTy).Contents (Elt F)) : (⟨S8x12544, .f32⟩ : BufTy).Contents (Elt F) :=
  shapeCast S8x12544 (shapeCast S4x25088 (extractStridedSlice S4x25088x1 ![0, 0, 0] (padded p) slices_S4x25088x3_S4x25088x1_0_0_0) shapeCasts_S4x25088x1_S4x25088) shapeCasts_S4x25088_S8x12544
/-- The second coordinates, folded to eight rows. -/
def foldY (p : (⟨S100000x3, .f32⟩ : BufTy).Contents (Elt F)) : (⟨S8x12544, .f32⟩ : BufTy).Contents (Elt F) :=
  shapeCast S8x12544 (shapeCast S4x25088 (extractStridedSlice S4x25088x1 ![0, 0, 1] (padded p) slices_S4x25088x3_S4x25088x1_0_0_1) shapeCasts_S4x25088x1_S4x25088) shapeCasts_S4x25088_S8x12544
/-- The third coordinates, folded to eight rows. -/
def foldZ (p : (⟨S100000x3, .f32⟩ : BufTy).Contents (Elt F)) : (⟨S8x12544, .f32⟩ : BufTy).Contents (Elt F) :=
  shapeCast S8x12544 (shapeCast S4x25088 (extractStridedSlice S4x25088x1 ![0, 0, 2] (padded p) slices_S4x25088x3_S4x25088x1_0_0_2) shapeCasts_S4x25088x1_S4x25088) shapeCasts_S4x25088_S8x12544

set_option maxHeartbeats 1000000 in
theorem pre_v8 (V : Valuation τ sig (Elt F)) :
    after (List.flatten [hostOps0, hostOps0_1, hostOps0_2]) V (no_index (Proc.devRef .tc main_v8)) = foldX (V (Proc.devRef .tc main_arg0)) := by
  simp only [List.flatten_cons, List.flatten_nil, List.append_nil, List.cons_append, List.nil_append]
  after_results
  rfl

set_option maxHeartbeats 1000000 in
theorem pre_v9 (V : Valuation τ sig (Elt F)) :
    after (List.flatten [hostOps0, hostOps0_1, hostOps0_2]) V (no_index (Proc.devRef .tc main_v9)) = foldY (V (Proc.devRef .tc main_arg0)) := by
  simp only [List.flatten_cons, List.flatten_nil, List.append_nil, List.cons_append, List.nil_append]
  after_results
  rfl

set_option maxHeartbeats 1000000 in
theorem pre_v10 (V : Valuation τ sig (Elt F)) :
    after (List.flatten [hostOps0, hostOps0_1, hostOps0_2]) V (no_index (Proc.devRef .tc main_v10)) = foldZ (V (Proc.devRef .tc main_arg0)) := by
  simp only [List.flatten_cons, List.flatten_nil, List.append_nil, List.cons_append, List.nil_append]
  after_results
  rfl

/-- The result array from the three outputs of the launch: every second row, the three coordinates side by side, the first
    1562 columns, as a list of points. -/
def unfold3 (o0 o1 o2 : (⟨S8x1568x1, .f32⟩ : BufTy).Contents (Elt F)) : (⟨S6248x3, .f32⟩ : BufTy).Contents (Elt F) :=
  shapeCast S6248x3 (extractStridedSlice S4x1562x3 ![0, 0, 0]
    (concatenate S4x1568x3 2 [⟨S4x1568x1, Host.slice S4x1568x1 ![0, 0, 0] ![2, 1, 1] o0 slicesBy_S8x1568x1_S4x1568x1_0s2_0s1_0s1⟩,
      ⟨S4x1568x1, Host.slice S4x1568x1 ![0, 0, 0] ![2, 1, 1] o1 slicesBy_S8x1568x1_S4x1568x1_0s2_0s1_0s1⟩,
      ⟨S4x1568x1, Host.slice S4x1568x1 ![0, 0, 0] ![2, 1, 1] o2 slicesBy_S8x1568x1_S4x1568x1_0s2_0s1_0s1⟩] concatenates_S4x1568x1_S4x1568x1_S4x1568x1_S4x1568x3_d2)
    slices_S4x1568x3_S4x1562x3_0_0_0) shapeCasts_S4x1562x3_S6248x3

/-- The segments' ends: `(1 + i) * 1562`. -/
def ends : (⟨S4, .i32⟩ : BufTy).Contents (Elt F) :=
  muli (addi (broadcastInDim S4 ![] bcast_S_S4 (constantI S_ 32 1#32)) (iotaInDim S4 32 0)) (broadcastInDim S4 ![] bcast_S_S4 (constantI S_ 32 1562#32))

set_option maxHeartbeats 1000000 in
theorem tail_v17 (V : Valuation τ sig (Elt F)) : after (List.flatten [hostOps1]) V (no_index (Proc.devRef .tc main_v17))
    = unfold3 (V (Proc.devRef .tc main_v11_0)) (V (Proc.devRef .tc main_v11_1)) (V (Proc.devRef .tc main_v11_2)) := by
  simp only [List.flatten_cons, List.flatten_nil, List.append_nil]
  unfold unfold3
  after_results_entrywise []

set_option maxHeartbeats 1000000 in
theorem tail_v22 (V : Valuation τ sig (Elt F)) : after (List.flatten [hostOps1]) V (no_index (Proc.devRef .tc main_v22)) = ends (F := F) := by
  simp only [List.flatten_cons, List.flatten_nil, List.append_nil]
  after_results
  rfl

variable (m : (ℓ : Loc nD τ sig) → Buf (Elt F) ℓ) (ρ : Dev nD → PrngReg)

/-- The argument's contents on core `c`. -/
abbrev arg (c : Dev nD) : (⟨S100000x3, .f32⟩ : BufTy).Contents (Elt F) := m ((c.tc : Thread nD τ).loc main_arg0)

/-- Input 0's block is the whole array. -/
theorem iblk_0 (c : Dev nD) (t : Fin cfg0.N) : (iblk m c 0 t : Vec F S8x12544 .f32) = foldX (arg m c) := by
  have hz' : (fun a => win0_0.index t a * main_v8.ty.shape.size a) = fun _ => 0 := funext fun a => by
    obtain rfl := fin_N0 t
    fin_cases a <;> decide
  refine (Memref.read_access_unit_zero (Elt F) main_v8 hz' (fun a => by rw [congrFun hz' a]; simp) (V m c main_v8)).trans ?_
  exact pre_v8 _

/-- Input 1's block is the whole array. -/
theorem iblk_1 (c : Dev nD) (t : Fin cfg0.N) : (iblk m c 1 t : Vec F S8x12544 .f32) = foldY (arg m c) := by
  have hz' : (fun a => win0_1.index t a * main_v9.ty.shape.size a) = fun _ => 0 := funext fun a => by
    obtain rfl := fin_N0 t
    fin_cases a <;> decide
  refine (Memref.read_access_unit_zero (Elt F) main_v9 hz' (fun a => by rw [congrFun hz' a]; simp) (V m c main_v9)).trans ?_
  exact pre_v9 _

/-- Input 2's block is the whole array. -/
theorem iblk_2 (c : Dev nD) (t : Fin cfg0.N) : (iblk m c 2 t : Vec F S8x12544 .f32) = foldZ (arg m c) := by
  have hz' : (fun a => win0_2.index t a * main_v10.ty.shape.size a) = fun _ => 0 := funext fun a => by
    obtain rfl := fin_N0 t
    fin_cases a <;> decide
  refine (Memref.read_access_unit_zero (Elt F) main_v10 hz' (fun a => by rw [congrFun hz' a]; simp) (V m c main_v10)).trans ?_
  exact pre_v10 _

/-- What the one write-back of output 3 writes is the whole array. -/
theorem flushed_3 (c : Dev nD) (t : Fin cfg0.N) (hf : (cfg0.win 3).flush t = true) :
    (dats m 0 c).flushed 3 t = ((cfg0.win 3).blk t).view.read (Elt F) (outsAt0 m c t0_0).1 := by
  obtain rfl : t = t0_0 := fin_N0 t
  show (cfg0.win 3).cut (grid0.coords t0_0) ((dats m 0 c).after 3 t0_0) = _
  rw [after0_3]
  have hz' : (fun a => win0_3.index t0_0 a * main_v11_0.ty.shape.size a) = fun _ => 0 := funext fun a => by fin_cases a <;> decide
  exact (Memref.read_access_unit_zero (Elt F) main_v11_0 hz' (fun a => by rw [congrFun hz' a]; simp) _).symm

/-- So output 3's array ends at what the body left. -/
theorem final_3 (c : Dev nD) : (dats m 0 c).arrAt 3 cfg0.N = (outsAt0 m c t0_0).1 :=
  (dats m 0 c).arrAt_eq_of_cover 3 _ (flushed_3 m c) fun i =>
    ⟨t0_0, flush0_3 t0_0, by
      show i ∈ ((View.whole main_v11_0).slice (win0_3.rect t0_0)).set
      rw [View.set_slice_whole, Rect.mem_set_unit]
      intro a
      have hz' : ∀ a, win0_3.index t0_0 a * win0_3.size a = 0 := fun a => by fin_cases a <;> decide
      have h0 : (i a).val < main_v11_0.ty.shape.size a := (i a).isLt
      show win0_3.index t0_0 a * win0_3.size a ≤ (i a : Nat) ∧ (i a : Nat) < win0_3.index t0_0 a * win0_3.size a + win0_3.xsize (grid0.coords t0_0) a
      rw [hz' a, show win0_3.xsize (grid0.coords t0_0) a = main_v11_0.ty.shape.size a from by fin_cases a <;> decide +kernel]
      omega⟩

/-- What the one write-back of output 4 writes is the whole array. -/
theorem flushed_4 (c : Dev nD) (t : Fin cfg0.N) (hf : (cfg0.win 4).flush t = true) :
    (dats m 0 c).flushed 4 t = ((cfg0.win 4).blk t).view.read (Elt F) (outsAt0 m c t0_0).2.1 := by
  obtain rfl : t = t0_0 := fin_N0 t
  show (cfg0.win 4).cut (grid0.coords t0_0) ((dats m 0 c).after 4 t0_0) = _
  rw [after0_4]
  have hz' : (fun a => win0_4.index t0_0 a * main_v11_1.ty.shape.size a) = fun _ => 0 := funext fun a => by fin_cases a <;> decide
  exact (Memref.read_access_unit_zero (Elt F) main_v11_1 hz' (fun a => by rw [congrFun hz' a]; simp) _).symm

/-- So output 4's array ends at what the body left. -/
theorem final_4 (c : Dev nD) : (dats m 0 c).arrAt 4 cfg0.N = (outsAt0 m c t0_0).2.1 :=
  (dats m 0 c).arrAt_eq_of_cover 4 _ (flushed_4 m c) fun i =>
    ⟨t0_0, flush0_4 t0_0, by
      show i ∈ ((View.whole main_v11_1).slice (win0_4.rect t0_0)).set
      rw [View.set_slice_whole, Rect.mem_set_unit]
      intro a
      have hz' : ∀ a, win0_4.index t0_0 a * win0_4.size a = 0 := fun a => by fin_cases a <;> decide
      have h0 : (i a).val < main_v11_1.ty.shape.size a := (i a).isLt
      show win0_4.index t0_0 a * win0_4.size a ≤ (i a : Nat) ∧ (i a : Nat) < win0_4.index t0_0 a * win0_4.size a + win0_4.xsize (grid0.coords t0_0) a
      rw [hz' a, show win0_4.xsize (grid0.coords t0_0) a = main_v11_1.ty.shape.size a from by fin_cases a <;> decide +kernel]
      omega⟩

/-- What the one write-back of output 5 writes is the whole array. -/
theorem flushed_5 (c : Dev nD) (t : Fin cfg0.N) (hf : (cfg0.win 5).flush t = true) :
    (dats m 0 c).flushed 5 t = ((cfg0.win 5).blk t).view.read (Elt F) (outsAt0 m c t0_0).2.2 := by
  obtain rfl : t = t0_0 := fin_N0 t
  show (cfg0.win 5).cut (grid0.coords t0_0) ((dats m 0 c).after 5 t0_0) = _
  rw [after0_5]
  have hz' : (fun a => win0_5.index t0_0 a * main_v11_2.ty.shape.size a) = fun _ => 0 := funext fun a => by fin_cases a <;> decide
  exact (Memref.read_access_unit_zero (Elt F) main_v11_2 hz' (fun a => by rw [congrFun hz' a]; simp) _).symm

/-- So output 5's array ends at what the body left. -/
theorem final_5 (c : Dev nD) : (dats m 0 c).arrAt 5 cfg0.N = (outsAt0 m c t0_0).2.2 :=
  (dats m 0 c).arrAt_eq_of_cover 5 _ (flushed_5 m c) fun i =>
    ⟨t0_0, flush0_5 t0_0, by
      show i ∈ ((View.whole main_v11_2).slice (win0_5.rect t0_0)).set
      rw [View.set_slice_whole, Rect.mem_set_unit]
      intro a
      have hz' : ∀ a, win0_5.index t0_0 a * win0_5.size a = 0 := fun a => by fin_cases a <;> decide
      have h0 : (i a).val < main_v11_2.ty.shape.size a := (i a).isLt
      show win0_5.index t0_0 a * win0_5.size a ≤ (i a : Nat) ∧ (i a : Nat) < win0_5.index t0_0 a * win0_5.size a + win0_5.xsize (grid0.coords t0_0) a
      rw [hz' a, show win0_5.xsize (grid0.coords t0_0) a = main_v11_2.ty.shape.size a from by fin_cases a <;> decide +kernel]
      omega⟩

/-- The run: the first result is unfolded from the launch's outputs, the second is the segments' ends, the argument is unchanged. -/
theorem run_value : θ_run defs (onTc (τ := τ) (main (F := F))) ⟨m, fun _ => 0, ρ⟩ fun r => ∀ c : Dev nD,
      r.2.mem ((c.tc : Thread nD τ).loc main_v17) = unfold3 (outsAt0 m c t0_0).1 (outsAt0 m c t0_0).2.1 (outsAt0 m c t0_0).2.2
      ∧ r.2.mem ((c.tc : Thread nD τ).loc main_v22) = ends (F := F)
      ∧ r.2.mem ((c.tc : Thread nD τ).loc main_arg0) = m ((c.tc : Thread nD τ).loc main_arg0) := by
  refine (θ_run defs _ _).mono (fun r h c => ?_) (θ_run_and (run_main m ρ) (unchanged m ρ))
  have e (w : Fin 6) : Pipeline.withArrays spec0 c (V0 m c) (fun w => (dats m 0 c).arrAt w cfg0.N) (Proc.devRef .tc (Pipeline.arrRef spec0 w)) = (dats m 0 c).arrAt w cfg0.N :=
    Pipeline.withArrays_arr spec0 winFacts0.arr_inj c _ _ w
  refine ⟨?_, ?_, h.2 c⟩
  · refine ((h.1 c).2 main_v17 (by decide)).trans ((tail_v17 _).trans ?_)
    rw [← final_3 m c, ← final_4 m c, ← final_5 m c]
    exact congrArg₂ (fun f o => f o) (congrArg₂ unfold3 (e 3) (e 4)) (e 5)
  · exact ((h.1 c).2 main_v22 (by decide)).trans (tail_v22 _)

end Cert.KernelIdeal.Value

end
-- ==== Proof.Sampling.lean ====
module

public import Mathlib.Data.EReal.Operations
public import Mathlib.Data.Finset.Fold

@[expose] public section

/-! # Furthest point sampling, free of either program

Four segments of 25000 points with three coordinates.  In every round each point's distance is lowered to its squared
distance from the point chosen last, and the first point of the greatest distance is chosen next. -/

noncomputable section

namespace Cert.Sampling

/-- The squared distance of points `n` and `m`. -/
def dist2 (P : ℕ → Fin 3 → EReal) (n m : ℕ) : EReal :=
  (P n 0 - P m 0) * (P n 0 - P m 0) + (P n 1 - P m 1) * (P n 1 - P m 1) + (P n 2 - P m 2) * (P n 2 - P m 2)

/-- `k` is the first of the 25000 places at which `x` is greatest. -/
def IsFirst (x : ℕ → EReal) (k : ℕ) : Prop :=
  k < 25000 ∧ (∀ n, n < 25000 → x n ≤ x k) ∧ ∀ n, n < k → x n < x k

/-- There is only one first place. -/
theorem IsFirst.unique {x : ℕ → EReal} {k l : ℕ} (hk : IsFirst x k) (hl : IsFirst x l) : k = l := by
  rcases lt_trichotomy k l with h | h | h
  · exact absurd (hk.2.1 l hl.1) (not_le.mpr (hl.2.2 k h))
  · exact h
  · exact absurd (hl.2.1 k hk.1) (not_le.mpr (hk.2.2 l h))

/-- The distances `D` and the chosen places `L`, round by round and segment by segment, are those of the sampling of
    the points `P`, every distance being `top` at first.  Beyond the 25000 places the distances are `⊥`. -/
structure Sampled (top : EReal) (P : ℕ → ℕ → Fin 3 → EReal) (D : ℕ → ℕ → ℕ → EReal) (L : ℕ → ℕ → ℕ) : Prop where
  dist_zero : ∀ b n, b < 4 → n < 25000 → D 0 b n = top
  dist_pad : ∀ k b n, 25000 ≤ n → D k b n = ⊥
  last_zero : ∀ b, b < 4 → L 0 b = 0
  dist_succ : ∀ k b n, b < 4 → n < 25000 → D (k + 1) b n = min (D k b n) (dist2 (P b) n (L k b))
  last_succ : ∀ k b, b < 4 → IsFirst (D (k + 1) b) (L (k + 1) b)

theorem Sampled.last_lt {top : EReal} {P : ℕ → ℕ → Fin 3 → EReal} {D : ℕ → ℕ → ℕ → EReal} {L : ℕ → ℕ → ℕ}
    (h : Sampled top P D L) (k b : ℕ) (hb : b < 4) : L k b < 25000 := by
  cases k with
  | zero => rw [h.last_zero b hb]; omega
  | succ k => exact (h.last_succ k b hb).1

/-- What a fold of a selecting operation returns: the start or one of the operands. -/
theorem fold_mem {α ι : Type} [DecidableEq ι] (op : α → α → α) [Std.Commutative op] [Std.Associative op]
    (hsel : ∀ a b, op a b = a ∨ op a b = b) (init : α) (f : ι → α) (s : Finset ι) :
    s.fold op init f = init ∨ ∃ i ∈ s, s.fold op init f = f i := by
  induction s using Finset.induction_on with
  | empty => exact .inl rfl
  | insert a s ha ih =>
    rw [Finset.fold_insert ha]
    rcases hsel (f a) (s.fold op init f) with h | h
    · exact .inr ⟨a, Finset.mem_insert_self a s, h⟩
    · rw [h]
      rcases ih with h' | ⟨i, hi, h'⟩
      · exact .inl h'
      · exact .inr ⟨i, Finset.mem_insert_of_mem hi, h'⟩

/-- A fold of an operation that returns at most either operand, by the measure `μ`, returns at most every operand. -/
theorem fold_le {α ι : Type} [DecidableEq ι] (op : α → α → α) [Std.Commutative op] [Std.Associative op] (μ : α → ℤ)
    (hle : ∀ a b, μ (op a b) ≤ μ a ∧ μ (op a b) ≤ μ b) (init : α) (f : ι → α) (s : Finset ι) (i : ι) (hi : i ∈ s) :
    μ (s.fold op init f) ≤ μ (f i) := by
  induction s using Finset.induction_on with
  | empty => simp at hi
  | insert a s ha ih =>
    rw [Finset.fold_insert ha]
    rcases Finset.mem_insert.mp hi with rfl | h
    · exact (hle _ _).1
    · exact (hle _ _).2.trans (ih h)

end Cert.Sampling
-- ==== Proof.Words.lean ====
module

public import Idealize.ShloMosaic.PureOps
public import Idealize.ShloMosaic.PureOps.Ideal

@[expose] public section

/-! # Small words, and the word of −∞ -/

noncomputable section

namespace Cert.Sampling

open Idealize.ShloMosaic

/-- The word of −∞ is the least extended real. -/
theorem ofBits_negInf : Ideal.ofBits .f32 0xFF800000#32 = ⊥ := by
  simp [Ideal.ofBits, Ideal.ieee]

/-- Equality of words, as a bit. -/
theorem cmpi_eq_one (x y : BitVec 32) : IntOp.cmpi .eq x y = if x = y then 1#1 else 0#1 := by
  show BitVec.ofBool (x == y) = _
  by_cases h : x = y
  · subst h; rw [if_pos rfl, beq_self_eq_true]; rfl
  · rw [if_neg h, beq_eq_false_iff_ne.mpr h]; rfl

/-- Small numbers are equal when their words are. -/
theorem ofNat_inj {x y : ℕ} (hx : x < 2 ^ 32) (hy : y < 2 ^ 32) : BitVec.ofNat 32 x = BitVec.ofNat 32 y ↔ x = y := by
  constructor
  · intro h
    have := congrArg BitVec.toNat h
    rwa [BitVec.toNat_ofNat, BitVec.toNat_ofNat, Nat.mod_eq_of_lt hx, Nat.mod_eq_of_lt hy] at this
  · rintro rfl; rfl

/-- A small number read back signed. -/
theorem toInt_ofNat {x : ℕ} (hx : x < 2 ^ 31) : (BitVec.ofNat 32 x).toInt = x := by
  have h : (BitVec.ofNat 32 x).toNat = x := by rw [BitVec.toNat_ofNat]; exact Nat.mod_eq_of_lt (by omega)
  rw [BitVec.toInt_eq_toNat_of_lt (by omega), h]

end Cert.Sampling
-- ==== Proof.KernelRows.lean ====
module

public import proofs.«01_k».proof.Proof.KernelTrip
public import proofs.«01_k».proof.Proof.Sampling
public import proofs.«01_k».proof.Proof.Words
public import Idealize.ShloMosaic.Lib.Pointwise
public import Idealize.ShloMosaic.PureOps.Ideal

@[expose] public section

/-! # The sampling kernel's vector operations, read at an entry

Row `2 * b` of a folded vector holds points 0 to 12543 of segment `b` and row `2 * b + 1` the points from 12544 on.  The
kernel combines the two rows of a segment by rolling a column of eight entries up and down by one. -/

set_option maxRecDepth 16384

noncomputable section

namespace Cert.KernelIdeal.Value

open Idealize.ShloMosaic Cert.KernelIdeal Cert.KernelIdeal.Gen Cert.Sampling

variable {α : Type}

/-- The row after `r`, and the first after the last. -/
def nextRow (r : Fin 8) : Fin 8 := ⟨(r.val + 1) % 8, by omega⟩
/-- The row before `r`, and the last before the first. -/
def prevRow (r : Fin 8) : Fin 8 := ⟨(r.val + 7) % 8, by omega⟩
/-- The first row of `r`'s segment. -/
def lowRow (r : Fin 8) : Fin 8 := ⟨2 * (r.val / 2), by omega⟩
/-- The second row of `r`'s segment. -/
def highRow (r : Fin 8) : Fin 8 := ⟨2 * (r.val / 2) + 1, by omega⟩

/-- A column rolled up by one row. -/
def rollUp (v : S8x1.Idx → α) : S8x1.Idx → α :=
  concatenate S8x1 0 [⟨S7x1, extractStridedSlice S7x1 ![1, 0] v slices_S8x1_o1_0_S7x1⟩,
    ⟨S1x1, extractStridedSlice S1x1 ![0, 0] v slices_S8x1_o0_0_S1x1⟩] concatenates_S7x1_S1x1_S8x1_d0

/-- A column rolled down by one row. -/
def rollDown (v : S8x1.Idx → α) : S8x1.Idx → α :=
  concatenate S8x1 0 [⟨S1x1, extractStridedSlice S1x1 ![7, 0] v slices_S8x1_o7_0_S1x1⟩,
    ⟨S7x1, extractStridedSlice S7x1 ![0, 0] v slices_S8x1_o0_0_S7x1⟩] concatenates_S1x1_S7x1_S8x1_d0

/-- The combination of the two rows of each segment, in both of its rows. -/
def pairOf (op : (S8x1.Idx → α) → (S8x1.Idx → α) → S8x1.Idx → α) (m : IVec S8x1 1) (v : S8x1.Idx → α) : S8x1.Idx → α :=
  select m (op v (rollUp v)) (rollDown (op v (rollUp v)))

theorem rollUp_apply (v : S8x1.Idx → α) (r : Fin 8) : rollUp v (ix2 r 0) = v (ix2 (nextRow r) 0) := by
  pointwise [rollUp]
  fin_cases r <;> rfl

theorem rollDown_apply (v : S8x1.Idx → α) (r : Fin 8) : rollDown v (ix2 r 0) = v (ix2 (prevRow r) 0) := by
  pointwise [rollDown]
  fin_cases r <;> rfl

theorem evenRow_apply (r : Fin 8) : evenRow (ix2 r 0) = if r.val % 2 = 0 then 1#1 else 0#1 := by
  unfold evenRow k0_pay22
  fin_cases r <;> rfl

/-- The combination read at a row. -/
theorem pairOf_apply (op : (S8x1.Idx → α) → (S8x1.Idx → α) → S8x1.Idx → α) (f : α → α → α)
    (hop : ∀ a b i, op a b i = f (a i) (b i)) (v : S8x1.Idx → α) (r : Fin 8) :
    pairOf op evenRow v (ix2 r 0) = f (v (ix2 (lowRow r) 0)) (v (ix2 (highRow r) 0)) := by
  show Scalar.select (evenRow (ix2 r 0)) _ _ = _
  rw [evenRow_apply, rollDown_apply, hop, hop, rollUp_apply, rollUp_apply]
  fin_cases r <;> rfl

/-- The place in its segment of row `r`, lane `l`. -/
def place (r : Fin 8) (l : Fin 12544) : ℕ := l.val + (r.val % 2) * 12544

theorem gidx_apply (r : Fin 8) (l : Fin 12544) : k0_pay21 (ix2 r l) = BitVec.ofNat 32 (place r l) := by
  pointwise [k0_pay21, place]
  rw [BitVec.ofNat_add]
  refine congrArg (BitVec.ofNat 32 l.val + ·) ?_
  fin_cases r <;> rfl

theorem place_lt (r : Fin 8) (l : Fin 12544) : place r l < 25088 := by
  unfold place; have := l.isLt; omega

/-- The row maxima, as a column. -/
def rowMax (d : FVec Ideal S8x12544 .f32) : FVec Ideal S8x1 .f32 :=
  shapeCast S8x1 (multiReduction .maximumf [1] S8 d 0xFF800000#32 reduces_S8x12544_S8 (.inl rfl) rfl) shapeCasts_S8_S8x1

/-- The row sums, as a column. -/
def rowSum (d : FVec Ideal S8x12544 .f32) : FVec Ideal S8x1 .f32 :=
  shapeCast S8x1 (multiReduction .add [1] S8 d 0x00000000#32 reduces_S8x12544_S8 (.inl rfl) rfl) shapeCasts_S8_S8x1

/-- The signed row minima, as a column. -/
def rowMin (d : IVec S8x12544 32) : IVec S8x1 32 :=
  shapeCast S8x1 (multiReductionI .minsi [1] S8 d 2147483647#32 reduces_S8x12544_S8 rfl) shapeCasts_S8_S8x1

/-- The mask of the first place of the greatest distance in each segment. -/
def hitOf (d : FVec Ideal S8x12544 .f32) (v30 : IVec S8x12544 32) (m : IVec S8x1 1) : IVec S8x12544 1 :=
  cmpi .eq v30 (broadcastTo S8x12544 (pairOf minsi m (rowMin (select
    (cmpf .oeq d (broadcastTo S8x12544 (pairOf maximumf m (rowMax d)) broadcasts_S8x1_S8x12544)) v30
    (broadcast S8x12544 25088#32)))) broadcasts_S8x1_S8x12544)

/-- The entry of `v` at the mask's place, in both rows of each segment. -/
def pickOf (hit : IVec S8x12544 1) (v : FVec Ideal S8x12544 .f32) (m : IVec S8x1 1) : FVec Ideal S8x1 .f32 :=
  pairOf addf m (rowSum (select hit v (broadcast S8x12544 (Scalar.ofBits (F := Ideal) .f32 0x00000000#32))))

theorem rowMax_apply (d : FVec Ideal S8x12544 .f32) (r : Fin 8) :
    rowMax d (ix2 r 0) = Finset.univ.fold max ⊥ fun l : Fin 12544 => d (ix2 r l) := by
  pointwise [rowMax]
  rw [ofBits_negInf]

theorem rowSum_apply (d : FVec Ideal S8x12544 .f32) (r : Fin 8) :
    rowSum d (ix2 r 0) = ∑ l : Fin 12544, d (ix2 r l) := by
  pointwise [rowSum]

theorem rowMin_apply (d : IVec S8x12544 32) (r : Fin 8) :
    rowMin d (ix2 r 0) = Finset.univ.fold IntOp.minsi 2147483647#32 fun l : Fin 12544 => d (ix2 r l) := by
  pointwise [rowMin]

section Payloads
variable (v5 v7 v9 : FVec Ideal S8x12544 .f32) (v30 : IVec S8x12544 32) (m : IVec S8x1 1) (a b c : FVec Ideal S8x1 .f32)
  (d : FVec Ideal S8x12544 .f32)

theorem pay14_eq : k0_pay14 v5 v7 v9 v30 m a b c d = hitOf (k0_pay12 v5 v7 v9 a b c d) v30 m := rfl
theorem pay6_eq : k0_pay6 m (k0_pay15 v5 v7 v9 v30 m a b c d) (k0_pay16 v5 v7 v9 v30 m a b c d)
    = pickOf (k0_pay14 v5 v7 v9 v30 m a b c d) v5 m := rfl
theorem pay7_eq (h : IVec S8x12544 1) : k0_pay7 v7 m h = pickOf h v7 m := rfl
theorem pay8_eq (h : IVec S8x12544 1) : k0_pay8 v9 m h = pickOf h v9 m := rfl
theorem pay25_eq : k0_pay25 v5 v30 (iota Kind.tc S8x1 32 [0] iota_S8x1_d0_w32) 2#32 0#32
    = pickOf (k0_pay24 v30) v5 evenRow := rfl
theorem pay1_eq : k0_pay1 m (k0_pay26 v7 v30) = pickOf (k0_pay24 v30) v7 m := rfl
theorem pay2_eq (h : IVec S8x12544 1) : k0_pay2 v9 m h = pickOf h v9 m := rfl

theorem pay12_apply (r : Fin 8) (l : Fin 12544) : k0_pay12 v5 v7 v9 a b c d (ix2 r l)
    = min (d (ix2 r l)) ((v5 (ix2 r l) - a (ix2 r 0)) * (v5 (ix2 r l) - a (ix2 r 0))
        + (v7 (ix2 r l) - b (ix2 r 0)) * (v7 (ix2 r l) - b (ix2 r 0))
        + (v9 (ix2 r l) - c (ix2 r 0)) * (v9 (ix2 r l) - c (ix2 r 0))) := by
  pointwise [k0_pay12]

theorem pay13_eq : k0_pay13 v5 v7 v9 a b c d = k0_pay12 v5 v7 v9 a b c d := by
  funext i
  idx_vars i
  pointwise [k0_pay13]

theorem pay24_apply (r : Fin 8) (l : Fin 12544) :
    k0_pay24 k0_pay21 (ix2 r l) = if place r l = 0 then 1#1 else 0#1 := by
  show IntOp.cmpi .eq (k0_pay21 (ix2 r l)) 0#32 = _
  have := place_lt r l
  rw [gidx_apply, cmpi_eq_one]
  exact if_congr (ofNat_inj (y := 0) (by omega) (by omega)) rfl rfl

theorem pay23_apply (r : Fin 8) (l : Fin 12544) :
    k0_pay23 (F := Ideal) k0_pay21 (ix2 r l) = if place r l < 25000 then Ideal.ofBits .f32 0x501502F9#32 else ⊥ := by
  pointwise [k0_pay23]
  have := place_lt r l
  rw [gidx_apply, ofBits_negInf]
  show (if BitVec.ofBool (BitVec.slt _ _) = 1#1 then _ else _) = _
  rw [BitVec.slt, toInt_ofNat (by omega)]
  show (if BitVec.ofBool (decide ((place r l : ℤ) < 25000)) = 1#1 then _ else _) = _
  by_cases h : place r l < 25000
  · rw [if_pos h, decide_eq_true (by omega)]; rfl
  · rw [if_neg h, decide_eq_false (by omega)]; rfl

end Payloads

/-- Every place below 25088 is one of the segment's first row or of its second. -/
theorem place_cases (r : Fin 8) (n : ℕ) (hn : n < 25088) :
    (∃ l, place (lowRow r) l = n) ∨ ∃ l, place (highRow r) l = n := by
  by_cases h : n < 12544
  · exact .inl ⟨⟨n, h⟩, by show n + (2 * (r.val / 2)) % 2 * 12544 = n; omega⟩
  · exact .inr ⟨⟨n - 12544, by omega⟩, by show n - 12544 + (2 * (r.val / 2) + 1) % 2 * 12544 = n; omega⟩

theorem lowRow_half (r : Fin 8) : (lowRow r).val / 2 = r.val / 2 := by show 2 * (r.val / 2) / 2 = _; omega
theorem highRow_half (r : Fin 8) : (highRow r).val / 2 = r.val / 2 := by show (2 * (r.val / 2) + 1) / 2 = _; omega

section Hit
variable (d : FVec Ideal S8x12544 .f32) (x : ℕ → ℕ → EReal) (k : ℕ → ℕ)
  (hd : ∀ r l, d (ix2 r l) = x (r.val / 2) (place r l)) (hpad : ∀ b n, b < 4 → 25000 ≤ n → x b n = ⊥)
  (hk : ∀ b, b < 4 → IsFirst (x b) (k b))
include hd hpad hk

/-- Both rows of a segment hold its greatest distance. -/
theorem pairMax_apply (r : Fin 8) : pairOf maximumf evenRow (rowMax d) (ix2 r 0) = x (r.val / 2) (k (r.val / 2)) := by
  have hb : r.val / 2 < 4 := by omega
  obtain ⟨h1, h2, h3⟩ := hk _ hb
  rw [pairOf_apply maximumf max (fun _ _ _ => rfl), rowMax_apply, rowMax_apply]
  have hle : ∀ n, x (r.val / 2) n ≤ x (r.val / 2) (k (r.val / 2)) := fun n => by
    by_cases hn : n < 25000
    · exact h2 n hn
    · rw [hpad _ _ hb (by omega)]; exact bot_le
  refine le_antisymm (max_le ?_ ?_) ?_
  · refine (Finset.fold_max_le _).mpr ⟨bot_le, fun l _ => ?_⟩
    rw [hd, lowRow_half]; exact hle _
  · refine (Finset.fold_max_le _).mpr ⟨bot_le, fun l _ => ?_⟩
    rw [hd, highRow_half]; exact hle _
  · rcases place_cases r (k (r.val / 2)) (by omega) with ⟨l, hl⟩ | ⟨l, hl⟩
    · refine le_max_of_le_left ((Finset.le_fold_max _).mpr (.inr ⟨l, Finset.mem_univ l, ?_⟩))
      rw [hd, lowRow_half, hl]
    · refine le_max_of_le_right ((Finset.le_fold_max _).mpr (.inr ⟨l, Finset.mem_univ l, ?_⟩))
      rw [hd, highRow_half, hl]

/-- The words whose minimum is taken: the places of the greatest distance, and 25088 elsewhere. -/
theorem cand_apply (r : Fin 8) (l : Fin 12544) :
    select (cmpf .oeq d (broadcastTo S8x12544 (pairOf maximumf evenRow (rowMax d)) broadcasts_S8x1_S8x12544)) k0_pay21
        (broadcast S8x12544 25088#32) (ix2 r l)
      = if x (r.val / 2) (place r l) = x (r.val / 2) (k (r.val / 2)) then BitVec.ofNat 32 (place r l) else 25088#32 := by
  pointwise
  rw [gidx_apply, hd, pairMax_apply d x k hd hpad hk]

/-- Both rows of a segment hold the first place of its greatest distance. -/
theorem pairMin_apply (r : Fin 8) : pairOf minsi evenRow (rowMin (select
    (cmpf .oeq d (broadcastTo S8x12544 (pairOf maximumf evenRow (rowMax d)) broadcasts_S8x1_S8x12544)) k0_pay21
    (broadcast S8x12544 25088#32))) (ix2 r 0) = BitVec.ofNat 32 (k (r.val / 2)) := by
  have hb : r.val / 2 < 4 := by omega
  obtain ⟨h1, h2, h3⟩ := hk _ hb
  have hc := cand_apply d x k hd hpad hk
  generalize (select (cmpf .oeq d (broadcastTo S8x12544 (pairOf maximumf evenRow (rowMax d)) broadcasts_S8x1_S8x12544))
    k0_pay21 (broadcast S8x12544 25088#32)) = e at hc ⊢
  rw [pairOf_apply minsi IntOp.minsi (fun _ _ _ => rfl)]
  have hsel : ∀ a b : BitVec 32, IntOp.minsi a b = a ∨ IntOp.minsi a b = b := fun a b => by
    unfold IntOp.minsi; split_ifs <;> simp
  have hle : ∀ a b : BitVec 32, (IntOp.minsi a b).toInt ≤ a.toInt ∧ (IntOp.minsi a b).toInt ≤ b.toInt := fun a b => by
    simp only [IntOp.minsi, BitVec.slt, decide_eq_true_eq]; split_ifs <;> omega
  have hrow : ∀ R : Fin 8, R.val / 2 = r.val / 2 →
      (rowMin e (ix2 R 0) = 2147483647#32 ∨ rowMin e (ix2 R 0) = 25088#32
        ∨ ∃ n, k (r.val / 2) ≤ n ∧ n < 25088 ∧ rowMin e (ix2 R 0) = BitVec.ofNat 32 n)
      ∧ ∀ l, place R l = k (r.val / 2) → (rowMin e (ix2 R 0)).toInt ≤ k (r.val / 2) := by
    intro R hR
    rw [rowMin_apply]
    refine ⟨?_, fun l hl => ?_⟩
    · rcases fold_mem IntOp.minsi hsel 2147483647#32 (fun l : Fin 12544 => e (ix2 R l)) Finset.univ with h | ⟨l, -, h⟩
      · exact .inl h
      · rw [hc, hR] at h
        by_cases hx : x (r.val / 2) (place R l) = x (r.val / 2) (k (r.val / 2))
        · rw [if_pos hx] at h
          refine .inr (.inr ⟨place R l, ?_, place_lt R l, h⟩)
          by_contra hlt
          exact absurd hx (ne_of_lt (h3 _ (not_le.mp hlt)))
        · rw [if_neg hx] at h
          exact .inr (.inl h)
    · have h := fold_le IntOp.minsi BitVec.toInt hle 2147483647#32 (fun l : Fin 12544 => e (ix2 R l)) Finset.univ l (Finset.mem_univ l)
      rw [hc, hR, hl, if_pos rfl, toInt_ofNat (by omega)] at h
      exact h
  obtain ⟨m1, l1⟩ := hrow _ (lowRow_half r)
  obtain ⟨m2, l2⟩ := hrow _ (highRow_half r)
  have hup : (IntOp.minsi (rowMin e (ix2 (lowRow r) 0)) (rowMin e (ix2 (highRow r) 0))).toInt ≤ k (r.val / 2) := by
    rcases place_cases r (k (r.val / 2)) (by omega) with ⟨l, hl⟩ | ⟨l, hl⟩
    · exact (hle _ _).1.trans (l1 l hl)
    · exact (hle _ _).2.trans (l2 l hl)
  have key : ∀ w : BitVec 32, (w = 2147483647#32 ∨ w = 25088#32 ∨ ∃ n, k (r.val / 2) ≤ n ∧ n < 25088 ∧ w = BitVec.ofNat 32 n) →
      w.toInt ≤ k (r.val / 2) → w = BitVec.ofNat 32 (k (r.val / 2)) := by
    rintro w (rfl | rfl | ⟨n, hn, hn', rfl⟩) hw
    · exact absurd hw (by rw [show (2147483647#32).toInt = 2147483647 from rfl]; omega)
    · exact absurd hw (by rw [show (25088#32).toInt = 25088 from rfl]; omega)
    · rw [toInt_ofNat (by omega)] at hw
      rw [show n = k (r.val / 2) by omega]
  rcases hsel (rowMin e (ix2 (lowRow r) 0)) (rowMin e (ix2 (highRow r) 0)) with h | h
  · rw [h] at hup ⊢; exact key _ m1 hup
  · rw [h] at hup ⊢; exact key _ m2 hup

/-- The mask is set at the first place of each segment's greatest distance, and nowhere else. -/
theorem hitOf_apply (r : Fin 8) (l : Fin 12544) :
    hitOf d k0_pay21 evenRow (ix2 r l) = if place r l = k (r.val / 2) then 1#1 else 0#1 := by
  have hb : r.val / 2 < 4 := by omega
  have h1 := (hk _ hb).1
  have h2 := place_lt r l
  pointwise [hitOf]
  rw [gidx_apply]
  erw [pairMin_apply d x k hd hpad hk r]
  rw [cmpi_eq_one]
  exact if_congr (ofNat_inj (by omega) (by omega)) rfl rfl

end Hit

/-- The entry picked is the one at the mask's place. -/
theorem pickOf_apply (hit : IVec S8x12544 1) (k : ℕ → ℕ) (hk : ∀ b, b < 4 → k b < 25088)
    (hh : ∀ r l, hit (ix2 r l) = if place r l = k (r.val / 2) then 1#1 else 0#1)
    (v : FVec Ideal S8x12544 .f32) (w : ℕ → ℕ → EReal) (hv : ∀ r l, v (ix2 r l) = w (r.val / 2) (place r l)) (r : Fin 8) :
    pickOf hit v evenRow (ix2 r 0) = w (r.val / 2) (k (r.val / 2)) := by
  have hb : r.val / 2 < 4 := by omega
  have h1 := hk _ hb
  unfold pickOf
  rw [pairOf_apply addf (fun a b : EReal => a + b) (fun _ _ _ => rfl), rowSum_apply, rowSum_apply]
  have hrow : ∀ R : Fin 8, R.val / 2 = r.val / 2 → ∀ l, select hit v (broadcast S8x12544 (Scalar.ofBits (F := Ideal) .f32 0x00000000#32)) (ix2 R l)
      = if place R l = k (r.val / 2) then w (r.val / 2) (k (r.val / 2)) else 0 := by
    intro R hR l
    pointwise
    rw [hh, hR, hv, hR]
    by_cases h : place R l = k (r.val / 2)
    · rw [if_pos h, if_pos h, h]; rfl
    · rw [if_neg h, if_neg h]; rfl
  simp only [hrow _ (lowRow_half r), hrow _ (highRow_half r)]
  have hone : ∀ R : Fin 8, ∀ l : Fin 12544, place R l = k (r.val / 2) →
      ∑ i : Fin 12544, (if place R i = k (r.val / 2) then w (r.val / 2) (k (r.val / 2)) else 0) = w (r.val / 2) (k (r.val / 2)) := by
    intro R l hl
    rw [Finset.sum_eq_single l]
    · rw [if_pos hl]
    · intro i _ hi
      refine if_neg fun h => hi (Fin.ext ?_)
      unfold place at h hl; omega
    · intro h; exact absurd (Finset.mem_univ l) h
  have hnone : ∀ R : Fin 8, (∀ l : Fin 12544, place R l ≠ k (r.val / 2)) →
      ∑ i : Fin 12544, (if place R i = k (r.val / 2) then w (r.val / 2) (k (r.val / 2)) else 0) = 0 :=
    fun R h => Finset.sum_eq_zero fun i _ => if_neg (h i)
  have hplow : ∀ l, place (lowRow r) l = l.val := fun l => by
    show l.val + (2 * (r.val / 2)) % 2 * 12544 = _; omega
  have hphigh : ∀ l, place (highRow r) l = l.val + 12544 := fun l => by
    show l.val + (2 * (r.val / 2) + 1) % 2 * 12544 = _; omega
  rcases place_cases r _ h1 with ⟨l, hl⟩ | ⟨l, hl⟩
  · rw [hone _ l hl, hnone (highRow r) fun i hi => by rw [hphigh] at hi; rw [hplow] at hl; omega]
    exact add_zero _
  · rw [hone _ l hl, hnone (lowRow r) fun i hi => by rw [hplow] at hi; rw [hphigh] at hl; omega]
    exact zero_add _

end Cert.KernelIdeal.Value
-- ==== Proof.KernelState.lean ====
module

public import proofs.«01_k».proof.Proof.KernelRun
public import proofs.«01_k».proof.Proof.KernelRows

@[expose] public section

/-! # What the sampling kernel computes

The kernel's distances and chosen points, trip by trip, are those of furthest point sampling, and so are its results. -/

set_option maxRecDepth 16384

noncomputable section

namespace Cert.KernelIdeal.Value

open Idealize.ShloMosaic Cert.KernelIdeal Cert.KernelIdeal.Gen Cert.Sampling

/-- Coordinate `e` of point `n` of segment `b`; nought outside. -/
def coord (p4 : FVec Ideal S4x25000x3 .f32) (b n : ℕ) (e : Fin 3) : EReal :=
  if h : b < 4 ∧ n < 25000 then p4 (ix3 ⟨b, h.1⟩ ⟨n, h.2⟩ e) else 0

/-- The word of the integer nought, as a value. -/
theorem sitofp_zero : FloatOps.sitofp (F := Ideal) FTy.f32 0#32 = (0 : EReal) := by
  show (((0#32).toInt : ℝ) : EReal) = 0
  simp

/-- An entry of the folded coordinates by its row and lane. -/
theorem coord_fold (p4 : FVec Ideal S4x25000x3 .f32) (r : Fin 8) (l : Fin 12544) (e : Fin 3) :
    (if h : r.val / 2 < 4 ∧ r.val % 2 * 12544 + l.val < 25000 then p4 (ix3 ⟨r.val / 2, h.1⟩ ⟨r.val % 2 * 12544 + l.val, h.2⟩ e)
      else FloatOps.sitofp (F := Ideal) FTy.f32 0#32) = coord p4 (r.val / 2) (place r l) e := by
  have hp : place r l = r.val % 2 * 12544 + l.val := Nat.add_comm _ _
  unfold coord
  by_cases h : r.val / 2 < 4 ∧ r.val % 2 * 12544 + l.val < 25000
  · rw [dif_pos h, dif_pos (by rw [hp]; exact h)]
    exact congrArg (fun q => p4 (ix3 ⟨r.val / 2, h.1⟩ q e)) (Fin.ext hp.symm)
  · rw [dif_neg h, dif_neg (by rw [hp]; exact h)]
    exact sitofp_zero

/-- The folded first coordinates, read at a row and a lane. -/
theorem foldX_apply (p : FVec Ideal S100000x3 .f32) (r : Fin 8) (l : Fin 12544) :
    foldX (F := Ideal) p (ix2 r l) = coord (shapeCast S4x25000x3 p shapeCasts_S100000x3_S4x25000x3) (r.val / 2) (place r l) 0 := by
  unfold foldX padded
  generalize shapeCast S4x25000x3 p shapeCasts_S100000x3_S4x25000x3 = p4
  pointwise
  exact coord_fold p4 r l _

/-- The folded second coordinates, read at a row and a lane. -/
theorem foldY_apply (p : FVec Ideal S100000x3 .f32) (r : Fin 8) (l : Fin 12544) :
    foldY (F := Ideal) p (ix2 r l) = coord (shapeCast S4x25000x3 p shapeCasts_S100000x3_S4x25000x3) (r.val / 2) (place r l) 1 := by
  unfold foldY padded
  generalize shapeCast S4x25000x3 p shapeCasts_S100000x3_S4x25000x3 = p4
  pointwise
  exact coord_fold p4 r l _

/-- The folded third coordinates, read at a row and a lane. -/
theorem foldZ_apply (p : FVec Ideal S100000x3 .f32) (r : Fin 8) (l : Fin 12544) :
    foldZ (F := Ideal) p (ix2 r l) = coord (shapeCast S4x25000x3 p shapeCasts_S100000x3_S4x25000x3) (r.val / 2) (place r l) 2 := by
  unfold foldZ padded
  generalize shapeCast S4x25000x3 p shapeCasts_S100000x3_S4x25000x3 = p4
  pointwise
  exact coord_fold p4 r l _

/-- The results' table read at a row: an entry of the output of that coordinate. -/
theorem unfold3_apply (o0 o1 o2 : FVec Ideal S8x1568x1 .f32) (i : Fin 6248) (e : Fin 3) :
    unfold3 (F := Ideal) o0 o1 o2 (ix2 i e) = (![o0, o1, o2] e) (ix3 ⟨2 * (i.val / 1562), by omega⟩ ⟨i.val % 1562, by omega⟩ 0) := by
  pointwise [unfold3]
  fin_cases e <;> rfl

section State
variable (p : FVec Ideal S100000x3 .f32) (D : ℕ → ℕ → ℕ → EReal) (L : ℕ → ℕ → ℕ)
  (hs : Sampled (Ideal.ofBits .f32 0x501502F9#32) (coord (shapeCast S4x25000x3 p shapeCasts_S100000x3_S4x25000x3)) D L)
include hs

/-- The kernel's distances and chosen points after `k` trips. -/
theorem kState_apply (k : ℕ) :
    (∀ r l, (kState (F := Ideal) (foldX (F := Ideal) p) (foldY (F := Ideal) p) (foldZ (F := Ideal) p) k).1 (ix2 r l) = D k (r.val / 2) (place r l))
    ∧ (∀ r, (kState (F := Ideal) (foldX (F := Ideal) p) (foldY (F := Ideal) p) (foldZ (F := Ideal) p) k).2.1 (ix2 r 0)
        = coord (shapeCast S4x25000x3 p shapeCasts_S100000x3_S4x25000x3) (r.val / 2) (L k (r.val / 2)) 0)
    ∧ (∀ r, (kState (F := Ideal) (foldX (F := Ideal) p) (foldY (F := Ideal) p) (foldZ (F := Ideal) p) k).2.2.1 (ix2 r 0)
        = coord (shapeCast S4x25000x3 p shapeCasts_S100000x3_S4x25000x3) (r.val / 2) (L k (r.val / 2)) 1)
    ∧ (∀ r, (kState (F := Ideal) (foldX (F := Ideal) p) (foldY (F := Ideal) p) (foldZ (F := Ideal) p) k).2.2.2 (ix2 r 0)
        = coord (shapeCast S4x25000x3 p shapeCasts_S100000x3_S4x25000x3) (r.val / 2) (L k (r.val / 2)) 2) := by
  have hx := foldX_apply p
  have hy := foldY_apply p
  have hz := foldZ_apply p
  generalize foldX (F := Ideal) p = fx at hx ⊢
  generalize foldY (F := Ideal) p = fy at hy ⊢
  generalize foldZ (F := Ideal) p = fz at hz ⊢
  generalize shapeCast S4x25000x3 p shapeCasts_S100000x3_S4x25000x3 = p4 at hs hx hy hz ⊢
  have hlt : ∀ k b, b < 4 → L k b < 25088 := fun k b hb => (hs.last_lt k b hb).trans (by omega)
  induction k with
  | zero =>
    have hh : ∀ r l, k0_pay24 k0_pay21 (ix2 r l) = if place r l = L 0 (r.val / 2) then 1#1 else 0#1 := fun r l => by
      rw [pay24_apply, hs.last_zero _ (by omega)]
    refine ⟨fun r l => ?_, fun r => ?_, fun r => ?_, fun r => ?_⟩
    · refine (pay23_apply r l).trans ?_
      by_cases h : place r l < 25000
      · rw [if_pos h, hs.dist_zero _ _ (by omega) h]
      · rw [if_neg h, hs.dist_pad _ _ _ (by omega)]
    · exact pickOf_apply _ (L 0) (hlt 0) hh fx (fun b n => coord p4 b n 0) hx r
    · exact pickOf_apply _ (L 0) (hlt 0) hh fy (fun b n => coord p4 b n 1) hy r
    · exact pickOf_apply _ (L 0) (hlt 0) hh fz (fun b n => coord p4 b n 2) hz r
  | succ k ih =>
    obtain ⟨i0, i1, i2, i3⟩ := ih
    have e : kState (F := Ideal) fx fy fz (k + 1) = step fx fy fz k0_pay21 evenRow (kState fx fy fz k) := rfl
    rw [e]
    generalize kState (F := Ideal) fx fy fz k = s at i0 i1 i2 i3 ⊢
    have hd : ∀ r l, k0_pay12 fx fy fz s.2.1 s.2.2.1 s.2.2.2 s.1 (ix2 r l) = D (k + 1) (r.val / 2) (place r l) := fun r l => by
      rw [pay12_apply, i0, i1, i2, i3, hx, hy, hz]
      by_cases h : place r l < 25000
      · rw [hs.dist_succ _ _ _ (by omega) h]; rfl
      · rw [hs.dist_pad _ _ _ (by omega), hs.dist_pad _ _ _ (by omega)]; exact min_eq_left bot_le
    have hh := hitOf_apply (k0_pay12 fx fy fz s.2.1 s.2.2.1 s.2.2.2 s.1) (D (k + 1)) (L (k + 1)) hd
      (fun b n _ h => hs.dist_pad _ _ _ h) (fun b hb => hs.last_succ k b hb)
    refine ⟨fun r l => ?_, fun r => ?_, fun r => ?_, fun r => ?_⟩
    · exact (congrFun (pay13_eq fx fy fz s.2.1 s.2.2.1 s.2.2.2 s.1) _).trans (hd r l)
    · exact pickOf_apply _ (L (k + 1)) (hlt _) hh fx (fun b n => coord p4 b n 0) hx r
    · exact pickOf_apply _ (L (k + 1)) (hlt _) hh fy (fun b n => coord p4 b n 1) hy r
    · exact pickOf_apply _ (L (k + 1)) (hlt _) hh fz (fun b n => coord p4 b n 2) hz r

end State

section Result
variable (m : (ℓ : Loc nD τ sig) → Buf (Elt Ideal) ℓ) (c : Dev nD) (D : ℕ → ℕ → ℕ → EReal) (L : ℕ → ℕ → ℕ)
  (hs : Sampled (Ideal.ofBits .f32 0x501502F9#32) (coord (shapeCast S4x25000x3 (arg m c) shapeCasts_S100000x3_S4x25000x3)) D L)
include hs

/-- Row `i` of the kernel's first result is the point chosen after `i % 1562` rounds in segment `i / 1562`. -/
theorem sampled_apply (i : Fin 6248) (e : Fin 3) :
    unfold3 (F := Ideal) (outsAt0 m c t0_0).1 (outsAt0 m c t0_0).2.1 (outsAt0 m c t0_0).2.2 (ix2 i e)
      = coord (shapeCast S4x25000x3 (arg m c) shapeCasts_S100000x3_S4x25000x3) (i.val / 1562) (L (i.val % 1562) (i.val / 1562)) e := by
  rw [unfold3_apply]
  have hq : 2 * (i.val / 1562) < 8 := by omega
  have hj : i.val % 1562 ≤ 1561 := by omega
  obtain ⟨-, h1, h2, h3⟩ := kState_apply (arg m c) D L hs (i.val % 1562)
  have hr : (2 * (i.val / 1562)) / 2 = i.val / 1562 := by omega
  fin_cases e
  · show (outsAt0 m c t0_0).1 _ = _
    refine (out_3 (F := Ideal) c _ _ _ _ _ _ _ _ _ _ _ _ _ _ _ _ _ (ix3 ⟨2 * (i.val / 1562), hq⟩ ⟨i.val % 1562, by omega⟩ 0) (ix3 ⟨2 * (i.val / 1562), hq⟩ 0 0) rfl hj).trans ?_
    rw [iblk_0, iblk_1, iblk_2]
    have := h1 ⟨2 * (i.val / 1562), hq⟩
    pointwise
    exact this.trans (by rw [hr])
  · show (outsAt0 m c t0_0).2.1 _ = _
    refine (out_4 (F := Ideal) c _ _ _ _ _ _ _ _ _ _ _ _ _ _ _ _ _ (ix3 ⟨2 * (i.val / 1562), hq⟩ ⟨i.val % 1562, by omega⟩ 0) (ix3 ⟨2 * (i.val / 1562), hq⟩ 0 0) rfl hj).trans ?_
    rw [iblk_0, iblk_1, iblk_2]
    have := h2 ⟨2 * (i.val / 1562), hq⟩
    pointwise
    exact this.trans (by rw [hr])
  · show (outsAt0 m c t0_0).2.2 _ = _
    refine (out_5 (F := Ideal) c _ _ _ _ _ _ _ _ _ _ _ _ _ _ _ _ _ (ix3 ⟨2 * (i.val / 1562), hq⟩ ⟨i.val % 1562, by omega⟩ 0) (ix3 ⟨2 * (i.val / 1562), hq⟩ 0 0) rfl hj).trans ?_
    rw [iblk_0, iblk_1, iblk_2]
    have := h3 ⟨2 * (i.val / 1562), hq⟩
    pointwise
    exact this.trans (by rw [hr])

end Result

end Cert.KernelIdeal.Value
-- ==== Proof.ReferenceRun.lean ====
/-
The reference's run: every execution of its main function terminates with every buffer at the fold of its
operations, where the counted loop's body is folded 1561 times.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The operations before the loop. -/
abbrev opsPre : List (HloOp τ sig (Elt F)) :=
  [ StableHlo.nullary main_c (fun i => lit0 (S4.rowMajor i)),
    StableHlo.reshape main_arg0 main_v0 (rfl : (.f32 : EltTy) = .f32) shapeCasts_S100000x3_S4x25000x3,
    StableHlo.nullary main_cst (constant S_ .f32 0x501502F9#32),
    StableHlo.unary main_cst main_v1 (broadcastInDim S4x25000 ![] bcast_S_S4x25000 : (⟨S_, .f32⟩ : BufTy).Contents (Elt F) → (⟨S4x25000, .f32⟩ : BufTy).Contents (Elt F)),
    StableHlo.nullary main_c_0 (constantI S_ 32 0#32),
    StableHlo.unary main_c_0 main_v2 (broadcastInDim S4x1562 ![] bcast_S_S4x1562 : (⟨S_, .i32⟩ : BufTy).Contents (Elt F) → (⟨S4x1562, .i32⟩ : BufTy).Contents (Elt F)),
    StableHlo.nullary main_c_1 (constantI S_ 32 0#32),
    StableHlo.unary main_c_1 main_v3 (broadcastInDim S4 ![] bcast_S_S4 : (⟨S_, .i32⟩ : BufTy).Contents (Elt F) → (⟨S4, .i32⟩ : BufTy).Contents (Elt F)),
    StableHlo.nullary main_c_2 (constantI S_ 32 1#32),
    StableHlo.nullary main_c_3 (constantI S_ 32 0#32),
    StableHlo.unary main_v0 main_v4_0 id,
    StableHlo.unary main_c_3 main_v4_1 id,
    StableHlo.unary main_c_2 main_v4_2 id,
    StableHlo.unary main_v1 main_v4_3 id,
    StableHlo.unary main_v2 main_v4_4 id,
    StableHlo.unary main_v3 main_v4_5 id ]
/-- Each touches the TensorCore's references only. -/
theorem opsPre_sub : (opsPre : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- None allocates a buffer. -/
theorem opsPre_fresh : (opsPre : List (HloOp τ sig (Elt F))).Forall fun op => op.fresh = ∅ :=
  StableHlo.forall_fresh_of_map rfl
/-- The buffers written, in order. -/
abbrev opsPre_W : List (Ref sig .tc) := [main_c, main_v0, main_cst, main_v1, main_c_0, main_v2, main_c_1, main_v3, main_c_2, main_c_3, main_v4_0, main_v4_1, main_v4_2, main_v4_3, main_v4_4, main_v4_5]
theorem opsPre_writes : (opsPre : List (HloOp τ sig (Elt F))).Forall fun op => op.writes ⊆ (opsPre_W.map (Proc.devRef (τ := τ) .tc)).toFinset :=
  StableHlo.forall_writes_sub_of_map rfl
/-- The loop body's operations before the arg-max. -/
abbrev opsA : List (HloOp τ sig (Elt F)) :=
  [ StableHlo.nullary main_while0b_c_9 (constantI S_ 32 1#32),
    StableHlo.binary main_v4_2 main_while0b_c_9 main_while0b_v14 (addi : (⟨S_, .i32⟩ : BufTy).Contents (Elt F) → (⟨S_, .i32⟩ : BufTy).Contents (Elt F) → (⟨S_, .i32⟩ : BufTy).Contents (Elt F)),
    StableHlo.nullary main_while0b_v15 (iotaInDim S4 32 0),
    StableHlo.unary main_while0b_v15 main_while0b_v16 (broadcastInDim S4x1 ![0] bcast_S4_S4x1_0 : (⟨S4, .i32⟩ : BufTy).Contents (Elt F) → (⟨S4x1, .i32⟩ : BufTy).Contents (Elt F)),
    StableHlo.unary main_v4_5 main_while0b_v17 (broadcastInDim S4x1 ![0] bcast_S4_S4x1_0 : (⟨S4, .i32⟩ : BufTy).Contents (Elt F) → (⟨S4x1, .i32⟩ : BufTy).Contents (Elt F)),
    StableHlo.unary main_while0b_v16 main_while0b_v18 (broadcastInDim S4x1x1 ![0, 1] bcast_S4x1_S4x1x1_0_1 : (⟨S4x1, .i32⟩ : BufTy).Contents (Elt F) → (⟨S4x1x1, .i32⟩ : BufTy).Contents (Elt F)),
    StableHlo.unary main_while0b_v17 main_while0b_v19 (broadcastInDim S4x1x1 ![0, 1] bcast_S4x1_S4x1x1_0_1 : (⟨S4x1, .i32⟩ : BufTy).Contents (Elt F) → (⟨S4x1x1, .i32⟩ : BufTy).Contents (Elt F)),
    StableHlo.binary main_while0b_v18 main_while0b_v19 main_while0b_v20 ((fun a b => concatenate S4x1x2 2 [⟨S4x1x1, a⟩, ⟨S4x1x1, b⟩] concatenates_S4x1x1_S4x1x1_S4x1x2_d2) : (⟨S4x1x1, .i32⟩ : BufTy).Contents (Elt F) → (⟨S4x1x1, .i32⟩ : BufTy).Contents (Elt F) → (⟨S4x1x2, .i32⟩ : BufTy).Contents (Elt F)),
    StableHlo.binary main_v4_0 main_while0b_v20 main_while0b_v21 ((fun x i => Host.gather gather_S4x25000x3_S4x1x2_S4x1x3_2_01_n_n_01_2_113 x i) : (⟨S4x25000x3, .f32⟩ : BufTy).Contents (Elt F) → (⟨S4x1x2, .i32⟩ : BufTy).Contents (Elt F) → (⟨S4x1x3, .f32⟩ : BufTy).Contents (Elt F)),
    StableHlo.unary main_while0b_v21 main_while0b_v22 (broadcastInDim S4x25000x3 ![0, 1, 2] bcast_S4x1x3_S4x25000x3_0_1_2 : (⟨S4x1x3, .f32⟩ : BufTy).Contents (Elt F) → (⟨S4x25000x3, .f32⟩ : BufTy).Contents (Elt F)),
    StableHlo.binary main_v4_0 main_while0b_v22 main_while0b_v23 (subf : (⟨S4x25000x3, .f32⟩ : BufTy).Contents (Elt F) → (⟨S4x25000x3, .f32⟩ : BufTy).Contents (Elt F) → (⟨S4x25000x3, .f32⟩ : BufTy).Contents (Elt F)),
    StableHlo.binary main_while0b_v23 main_while0b_v23 main_while0b_v24 (mulf : (⟨S4x25000x3, .f32⟩ : BufTy).Contents (Elt F) → (⟨S4x25000x3, .f32⟩ : BufTy).Contents (Elt F) → (⟨S4x25000x3, .f32⟩ : BufTy).Contents (Elt F)),
    StableHlo.nullary main_while0b_cst_10 (constant S_ .f32 0x00000000#32),
    StableHlo.binary main_while0b_v24 main_while0b_cst_10 main_while0b_v25 ((fun x v => Host.reduceAdd x v reducesTo_S4x25000x3_S4x25000_d2 h_S_) : (⟨S4x25000x3, .f32⟩ : BufTy).Contents (Elt F) → (⟨S_, .f32⟩ : BufTy).Contents (Elt F) → (⟨S4x25000, .f32⟩ : BufTy).Contents (Elt F)),
    StableHlo.binary main_v4_3 main_while0b_v25 main_while0b_v26 (minimumf : (⟨S4x25000, .f32⟩ : BufTy).Contents (Elt F) → (⟨S4x25000, .f32⟩ : BufTy).Contents (Elt F) → (⟨S4x25000, .f32⟩ : BufTy).Contents (Elt F)) ]
/-- Each touches the TensorCore's references only. -/
theorem opsA_sub : (opsA : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- None allocates a buffer. -/
theorem opsA_fresh : (opsA : List (HloOp τ sig (Elt F))).Forall fun op => op.fresh = ∅ :=
  StableHlo.forall_fresh_of_map rfl
/-- The buffers written, in order. -/
abbrev opsA_W : List (Ref sig .tc) := [main_while0b_c_9, main_while0b_v14, main_while0b_v15, main_while0b_v16, main_while0b_v17, main_while0b_v18, main_while0b_v19, main_while0b_v20, main_while0b_v21, main_while0b_v22, main_while0b_v23, main_while0b_v24, main_while0b_cst_10, main_while0b_v25, main_while0b_v26]
theorem opsA_writes : (opsA : List (HloOp τ sig (Elt F))).Forall fun op => op.writes ⊆ (opsA_W.map (Proc.devRef (τ := τ) .tc)).toFinset :=
  StableHlo.forall_writes_sub_of_map rfl
/-- The arg-max's operations. -/
abbrev opsB : List (HloOp τ sig (Elt F)) :=
  [ StableHlo.nullary main_while0b_call0_v0 (iotaInDim S4x25000 32 1),
    StableHlo.nullary main_while0b_call0_cst (constant S_ .f32 0xFF800000#32),
    StableHlo.nullary main_while0b_call0_c (constantI S_ 32 0#32),
    StableHlo.quaternary main_while0b_v26 main_while0b_call0_v0 main_while0b_call0_cst main_while0b_call0_c main_while0b_call0_v1_0 ((fun x y u v j => (Host.argReduce reducer_argmax_f32_i32 x y u v reducesTo_S4x25000_S4_d1 h_S_ j).1) : (⟨S4x25000, .f32⟩ : BufTy).Contents (Elt F) → (⟨S4x25000, .i32⟩ : BufTy).Contents (Elt F) → (⟨S_, .f32⟩ : BufTy).Contents (Elt F) → (⟨S_, .i32⟩ : BufTy).Contents (Elt F) → (⟨S4, .f32⟩ : BufTy).Contents (Elt F)),
    StableHlo.quaternary main_while0b_v26 main_while0b_call0_v0 main_while0b_call0_cst main_while0b_call0_c main_while0b_v27 ((fun x y u v j => (Host.argReduce reducer_argmax_f32_i32 x y u v reducesTo_S4x25000_S4_d1 h_S_ j).2) : (⟨S4x25000, .f32⟩ : BufTy).Contents (Elt F) → (⟨S4x25000, .i32⟩ : BufTy).Contents (Elt F) → (⟨S_, .f32⟩ : BufTy).Contents (Elt F) → (⟨S_, .i32⟩ : BufTy).Contents (Elt F) → (⟨S4, .i32⟩ : BufTy).Contents (Elt F)) ]
/-- Each touches the TensorCore's references only. -/
theorem opsB_sub : (opsB : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- None allocates a buffer. -/
theorem opsB_fresh : (opsB : List (HloOp τ sig (Elt F))).Forall fun op => op.fresh = ∅ :=
  StableHlo.forall_fresh_of_map rfl
/-- The buffers written, in order. -/
abbrev opsB_W : List (Ref sig .tc) := [main_while0b_call0_v0, main_while0b_call0_cst, main_while0b_call0_c, main_while0b_call0_v1_0, main_while0b_v27]
theorem opsB_writes : (opsB : List (HloOp τ sig (Elt F))).Forall fun op => op.writes ⊆ (opsB_W.map (Proc.devRef (τ := τ) .tc)).toFinset :=
  StableHlo.forall_writes_sub_of_map rfl
/-- The loop body's operations after the arg-max. -/
abbrev opsC : List (HloOp τ sig (Elt F)) :=
  [ StableHlo.unary main_while0b_v27 main_while0b_v28 (broadcastInDim S4x1 ![0] bcast_S4_S4x1_0 : (⟨S4, .i32⟩ : BufTy).Contents (Elt F) → (⟨S4x1, .i32⟩ : BufTy).Contents (Elt F)),
    StableHlo.nullary main_while0b_c_11 (constantI S_ 32 0#32),
    StableHlo.binary main_v4_2 main_while0b_c_11 main_while0b_v29 (cmpi .slt : (⟨S_, .i32⟩ : BufTy).Contents (Elt F) → (⟨S_, .i32⟩ : BufTy).Contents (Elt F) → (⟨S_, .i1⟩ : BufTy).Contents (Elt F)),
    StableHlo.unary main_v4_2 main_while0b_v30 (id : (⟨S_, .i32⟩ : BufTy).Contents (Elt F) → (⟨S_, .i32⟩ : BufTy).Contents (Elt F)),
    StableHlo.nullary main_while0b_c_12 (constantI S_ 32 1562#32),
    StableHlo.binary main_while0b_v30 main_while0b_c_12 main_while0b_v31 (addi : (⟨S_, .i32⟩ : BufTy).Contents (Elt F) → (⟨S_, .i32⟩ : BufTy).Contents (Elt F) → (⟨S_, .i32⟩ : BufTy).Contents (Elt F)),
    StableHlo.ternary main_while0b_v29 main_while0b_v31 main_v4_2 main_while0b_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binaryIndexed main_v4_4 main_while0b_v28 ![main_while0b_c_13, main_while0b_v32] ⟨S_, .i32⟩ main_while0b_v33 ((fun x u i => Host.dynamicUpdateSlice x u (fun k => (i k (Shape.Idx.first h_S_)).toInt) updateFits_S4x1562_S4x1) : (⟨S4x1562, .i32⟩ : BufTy).Contents (Elt F) → (⟨S4x1, .i32⟩ : BufTy).Contents (Elt F) → (Fin 2 → (⟨S_, .i32⟩ : BufTy).Contents (Elt F)) → (⟨S4x1562, .i32⟩ : BufTy).Contents (Elt F)),
    StableHlo.nullary main_while0b_c_14 (constantI S_ 32 1#32),
    StableHlo.binary main_v4_1 main_while0b_c_14 main_while0b_v34 (addi : (⟨S_, .i32⟩ : BufTy).Contents (Elt F) → (⟨S_, .i32⟩ : BufTy).Contents (Elt F) → (⟨S_, .i32⟩ : BufTy).Contents (Elt F)),
    StableHlo.unary main_while0b_v34 main_v4_1 id,
    StableHlo.unary main_while0b_v14 main_v4_2 id,
    StableHlo.unary main_while0b_v26 main_v4_3 id,
    StableHlo.unary main_while0b_v33 main_v4_4 id,
    StableHlo.unary main_while0b_v27 main_v4_5 id ]
/-- Each touches the TensorCore's references only. -/
theorem opsC_sub : (opsC : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- None allocates a buffer. -/
theorem opsC_fresh : (opsC : List (HloOp τ sig (Elt F))).Forall fun op => op.fresh = ∅ :=
  StableHlo.forall_fresh_of_map rfl
/-- The buffers written, in order. -/
abbrev opsC_W : List (Ref sig .tc) := [main_while0b_v28, main_while0b_c_11, main_while0b_v29, main_while0b_v30, main_while0b_c_12, main_while0b_v31, main_while0b_v32, main_while0b_c_13, main_while0b_v33, main_while0b_c_14, main_while0b_v34, main_v4_1, main_v4_2, main_v4_3, main_v4_4, main_v4_5]
theorem opsC_writes : (opsC : List (HloOp τ sig (Elt F))).Forall fun op => op.writes ⊆ (opsC_W.map (Proc.devRef (τ := τ) .tc)).toFinset :=
  StableHlo.forall_writes_sub_of_map rfl
/-- The operations after the loop. -/
abbrev opsPost : List (HloOp τ sig (Elt F)) :=
  [ StableHlo.reshape main_arg0 main_v5 (rfl : (.f32 : EltTy) = .f32) shapeCasts_S100000x3_S4x25000x3,
    StableHlo.nullary main_v6 (iotaInDim S4 32 0),
    StableHlo.unary main_v6 main_v7 (broadcastInDim S4x1 ![0] bcast_S4_S4x1_0 : (⟨S4, .i32⟩ : BufTy).Contents (Elt F) → (⟨S4x1, .i32⟩ : BufTy).Contents (Elt F)),
    StableHlo.unary main_v7 main_v8 (broadcastInDim S4x1562 ![0, 1] bcast_S4x1_S4x1562_0_1 : (⟨S4x1, .i32⟩ : BufTy).Contents (Elt F) → (⟨S4x1562, .i32⟩ : BufTy).Contents (Elt F)),
    StableHlo.unary main_v8 main_v9 (broadcastInDim S4x1562x1 ![0, 1] bcast_S4x1562_S4x1562x1_0_1 : (⟨S4x1562, .i32⟩ : BufTy).Contents (Elt F) → (⟨S4x1562x1, .i32⟩ : BufTy).Contents (Elt F)),
    StableHlo.unary main_v4_4 main_v10 (broadcastInDim S4x1562x1 ![0, 1] bcast_S4x1562_S4x1562x1_0_1 : (⟨S4x1562, .i32⟩ : BufTy).Contents (Elt F) → (⟨S4x1562x1, .i32⟩ : BufTy).Contents (Elt F)),
    StableHlo.binary main_v9 main_v10 main_v11 ((fun a b => concatenate S4x1562x2 2 [⟨S4x1562x1, a⟩, ⟨S4x1562x1, b⟩] concatenates_S4x1562x1_S4x1562x1_S4x1562x2_d2) : (⟨S4x1562x1, .i32⟩ : BufTy).Contents (Elt F) → (⟨S4x1562x1, .i32⟩ : BufTy).Contents (Elt F) → (⟨S4x1562x2, .i32⟩ : BufTy).Contents (Elt F)),
    StableHlo.binary main_v5 main_v11 main_v12 ((fun x i => Host.gather gather_S4x25000x3_S4x1562x2_S4x1562x3_2_01_n_n_01_2_113 x i) : (⟨S4x25000x3, .f32⟩ : BufTy).Contents (Elt F) → (⟨S4x1562x2, .i32⟩ : BufTy).Contents (Elt F) → (⟨S4x1562x3, .f32⟩ : BufTy).Contents (Elt F)),
    StableHlo.reshape main_v12 main_v13 (rfl : (.f32 : EltTy) = .f32) shapeCasts_S4x1562x3_S6248x3 ]
/-- Each touches the TensorCore's references only. -/
theorem opsPost_sub : (opsPost : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.reshape_bufs_sub ..⟩
/-- None allocates a buffer. -/
theorem opsPost_fresh : (opsPost : List (HloOp τ sig (Elt F))).Forall fun op => op.fresh = ∅ :=
  StableHlo.forall_fresh_of_map rfl
/-- The buffers written, in order. -/
abbrev opsPost_W : List (Ref sig .tc) := [main_v5, main_v6, main_v7, main_v8, main_v9, main_v10, main_v11, main_v12, main_v13]
theorem opsPost_writes : (opsPost : List (HloOp τ sig (Elt F))).Forall fun op => op.writes ⊆ (opsPost_W.map (Proc.devRef (τ := τ) .tc)).toFinset :=
  StableHlo.forall_writes_sub_of_map rfl

/-- The main function is its operations before the loop, the loop, and its operations after. -/
theorem main_chain (c : Dev nD) : main (F := F) c = (Pipeline.chain
  [ StableHlo.seq opsPre,
    HostLoop.enter 0,
    StableHlo.seq opsPost ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's body is its three stretches in order. -/
theorem body_chain : main_while0_body (F := F) = (Pipeline.chain
  [ StableHlo.seq opsA, StableHlo.seq opsB, StableHlo.seq opsC ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The condition's two operations: the bound, and the trip counter compared with it. -/
abbrev condOps : List (HloOp τ sig (Elt F)) :=
  [ StableHlo.nullary main_while0c_c_9 (constantI S_ 32 1561#32),
    StableHlo.binary main_v4_1 main_while0c_c_9 main_while0c_v14 (cmpi .slt) ]
/-- The buffers the condition writes. -/
abbrev condOps_W : List (Ref sig .tc) := [main_while0c_c_9, main_while0c_v14]
theorem condOps_writes : (condOps : List (HloOp τ sig (Elt F))).Forall fun op => op.writes ⊆ (condOps_W.map (Proc.devRef (τ := τ) .tc)).toFinset :=
  StableHlo.forall_writes_sub_of_map rfl

/-- The stretches before the loop, of the loop's body, and after the loop. -/
abbrev preI : List (List (HloOp τ sig (Elt F))) := [opsPre]
abbrev bodyI : List (List (HloOp τ sig (Elt F))) := [opsA, opsB, opsC]
abbrev postI : List (List (HloOp τ sig (Elt F))) := [opsPost]

theorem hpre : Plain (preI (F := F)) := .cons opsPre_sub (hf := List.forall_iff_forall_mem.mp opsPre_fresh) .nil
theorem hbodyI : Plain (bodyI (F := F)) := .cons opsA_sub (hf := List.forall_iff_forall_mem.mp opsA_fresh)
  (.cons opsB_sub (hf := List.forall_iff_forall_mem.mp opsB_fresh)
    (.cons opsC_sub (hf := List.forall_iff_forall_mem.mp opsC_fresh) .nil))
theorem hpost : Plain (postI (F := F)) := .cons opsPost_sub (hf := List.forall_iff_forall_mem.mp opsPost_fresh) .nil

/-! ## The values -/

/-- The point that each segment chose last. -/
def rLast (p4 : (⟨S4x25000x3, .f32⟩ : BufTy).Contents (Elt F)) (last : (⟨S4, .i32⟩ : BufTy).Contents (Elt F)) :
    (⟨S4x1x3, .f32⟩ : BufTy).Contents (Elt F) :=
  Host.gather gather_S4x25000x3_S4x1x2_S4x1x3_2_01_n_n_01_2_113 p4
    (concatenate S4x1x2 2 [⟨S4x1x1, broadcastInDim S4x1x1 ![0, 1] bcast_S4x1_S4x1x1_0_1 (broadcastInDim S4x1 ![0] bcast_S4_S4x1_0 (iotaInDim S4 32 0))⟩,
      ⟨S4x1x1, broadcastInDim S4x1x1 ![0, 1] bcast_S4x1_S4x1x1_0_1 (broadcastInDim S4x1 ![0] bcast_S4_S4x1_0 last)⟩] concatenates_S4x1x1_S4x1x1_S4x1x2_d2)

/-- Every point's difference from the point chosen last. -/
def rDiff (p4 : (⟨S4x25000x3, .f32⟩ : BufTy).Contents (Elt F)) (last : (⟨S4, .i32⟩ : BufTy).Contents (Elt F)) :
    (⟨S4x25000x3, .f32⟩ : BufTy).Contents (Elt F) :=
  subf p4 (broadcastInDim S4x25000x3 ![0, 1, 2] bcast_S4x1x3_S4x25000x3_0_1_2 (rLast p4 last))

/-- Every point's distance from the chosen points, after the last one. -/
def rDist (p4 : (⟨S4x25000x3, .f32⟩ : BufTy).Contents (Elt F)) (dists : (⟨S4x25000, .f32⟩ : BufTy).Contents (Elt F))
    (last : (⟨S4, .i32⟩ : BufTy).Contents (Elt F)) : (⟨S4x25000, .f32⟩ : BufTy).Contents (Elt F) :=
  minimumf dists (Host.reduceAdd (mulf (rDiff p4 last) (rDiff p4 last)) (constant S_ .f32 0x00000000#32) reducesTo_S4x25000x3_S4x25000_d2 h_S_)

/-- The next point: the first at the greatest distance. -/
def rNext (dists : (⟨S4x25000, .f32⟩ : BufTy).Contents (Elt F)) : (⟨S4, .i32⟩ : BufTy).Contents (Elt F) :=
  fun j => (Host.argReduce reducer_argmax_f32_i32 dists (iotaInDim S4x25000 32 1) (constant S_ .f32 0xFF800000#32) (constantI S_ 32 0#32) reducesTo_S4x25000_S4_d1 h_S_ j).2

/-- The list of chosen points with the next one entered at column `i`. -/
def rPut (idxs : (⟨S4x1562, .i32⟩ : BufTy).Contents (Elt F)) (nxt : (⟨S4, .i32⟩ : BufTy).Contents (Elt F))
    (i : (⟨S_, .i32⟩ : BufTy).Contents (Elt F)) : (⟨S4x1562, .i32⟩ : BufTy).Contents (Elt F) :=
  Host.dynamicUpdateSlice idxs (broadcastInDim S4x1 ![0] bcast_S4_S4x1_0 nxt)
    (fun k => (((![constantI S_ 32 0#32, select (cmpi .slt i (constantI S_ 32 0#32)) (addi i (constantI S_ 32 1562#32)) i] : Fin 2 → (⟨S_, .i32⟩ : BufTy).Contents (Elt F)) k) (Shape.Idx.first h_S_)).toInt) updateFits_S4x1562_S4x1

/-- `opsA` keeps a buffer that it does not write. -/
theorem opsA_keep (V : Valuation τ sig (Elt F)) (r : Ref sig .tc) (h : r ∉ opsA_W) :
    after opsA V (Proc.devRef .tc r) = V (Proc.devRef .tc r) := after_of_writes_sub opsA V opsA_writes h
/-- `opsB` keeps a buffer that it does not write. -/
theorem opsB_keep (V : Valuation τ sig (Elt F)) (r : Ref sig .tc) (h : r ∉ opsB_W) :
    after opsB V (Proc.devRef .tc r) = V (Proc.devRef .tc r) := after_of_writes_sub opsB V opsB_writes h
/-- `opsC` keeps a buffer that it does not write. -/
theorem opsC_keep (V : Valuation τ sig (Elt F)) (r : Ref sig .tc) (h : r ∉ opsC_W) :
    after opsC V (Proc.devRef .tc r) = V (Proc.devRef .tc r) := after_of_writes_sub opsC V opsC_writes h
/-- `condOps` keeps a buffer that it does not write. -/
theorem condOps_keep (V : Valuation τ sig (Elt F)) (r : Ref sig .tc) (h : r ∉ condOps_W) :
    after condOps V (Proc.devRef .tc r) = V (Proc.devRef .tc r) := after_of_writes_sub condOps V condOps_writes h
/-- `opsPost` keeps a buffer that it does not write. -/
theorem opsPost_keep (V : Valuation τ sig (Elt F)) (r : Ref sig .tc) (h : r ∉ opsPost_W) :
    after opsPost V (Proc.devRef .tc r) = V (Proc.devRef .tc r) := after_of_writes_sub opsPost V opsPost_writes h
/-- `opsPre` keeps a buffer that it does not write. -/
theorem opsPre_keep (V : Valuation τ sig (Elt F)) (r : Ref sig .tc) (h : r ∉ opsPre_W) :
    after opsPre V (Proc.devRef .tc r) = V (Proc.devRef .tc r) := after_of_writes_sub opsPre V opsPre_writes h

set_option maxHeartbeats 2000000 in
theorem opsA_v26 (V : Valuation τ sig (Elt F)) : after opsA V (no_index (Proc.devRef .tc main_while0b_v26))
    = rDist (V (Proc.devRef .tc main_v4_0)) (V (Proc.devRef .tc main_v4_3)) (V (Proc.devRef .tc main_v4_5)) := by
  after_results
  rfl

set_option maxHeartbeats 2000000 in
theorem opsA_v14 (V : Valuation τ sig (Elt F)) : after opsA V (no_index (Proc.devRef .tc main_while0b_v14))
    = addi (V (Proc.devRef .tc main_v4_2)) (constantI S_ 32 1#32) := by
  after_results

theorem opsB_v27 (V : Valuation τ sig (Elt F)) : after opsB V (no_index (Proc.devRef .tc main_while0b_v27))
    = rNext (V (Proc.devRef .tc main_while0b_v26)) := by
  after_results
  rfl

theorem opsC_v4_1 (V : Valuation τ sig (Elt F)) : after opsC V (no_index (Proc.devRef .tc main_v4_1))
    = addi (V (Proc.devRef .tc main_v4_1)) (constantI S_ 32 1#32) := by
  after_results
  rfl

theorem opsC_v4_2 (V : Valuation τ sig (Elt F)) : after opsC V (no_index (Proc.devRef .tc main_v4_2))
    = V (Proc.devRef .tc main_while0b_v14) := by
  after_results
  rfl

theorem opsC_v4_3 (V : Valuation τ sig (Elt F)) : after opsC V (no_index (Proc.devRef .tc main_v4_3))
    = V (Proc.devRef .tc main_while0b_v26) := by
  after_results
  rfl

theorem opsC_v4_5 (V : Valuation τ sig (Elt F)) : after opsC V (no_index (Proc.devRef .tc main_v4_5))
    = V (Proc.devRef .tc main_while0b_v27) := by
  after_results
  rfl

set_option maxHeartbeats 200000 in
theorem opsC_v4_4 (V : Valuation τ sig (Elt F)) : after opsC V (no_index (Proc.devRef .tc main_v4_4))
    = rPut (V (Proc.devRef .tc main_v4_4)) (V (Proc.devRef .tc main_while0b_v27)) (V (Proc.devRef .tc main_v4_2)) := by
  unfold rPut
  after_results_entrywise [cast_eq]

set_option maxHeartbeats 2000000 in
theorem opsPost_v13 (V : Valuation τ sig (Elt F)) : after opsPost V (no_index (Proc.devRef .tc main_v13))
    = shapeCast S6248x3 (Host.gather gather_S4x25000x3_S4x1562x2_S4x1562x3_2_01_n_n_01_2_113
        (shapeCast S4x25000x3 (V (Proc.devRef .tc main_arg0)) shapeCasts_S100000x3_S4x25000x3)
        (concatenate S4x1562x2 2 [⟨S4x1562x1, broadcastInDim S4x1562x1 ![0, 1] bcast_S4x1562_S4x1562x1_0_1 (broadcastInDim S4x1562 ![0, 1] bcast_S4x1_S4x1562_0_1 (broadcastInDim S4x1 ![0] bcast_S4_S4x1_0 (iotaInDim S4 32 0)))⟩,
          ⟨S4x1562x1, broadcastInDim S4x1562x1 ![0, 1] bcast_S4x1562_S4x1562x1_0_1 (V (Proc.devRef .tc main_v4_4))⟩] concatenates_S4x1562x1_S4x1562x1_S4x1562x2_d2))
        shapeCasts_S4x1562x3_S6248x3 := by
  after_results
  rfl

/-! ## The run -/

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The points, as four segments. -/
def pts (c : Dev nD) : (⟨S4x25000x3, .f32⟩ : BufTy).Contents (Elt F) :=
  shapeCast S4x25000x3 (m ((c.tc : Thread nD τ).loc main_arg0)) shapeCasts_S100000x3_S4x25000x3

/-- The loop's distances, list of chosen points, and last chosen point. -/
abbrev RState (F : FTy → Type) : Type := (⟨S4x25000, .f32⟩ : BufTy).Contents (Elt F) × (⟨S4x1562, .i32⟩ : BufTy).Contents (Elt F) × (⟨S4, .i32⟩ : BufTy).Contents (Elt F)

/-- The loop's state after `k` trips. -/
def rState (p4 : (⟨S4x25000x3, .f32⟩ : BufTy).Contents (Elt F)) : ℕ → RState F
  | 0 => (broadcastInDim S4x25000 ![] bcast_S_S4x25000 (constant S_ .f32 0x501502F9#32),
      broadcastInDim S4x1562 ![] bcast_S_S4x1562 (constantI S_ 32 0#32), broadcastInDim S4 ![] bcast_S_S4 (constantI S_ 32 0#32))
  | k + 1 =>
    (rDist p4 (rState p4 k).1 (rState p4 k).2.2,
      rPut (rState p4 k).2.1 (rNext (rDist p4 (rState p4 k).1 (rState p4 k).2.2)) (fun _ => Scf.iv 1#32 1#32 k),
      rNext (rDist p4 (rState p4 k).1 (rState p4 k).2.2))

set_option maxHeartbeats 2000000 in
/-- The carried buffers at the loop's entry. -/
theorem pre_vals (V : Valuation τ sig (Elt F)) :
    after opsPre V (Proc.devRef .tc main_v4_0) = shapeCast S4x25000x3 (V (Proc.devRef .tc main_arg0)) shapeCasts_S100000x3_S4x25000x3
    ∧ after opsPre V (Proc.devRef .tc main_v4_1) = constantI S_ 32 0#32
    ∧ after opsPre V (Proc.devRef .tc main_v4_2) = constantI S_ 32 1#32
    ∧ after opsPre V (Proc.devRef .tc main_v4_3) = (broadcastInDim S4x25000 ![] bcast_S_S4x25000 (constant S_ .f32 0x501502F9#32) : (⟨S4x25000, .f32⟩ : BufTy).Contents (Elt F))
    ∧ after opsPre V (Proc.devRef .tc main_v4_4) = (broadcastInDim S4x1562 ![] bcast_S_S4x1562 (constantI S_ 32 0#32) : (⟨S4x1562, .i32⟩ : BufTy).Contents (Elt F))
    ∧ after opsPre V (Proc.devRef .tc main_v4_5) = (broadcastInDim S4 ![] bcast_S_S4 (constantI S_ 32 0#32) : (⟨S4, .i32⟩ : BufTy).Contents (Elt F))
    ∧ after opsPre V (Proc.devRef .tc main_c) = (fun i => lit0 (S4.rowMajor i)) := by
  refine ⟨?_, ?_, ?_, ?_, ?_, ?_, ?_⟩ <;> after_results <;> rfl

/-- The carried buffers, the argument and the constant result before the `k`-th run of the condition. -/
structure AtK (k : ℕ) (c : Dev nD) (X : Valuation τ sig (Elt F)) : Prop where
  v0 : X (Proc.devRef .tc main_v4_0) = pts m c
  v1 : X (Proc.devRef .tc main_v4_1) = fun _ => Scf.iv 0#32 1#32 k
  v2 : X (Proc.devRef .tc main_v4_2) = fun _ => Scf.iv 1#32 1#32 k
  v3 : X (Proc.devRef .tc main_v4_3) = (rState (pts m c) k).1
  v4 : X (Proc.devRef .tc main_v4_4) = (rState (pts m c) k).2.1
  v5 : X (Proc.devRef .tc main_v4_5) = (rState (pts m c) k).2.2
  a0 : X (Proc.devRef .tc main_arg0) = m ((c.tc : Thread nD τ).loc main_arg0)
  cc : X (Proc.devRef .tc main_c) = fun i => lit0 (S4.rowMajor i)

theorem atK_entry (c : Dev nD) : AtK m 0 c (after opsPre (launchContents m c)) := by
  obtain ⟨h0, h1, h2, h3, h4, h5, hc⟩ := pre_vals (launchContents m c)
  exact ⟨h0, h1.trans (by rw [Scf.iv_zero]; rfl), h2.trans (by rw [Scf.iv_zero]; rfl), h3, h4, h5,
    opsPre_keep _ main_arg0 (by decide), hc⟩

/-- The condition leaves them. -/
theorem AtK.cond {k : ℕ} {c : Dev nD} {X : Valuation τ sig (Elt F)} (h : AtK m k c X) : AtK m k c (after condOps X) :=
  ⟨(condOps_keep X main_v4_0 (by decide)).trans h.v0, (condOps_keep X main_v4_1 (by decide)).trans h.v1,
    (condOps_keep X main_v4_2 (by decide)).trans h.v2, (condOps_keep X main_v4_3 (by decide)).trans h.v3,
    (condOps_keep X main_v4_4 (by decide)).trans h.v4, (condOps_keep X main_v4_5 (by decide)).trans h.v5,
    (condOps_keep X main_arg0 (by decide)).trans h.a0, (condOps_keep X main_c (by decide)).trans h.cc⟩

/-- One trip's body takes them a step on. -/
theorem AtK.body {k : ℕ} {c : Dev nD} {X : Valuation τ sig (Elt F)} (h : AtK m k c X) :
    AtK m (k + 1) c (after opsC (after opsB (after opsA X))) := by
  have keep : ∀ r, r ∉ opsA_W → r ∉ opsB_W → after opsB (after opsA X) (Proc.devRef .tc r) = X (Proc.devRef .tc r) :=
    fun r ha hb => (opsB_keep _ r hb).trans (opsA_keep _ r ha)
  have e26 : after opsB (after opsA X) (Proc.devRef .tc main_while0b_v26)
      = rDist (pts m c) (rState (pts m c) k).1 (rState (pts m c) k).2.2 := by
    rw [opsB_keep _ _ (by decide), opsA_v26, h.v0, h.v3, h.v5]
  have e27 : after opsB (after opsA X) (Proc.devRef .tc main_while0b_v27)
      = rNext (rDist (pts m c) (rState (pts m c) k).1 (rState (pts m c) k).2.2) := by
    rw [opsB_v27, opsA_v26, h.v0, h.v3, h.v5]
  have e14 : after opsB (after opsA X) (Proc.devRef .tc main_while0b_v14) = fun _ => Scf.iv 1#32 1#32 (k + 1) := by
    rw [opsB_keep _ _ (by decide), opsA_v14, h.v2, Scf.iv_succ]; rfl
  refine ⟨?_, ?_, ?_, ?_, ?_, ?_, ?_, ?_⟩
  · rw [opsC_keep _ _ (by decide), keep _ (by decide) (by decide), h.v0]
  · rw [opsC_v4_1, keep _ (by decide) (by decide), h.v1, Scf.iv_succ]; rfl
  · exact (opsC_v4_2 _).trans e14
  · rw [opsC_v4_3, e26]; rfl
  · have k4 := keep main_v4_4 (by decide) (by decide)
    have k2 := keep main_v4_2 (by decide) (by decide)
    rw [opsC_v4_4, e27, k4, k2, h.v4, h.v2]; rfl
  · rw [opsC_v4_5, e27, rState]
  · rw [opsC_keep _ _ (by decide), keep _ (by decide) (by decide), h.a0]
  · rw [opsC_keep _ _ (by decide), keep _ (by decide) (by decide), h.cc]

theorem atK_all (c : Dev nD) : ∀ k, AtK m k c (atK m k c)
  | 0 => atK_entry m c
  | k + 1 => ((atK_all c k).cond m).body m

/-- The reference's first result. -/
def refOut (p4 : (⟨S4x25000x3, .f32⟩ : BufTy).Contents (Elt F)) (idxs : (⟨S4x1562, .i32⟩ : BufTy).Contents (Elt F)) :
    (⟨S6248x3, .f32⟩ : BufTy).Contents (Elt F) :=
  shapeCast S6248x3 (Host.gather gather_S4x25000x3_S4x1562x2_S4x1562x3_2_01_n_n_01_2_113 p4
        (concatenate S4x1562x2 2 [⟨S4x1562x1, broadcastInDim S4x1562x1 ![0, 1] bcast_S4x1562_S4x1562x1_0_1 (broadcastInDim S4x1562 ![0, 1] bcast_S4x1_S4x1562_0_1 (broadcastInDim S4x1 ![0] bcast_S4_S4x1_0 (iotaInDim S4 32 0)))⟩,
          ⟨S4x1562x1, broadcastInDim S4x1562x1 ![0, 1] bcast_S4x1562_S4x1562x1_0_1 idxs⟩] concatenates_S4x1562x1_S4x1562x1_S4x1562x2_d2))
        shapeCasts_S4x1562x3_S6248x3

/-- The results after the run: the points that the list of chosen points names, and the constant. -/
theorem final_vals (c : Dev nD) :
    finalContents condOps preI bodyI postI 1561 m c (Proc.devRef .tc main_v13) = refOut (pts m c) (rState (pts m c) 1561).2.1
    ∧ finalContents condOps preI bodyI postI 1561 m c (Proc.devRef .tc main_c) = (fun i => lit0 (S4.rowMajor i)) := by
  have h := (atK_all m c 1561).cond m
  constructor
  · show after opsPost (after condOps (atK m 1561 c)) _ = _
    rw [opsPost_v13, h.a0, h.v4]; rfl
  · show after opsPost (after condOps (atK m 1561 c)) _ = _
    rw [opsPost_keep _ _ (by decide), h.cc]

-- a rule stated for any thread is applied at the TensorCore's thread: unification unfolds plain definitions in types
set_option backward.isDefEq.respectTransparency.types false in
/-- The condition holds before the first 1561 trips and fails at the next. -/
theorem cond_spec : CondSpec (pcfgs (F := F)) defs₀ loops (main_while0_cond (F := F)) condOps bodyI (entryContents preI m) 1561 := by
  intro k hk c bd
  have hctr := (atK_all m c k).v1
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_9 HostLoop.idx0) = 1#1) (k < 1561)
    rw [nullary_result_ne _ _ _ _ (by decide), nullary_result, hctr]
    exact Scf.cmpi_slt_iv_ub_iff (lb := 0#32) (ub := 1561#32) (st := 1#32) (by decide) (show k ≤ Scf.trips 0#32 1561#32 1#32 from hk)
  isplitl [Hb]; · iexact Hb
  rw [after_cons, after_cons, after_nil]; iexact Hh

set_option maxRecDepth 100000 in
/-- Every fair execution terminates with every unscoped buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1561 m c (Proc.devRef .tc b)) :=
  run_loop (pcfgs (F := F)) defs₀ loops main 0 main_while0_cond main_while0_body rfl preI bodyI postI condOps hpre hbodyI hpost
    (fun c => by rw [main_chain]; rfl) (by rw [body_chain]; rfl) 1561 m ρ (cond_spec m)

end Cert.ReferenceIdeal.Value

end
-- ==== Proof.ReferenceState.lean ====
module

public import proofs.«01_k».proof.Proof.ReferenceRun
public import proofs.«01_k».proof.Proof.Sampling
public import proofs.«01_k».proof.Proof.Words
public import Idealize.ShloMosaic.Lib.Pointwise
public import Idealize.ShloMosaic.PureOps.Ideal

@[expose] public section

/-! # What the reference computes

The reference's distances and chosen points, trip by trip, are those of furthest point sampling. -/

set_option maxRecDepth 16384

noncomputable section

namespace Cert.ReferenceIdeal.Value

open Idealize.ShloMosaic Cert.ReferenceIdeal Cert.ReferenceIdeal.Gen Cert.Sampling

/-- The gather of one point per segment. -/
theorem gather1_apply (p4 : FVec Ideal S4x25000x3 .f32) (idx : IVec S4x1x2 32) (b : Fin 4) (e : Fin 3) (n : Fin 25000)
    (h0 : idx (ix3 b 0 0) = BitVec.ofNat 32 b.val) (h1 : idx (ix3 b 0 1) = BitVec.ofNat 32 n.val) :
    Host.gather gather_S4x25000x3_S4x1x2_S4x1x3_2_01_n_n_01_2_113 p4 idx (ix3 b 0 e) = p4 (ix3 b n e) := by
  unfold Host.gather
  refine congrArg p4 (funext fun a => Fin.ext ?_)
  match a with
  | ⟨0, _⟩ =>
    show GatherDims.start gather_S4x25000x3_S4x1x2_S4x1x3_2_01_n_n_01_2_113 _ idx 0 + GatherDims.batchCoord gather_S4x25000x3_S4x1x2_S4x1x3_2_01_n_n_01_2_113 _ 0 + GatherDims.offCoord gather_S4x25000x3_S4x1x2_S4x1x3_2_01_n_n_01_2_113 _ 0 = b.val
    rw [GatherDims.batchCoord_eq_zero _ _ _ (List.not_mem_nil), GatherDims.offCoord_eq_zero _ _ _ (by rw [GatherDims.mem_sKept]; decide)]
    have hsi : GatherDims.siIdx gather_S4x25000x3_S4x1x2_S4x1x3_2_01_n_n_01_2_113 (ix3 b 0 e) ⟨0, by decide⟩ = ix3 b 0 0 := by
      funext x
      fin_cases x <;> rfl
    unfold GatherDims.start
    rw [dif_pos (by decide)]
    change min (idx (GatherDims.siIdx gather_S4x25000x3_S4x1x2_S4x1x3_2_01_n_n_01_2_113 (ix3 b 0 e) ⟨0, by decide⟩)).toInt.toNat 3 + 0 + 0 = b.val
    rw [hsi]
    rw [h0, toInt_ofNat (by omega)]; omega
  | ⟨1, _⟩ =>
    show GatherDims.start gather_S4x25000x3_S4x1x2_S4x1x3_2_01_n_n_01_2_113 _ idx 1 + GatherDims.batchCoord gather_S4x25000x3_S4x1x2_S4x1x3_2_01_n_n_01_2_113 _ 1 + GatherDims.offCoord gather_S4x25000x3_S4x1x2_S4x1x3_2_01_n_n_01_2_113 _ 1 = n.val
    rw [GatherDims.batchCoord_eq_zero _ _ _ (List.not_mem_nil), GatherDims.offCoord_eq_zero _ _ _ (by rw [GatherDims.mem_sKept]; decide)]
    have hsi : GatherDims.siIdx gather_S4x25000x3_S4x1x2_S4x1x3_2_01_n_n_01_2_113 (ix3 b 0 e) ⟨1, by decide⟩ = ix3 b 0 1 := by
      funext x
      fin_cases x <;> rfl
    unfold GatherDims.start
    rw [dif_pos (by decide)]
    change min (idx (GatherDims.siIdx gather_S4x25000x3_S4x1x2_S4x1x3_2_01_n_n_01_2_113 (ix3 b 0 e) ⟨1, by decide⟩)).toInt.toNat 24999 + 0 + 0 = n.val
    rw [hsi]
    rw [h1, toInt_ofNat (by omega)]; omega
  | ⟨2, _⟩ =>
    show 0 + 0 + e.val = e.val
    omega

/-- The gather of the list of points of each segment. -/
theorem gather2_apply (p4 : FVec Ideal S4x25000x3 .f32) (idx : IVec S4x1562x2 32) (b : Fin 4) (i : Fin 1562) (e : Fin 3) (n : Fin 25000)
    (h0 : idx (ix3 b i 0) = BitVec.ofNat 32 b.val) (h1 : idx (ix3 b i 1) = BitVec.ofNat 32 n.val) :
    Host.gather gather_S4x25000x3_S4x1562x2_S4x1562x3_2_01_n_n_01_2_113 p4 idx (ix3 b i e) = p4 (ix3 b n e) := by
  unfold Host.gather
  refine congrArg p4 (funext fun a => Fin.ext ?_)
  match a with
  | ⟨0, _⟩ =>
    show GatherDims.start gather_S4x25000x3_S4x1562x2_S4x1562x3_2_01_n_n_01_2_113 _ idx 0 + GatherDims.batchCoord gather_S4x25000x3_S4x1562x2_S4x1562x3_2_01_n_n_01_2_113 _ 0 + GatherDims.offCoord gather_S4x25000x3_S4x1562x2_S4x1562x3_2_01_n_n_01_2_113 _ 0 = b.val
    rw [GatherDims.batchCoord_eq_zero _ _ _ (List.not_mem_nil), GatherDims.offCoord_eq_zero _ _ _ (by rw [GatherDims.mem_sKept]; decide)]
    have hsi : GatherDims.siIdx gather_S4x25000x3_S4x1562x2_S4x1562x3_2_01_n_n_01_2_113 (ix3 b i e) ⟨0, by decide⟩ = ix3 b i 0 := by
      funext x
      fin_cases x <;> rfl
    unfold GatherDims.start
    rw [dif_pos (by decide)]
    change min (idx (GatherDims.siIdx gather_S4x25000x3_S4x1562x2_S4x1562x3_2_01_n_n_01_2_113 (ix3 b i e) ⟨0, by decide⟩)).toInt.toNat 3 + 0 + 0 = b.val
    rw [hsi]
    rw [h0, toInt_ofNat (by omega)]; omega
  | ⟨1, _⟩ =>
    show GatherDims.start gather_S4x25000x3_S4x1562x2_S4x1562x3_2_01_n_n_01_2_113 _ idx 1 + GatherDims.batchCoord gather_S4x25000x3_S4x1562x2_S4x1562x3_2_01_n_n_01_2_113 _ 1 + GatherDims.offCoord gather_S4x25000x3_S4x1562x2_S4x1562x3_2_01_n_n_01_2_113 _ 1 = n.val
    rw [GatherDims.batchCoord_eq_zero _ _ _ (List.not_mem_nil), GatherDims.offCoord_eq_zero _ _ _ (by rw [GatherDims.mem_sKept]; decide)]
    have hsi : GatherDims.siIdx gather_S4x25000x3_S4x1562x2_S4x1562x3_2_01_n_n_01_2_113 (ix3 b i e) ⟨1, by decide⟩ = ix3 b i 1 := by
      funext x
      fin_cases x <;> rfl
    unfold GatherDims.start
    rw [dif_pos (by decide)]
    change min (idx (GatherDims.siIdx gather_S4x25000x3_S4x1562x2_S4x1562x3_2_01_n_n_01_2_113 (ix3 b i e) ⟨1, by decide⟩)).toInt.toNat 24999 + 0 + 0 = n.val
    rw [hsi]
    rw [h1, toInt_ofNat (by omega)]; omega
  | ⟨2, _⟩ =>
    show 0 + 0 + e.val = e.val
    omega

/-- The point chosen last, by its place. -/
theorem rLast_apply (p4 : FVec Ideal S4x25000x3 .f32) (last : IVec S4 32) (b : Fin 4) (e : Fin 3) (n : Fin 25000)
    (hn : last (ix1 b) = BitVec.ofNat 32 n.val) :
    rLast (F := Ideal) p4 last (ix3 b 0 e) = p4 (ix3 b n e) := by
  refine gather1_apply p4 _ b e n ?_ ?_
  · pointwise
  · pointwise
    exact hn

theorem rDist_apply (p4 : FVec Ideal S4x25000x3 .f32) (d : FVec Ideal S4x25000 .f32) (last : IVec S4 32) (b : Fin 4) (n : Fin 25000) :
    rDist (F := Ideal) p4 d last (ix2 b n) = min (d (ix2 b n))
      ((p4 (ix3 b n 0) - rLast (F := Ideal) p4 last (ix3 b 0 0)) * (p4 (ix3 b n 0) - rLast (F := Ideal) p4 last (ix3 b 0 0))
      + (p4 (ix3 b n 1) - rLast (F := Ideal) p4 last (ix3 b 0 1)) * (p4 (ix3 b n 1) - rLast (F := Ideal) p4 last (ix3 b 0 1))
      + (p4 (ix3 b n 2) - rLast (F := Ideal) p4 last (ix3 b 0 2)) * (p4 (ix3 b n 2) - rLast (F := Ideal) p4 last (ix3 b 0 2))) := by
  unfold rDist rDiff
  generalize rLast (F := Ideal) p4 last = q
  pointwise
  rw [Fin.sum_univ_three]

theorem rPut_apply (idxs : IVec S4x1562 32) (nxt : IVec S4 32) (k : ℕ) (hk : k < 1561) (b : Fin 4) (i : Fin 1562) :
    rPut (F := Ideal) idxs nxt (fun _ => Scf.iv 1#32 1#32 k) (ix2 b i) = if i.val = k + 1 then nxt (ix1 b) else idxs (ix2 b i) := by
  unfold rPut
  generalize hst : (fun a : Fin 2 => (((![constantI S_ 32 0#32, select (cmpi .slt (fun _ => Scf.iv 1#32 1#32 k) (constantI S_ 32 0#32))
    (addi (fun _ => Scf.iv 1#32 1#32 k) (constantI S_ 32 1562#32)) (fun _ => Scf.iv 1#32 1#32 k)] : Fin 2 → (⟨S_, .i32⟩ : BufTy).Contents (Elt Ideal)) a)
      (Shape.Idx.first h_S_)).toInt) = st
  have hk' : (Scf.iv 1#32 1#32 k).toInt = (k + 1 : ℕ) := by
    have : Scf.iv 1#32 1#32 k = BitVec.ofNat 32 (k + 1) := by
      show 1#32 + BitVec.ofNat 32 k * 1#32 = _
      rw [BitVec.mul_one, Nat.add_comm k 1, BitVec.ofNat_add]
    rw [this, toInt_ofNat (by omega)]
  have c0 : ∀ h, Host.clampedStart S4x1562 S4x1 h st 0 = 0 := fun h =>
    Host.clampedStart_of_le h st 0 0 (by rw [← hst]; rfl) (by show 0 + 4 ≤ 4; omega)
  have c1 : ∀ h, Host.clampedStart S4x1562 S4x1 h st 1 = k + 1 := fun h =>
    Host.clampedStart_of_le h st 1 (k + 1) (by
      rw [← hst]
      show (if BitVec.ofBool (decide ((Scf.iv 1#32 1#32 k).toInt < 0)) = 1#1 then _ else Scf.iv 1#32 1#32 k).toInt = _
      rw [decide_eq_false (by omega), if_neg (by decide)]
      exact hk') (by show k + 1 + 1 ≤ 1562; omega)
  pointwise
  simp only [c0, c1]
  by_cases h : i.val = k + 1
  · rw [if_pos h, dif_pos (by omega)]; rfl
  · rw [if_neg h, dif_neg (by omega)]

/-- The reducer keeps one of its operands, and the one kept comes first: it is greater, or equal and not later. -/
theorem reducer_spec (a b : EReal × BitVec 32) :
    (reducer_argmax_f32_i32 (F := Ideal) a b = a ∧ (b.1 < a.1 ∨ (b.1 = a.1 ∧ a.2.toInt ≤ b.2.toInt)))
    ∨ (reducer_argmax_f32_i32 (F := Ideal) a b = b ∧ (a.1 < b.1 ∨ (a.1 = b.1 ∧ b.2.toInt ≤ a.2.toInt))) := by
  obtain ⟨av, ai⟩ := a
  obtain ⟨bv, bi⟩ := b
  have e : reducer_argmax_f32_i32 (F := Ideal) (av, ai) (bv, bi)
      = (if bv < av then (av, ai) else if av = bv ∧ ai.toInt < bi.toInt then (av, ai) else (bv, bi)) := by
    unfold reducer_argmax_f32_i32
    dsimp only
    simp only [Ideal.cmpf_def, Ideal.cmp, IntOp.cmpi, BitVec.slt]
    by_cases h1 : bv < av <;> by_cases h2 : av = bv <;> by_cases h3 : ai.toInt < bi.toInt <;>
      simp [h1, h2, h3, IntOp.ori, IntOp.andi, Scalar.select]
  rw [e]
  by_cases h1 : bv < av
  · rw [if_pos h1]; exact .inl ⟨rfl, .inl h1⟩
  · rw [if_neg h1]
    by_cases h2 : av = bv ∧ ai.toInt < bi.toInt
    · rw [if_pos h2]; exact .inl ⟨rfl, .inr ⟨h2.1.symm, h2.2.le⟩⟩
    · rw [if_neg h2]
      refine .inr ⟨rfl, ?_⟩
      rcases lt_or_eq_of_le (not_lt.mp h1) with h | h
      · exact .inl h
      · exact .inr ⟨h, not_lt.mp fun h' => h2 ⟨h, h'⟩⟩

/-- The fold of the reducer returns the start or an entry, and that one comes before the start and every entry. -/
theorem foldl_spec (l : List (EReal × BitVec 32)) (init : EReal × BitVec 32) :
    (l.foldl (reducer_argmax_f32_i32 (F := Ideal)) init = init ∨ l.foldl (reducer_argmax_f32_i32 (F := Ideal)) init ∈ l)
    ∧ ∀ q, q = init ∨ q ∈ l → q.1 < (l.foldl (reducer_argmax_f32_i32 (F := Ideal)) init).1
      ∨ (q.1 = (l.foldl (reducer_argmax_f32_i32 (F := Ideal)) init).1
        ∧ (l.foldl (reducer_argmax_f32_i32 (F := Ideal)) init).2.toInt ≤ q.2.toInt) := by
  induction l generalizing init with
  | nil =>
    refine ⟨.inl rfl, ?_⟩
    rintro q (rfl | h)
    · exact .inr ⟨rfl, le_rfl⟩
    · exact absurd h (List.not_mem_nil)
  | cons a l ih =>
    rw [List.foldl_cons]
    obtain ⟨h1, h2⟩ := ih (reducer_argmax_f32_i32 (F := Ideal) init a)
    generalize l.foldl (reducer_argmax_f32_i32 (F := Ideal)) (reducer_argmax_f32_i32 (F := Ideal) init a) = f at h1 h2 ⊢
    have trans : ∀ p q : EReal × BitVec 32, (p.1 < q.1 ∨ (p.1 = q.1 ∧ q.2.toInt ≤ p.2.toInt)) →
        (q.1 < f.1 ∨ (q.1 = f.1 ∧ f.2.toInt ≤ q.2.toInt)) → p.1 < f.1 ∨ (p.1 = f.1 ∧ f.2.toInt ≤ p.2.toInt) := by
      rintro p q (h | ⟨h, h'⟩) (g | ⟨g, g'⟩)
      · exact .inl (h.trans g)
      · exact .inl (g ▸ h)
      · exact .inl (h ▸ g)
      · exact .inr ⟨h.trans g, g'.trans h'⟩
    rcases reducer_spec init a with ⟨e, hle⟩ | ⟨e, hle⟩
    · rw [e] at h1 h2
      refine ⟨h1.imp id (List.mem_cons_of_mem a), ?_⟩
      rintro q (rfl | h)
      · exact h2 _ (.inl rfl)
      · rcases List.mem_cons.mp h with rfl | h
        · exact trans _ _ hle (h2 _ (.inl rfl))
        · exact h2 _ (.inr h)
    · rw [e] at h1 h2
      refine ⟨.inr ?_, ?_⟩
      · rcases h1 with rfl | h1
        · exact List.mem_cons_self
        · exact List.mem_cons_of_mem a h1
      · rintro q (rfl | h)
        · exact trans _ _ hle (h2 _ (.inl rfl))
        · rcases List.mem_cons.mp h with rfl | h
          · exact h2 _ (.inl rfl)
          · exact h2 _ (.inr h)

/-- The pairs that are reduced for segment `b`. -/
theorem mem_fiber (d : FVec Ideal S4x25000 .f32) (b : Fin 4) (q : EReal × BitVec 32) :
    q ∈ Host.argReduceFiber (α := EReal) d (iotaInDim S4x25000 32 1) reducesTo_S4x25000_S4_d1 (ix1 b)
      ↔ ∃ n : Fin 25000, q = (d (ix2 b n), BitVec.ofNat 32 n.val) := by
  unfold Host.argReduceFiber
  simp only [List.mem_map, List.mem_filter, List.mem_finRange, true_and, decide_eq_true_eq]
  constructor
  · rintro ⟨i, hi, rfl⟩
    generalize S4x25000.rowMajor.symm i = j at hi ⊢
    have hj : (j 0).val = b.val := congrArg Fin.val (congrFun hi 0)
    have hj2 : j = ix2 b (j 1) := by
      funext a
      match a with
      | ⟨0, _⟩ => exact Fin.ext hj
      | ⟨1, _⟩ => rfl
    exact ⟨j 1, Prod.ext (congrArg d hj2) rfl⟩
  · rintro ⟨n, rfl⟩
    refine ⟨S4x25000.rowMajor (ix2 b n), ?_, ?_⟩
    · rw [Equiv.symm_apply_apply]
      funext a
      match a with
      | ⟨0, _⟩ => rfl
    · rw [Equiv.symm_apply_apply]; rfl

/-- The next point is the first of the greatest distance. -/
theorem rNext_apply (d : FVec Ideal S4x25000 .f32) (b : Fin 4) :
    ∃ n : Fin 25000, rNext (F := Ideal) d (ix1 b) = BitVec.ofNat 32 n.val
      ∧ (∀ i, d (ix2 b i) ≤ d (ix2 b n)) ∧ ∀ i, i < n → d (ix2 b i) < d (ix2 b n) := by
  unfold rNext
  rw [Ideal.argReduce_eq_reduce2]
  rw [Host.reduce2_eq_foldl_fiber]
  have hm := mem_fiber d b
  generalize Host.argReduceFiber (α := Ideal .f32) d (iotaInDim S4x25000 32 1) reducesTo_S4x25000_S4_d1 (ix1 b) = l at hm ⊢
  have e : (constant S_ .f32 0xFF800000#32 (Shape.Idx.first h_S_) : Ideal .f32) = ⊥ := ofBits_negInf
  rw [e]
  change ∃ n : Fin 25000, (List.foldl (reducer_argmax_f32_i32 (F := Ideal)) (⊥, 0#32) l).2 = _ ∧ _
  obtain ⟨h1, h2⟩ := foldl_spec l (⊥, 0#32)
  generalize List.foldl (reducer_argmax_f32_i32 (F := Ideal)) (⊥, 0#32) l = f at h1 h2 ⊢
  have hin : ∀ i : Fin 25000, d (ix2 b i) < f.1 ∨ (d (ix2 b i) = f.1 ∧ f.2.toInt ≤ (BitVec.ofNat 32 i.val).toInt) :=
    fun i => h2 _ (.inr ((hm _).mpr ⟨i, rfl⟩))
  rcases h1 with rfl | h1
  · have hbot : ∀ i : Fin 25000, d (ix2 b i) = ⊥ := fun i => by
      rcases hin i with h | h
      · exact absurd h not_lt_bot
      · exact h.1
    refine ⟨0, rfl, fun i => ?_, fun i h => absurd h (Fin.not_lt_zero i)⟩
    rw [hbot, hbot]
  · obtain ⟨n, rfl⟩ := (hm _).mp h1
    refine ⟨n, rfl, fun i => ?_, fun i hlt => ?_⟩
    · rcases hin i with h | h
      · exact h.le
      · exact h.1.le
    · rcases hin i with h | ⟨-, h⟩
      · exact h
      · rw [toInt_ofNat (by omega), toInt_ofNat (by omega)] at h
        have := Fin.lt_def.mp hlt
        omega

/-- An entry of the points; nought outside. -/
def coord (p4 : FVec Ideal S4x25000x3 .f32) (b n : ℕ) (e : Fin 3) : EReal :=
  if h : b < 4 ∧ n < 25000 then p4 (ix3 ⟨b, h.1⟩ ⟨n, h.2⟩ e) else 0

/-- The reference's distances, by round, segment and place; `⊥` outside. -/
def rD (p4 : FVec Ideal S4x25000x3 .f32) (k b n : ℕ) : EReal :=
  if h : b < 4 ∧ n < 25000 then (rState (F := Ideal) p4 k).1 (ix2 ⟨b, h.1⟩ ⟨n, h.2⟩) else ⊥

/-- The reference's chosen places, by round and segment. -/
def rL (p4 : FVec Ideal S4x25000x3 .f32) (k b : ℕ) : ℕ :=
  if h : b < 4 then ((rState (F := Ideal) p4 k).2.2 (ix1 ⟨b, h⟩)).toNat else 0

/-- A trip's distances. -/
theorem rState_dist (p4 : FVec Ideal S4x25000x3 .f32) (k : ℕ) :
    (rState (F := Ideal) p4 (k + 1)).1 = rDist (F := Ideal) p4 (rState p4 k).1 (rState p4 k).2.2 := by
  rw [rState]

/-- A trip's list of chosen points. -/
theorem rState_list (p4 : FVec Ideal S4x25000x3 .f32) (k : ℕ) :
    (rState (F := Ideal) p4 (k + 1)).2.1
      = rPut (F := Ideal) (rState p4 k).2.1 (rState p4 (k + 1)).2.2 (fun _ => Scf.iv 1#32 1#32 k) := by
  simp only [rState]

/-- A trip chooses the next point. -/
theorem rState_last (p4 : FVec Ideal S4x25000x3 .f32) (k : ℕ) :
    (rState (F := Ideal) p4 (k + 1)).2.2 = rNext (F := Ideal) (rState p4 (k + 1)).1 := by
  simp only [rState]

/-- The word of a chosen place. -/
theorem rL_word (p4 : FVec Ideal S4x25000x3 .f32) (k : ℕ) (b : Fin 4) :
    rL p4 k b.val < 25000 ∧ (rState (F := Ideal) p4 k).2.2 (ix1 b) = BitVec.ofNat 32 (rL p4 k b.val) := by
  unfold rL
  rw [dif_pos b.isLt]
  cases k with
  | zero => exact ⟨by show (0#32).toNat < 25000; decide, rfl⟩
  | succ k =>
    obtain ⟨n, h, -, -⟩ := rNext_apply (rState (F := Ideal) p4 (k + 1)).1 b
    have h' := (congrFun (rState_last p4 k) (ix1 b)).trans h
    refine ⟨?_, by simp⟩
    rw [show (⟨b.val, b.isLt⟩ : Fin 4) = b from rfl, h', BitVec.toNat_ofNat, Nat.mod_eq_of_lt (by omega)]
    exact n.isLt

/-- The reference samples the points. -/
theorem sampled (p4 : FVec Ideal S4x25000x3 .f32) : Sampled (Ideal.ofBits .f32 0x501502F9#32) (coord p4) (rD p4) (rL p4) where
  dist_zero b n hb hn := by unfold rD; rw [dif_pos ⟨hb, hn⟩]; rfl
  dist_pad k b n hn := by unfold rD; rw [dif_neg (by omega)]
  last_zero b hb := by unfold rL; rw [dif_pos hb]; rfl
  dist_succ k b n hb hn := by
    obtain ⟨h1, h2⟩ := rL_word p4 k ⟨b, hb⟩
    unfold rD
    rw [dif_pos ⟨hb, hn⟩, dif_pos ⟨hb, hn⟩]
    refine (congrFun (rState_dist p4 k) _).trans ((rDist_apply p4 _ _ _ _).trans ?_)
    simp only [rLast_apply p4 _ ⟨b, hb⟩ _ ⟨rL p4 k b, h1⟩ h2]
    unfold dist2 coord
    simp only [dif_pos (And.intro hb hn), dif_pos (And.intro hb h1)]
  last_succ k b hb := by
    obtain ⟨n, h, hmax, hfst⟩ := rNext_apply (rState (F := Ideal) p4 (k + 1)).1 ⟨b, hb⟩
    have hn : rL p4 (k + 1) b = n.val := by
      unfold rL
      rw [dif_pos hb]
      have h' := (congrFun (rState_last p4 k) (ix1 ⟨b, hb⟩)).trans h
      rw [h', BitVec.toNat_ofNat, Nat.mod_eq_of_lt (by omega)]
    rw [hn]
    refine ⟨n.isLt, fun i hi => ?_, fun i hi => ?_⟩
    · unfold rD
      rw [dif_pos ⟨hb, hi⟩, dif_pos ⟨hb, n.isLt⟩]
      exact hmax ⟨i, hi⟩
    · unfold rD
      rw [dif_pos ⟨hb, hi.trans n.isLt⟩, dif_pos ⟨hb, n.isLt⟩]
      exact hfst ⟨i, hi.trans n.isLt⟩ hi

/-- After `k` trips the list of chosen points holds, up to column `k`, the place chosen in each round. -/
theorem list_apply (p4 : FVec Ideal S4x25000x3 .f32) (k : ℕ) (hk : k ≤ 1561) (b : Fin 4) (i : Fin 1562) (hi : i.val ≤ k) :
    (rState (F := Ideal) p4 k).2.1 (ix2 b i) = BitVec.ofNat 32 (rL p4 i.val b.val) := by
  induction k with
  | zero =>
    rw [show i.val = 0 by omega, ← (rL_word p4 0 b).2]; rfl
  | succ k ih =>
    refine (congrFun (rState_list p4 k) _).trans ((rPut_apply _ _ k (by omega) b i).trans ?_)
    by_cases h : i.val = k + 1
    · rw [if_pos h, h, ← (rL_word p4 (k + 1) b).2]
    · rw [if_neg h]; exact ih (by omega) (by omega)

/-- Row `i` of the reference's first result is the point chosen after `i % 1562` rounds in segment `i / 1562`. -/
theorem refOut_apply (p4 : FVec Ideal S4x25000x3 .f32) (i : Fin 6248) (e : Fin 3) :
    refOut (F := Ideal) p4 (rState (F := Ideal) p4 1561).2.1 (ix2 i e) = coord p4 (i.val / 1562) (rL p4 (i.val % 1562) (i.val / 1562)) e := by
  have hb : i.val / 1562 < 4 := by omega
  have hj : i.val % 1562 < 1562 := by omega
  have hl := list_apply p4 1561 le_rfl ⟨_, hb⟩ ⟨_, hj⟩ (by show i.val % 1562 ≤ 1561; omega)
  obtain ⟨h1, -⟩ := rL_word p4 (i.val % 1562) ⟨_, hb⟩
  generalize (rState (F := Ideal) p4 1561).2.1 = idxs at hl ⊢
  unfold refOut coord
  rw [dif_pos ⟨hb, h1⟩]
  pointwise
  refine gather2_apply p4 _ ⟨_, hb⟩ ⟨_, hj⟩ e ⟨_, h1⟩ ?_ ?_
  · pointwise
  · pointwise
    exact hl

end Cert.ReferenceIdeal.Value
-- ==== Proof.Equation.lean ====
module

public import proofs.«01_k».proof.Proof.KernelState
public import proofs.«01_k».proof.Proof.ReferenceState
public import Idealize.ShloMosaic.Lib.Quiescent
public import Idealize.ShloMosaic.Lib.Claim

@[expose] public section

/-! # The equation

The kernel's results and the reference's are equal wherever their arguments are, and the reference's run. -/

set_option maxRecDepth 16384

noncomputable section

namespace Cert.Equation

open Idealize.ShloMosaic Idealize.ShloMosaic.StableHlo Idealize.SL.Sem

/-- The sampled points: what the kernel unfolds from its launch is what the reference gathers. -/
theorem points_eq (m : (ℓ : Loc Cert.KernelIdeal.nD Cert.KernelIdeal.τ Cert.KernelIdeal.sig) → Buf (Elt Ideal) ℓ)
    (c : Dev Cert.KernelIdeal.nD) (p4 : FVec Ideal Cert.ReferenceIdeal.S4x25000x3 .f32)
    (h : p4 = shapeCast Cert.KernelIdeal.S4x25000x3 (Cert.KernelIdeal.Value.arg m c) Cert.KernelIdeal.Gen.shapeCasts_S100000x3_S4x25000x3) :
    Cert.ReferenceIdeal.Value.refOut (F := Ideal) p4 (Cert.ReferenceIdeal.Value.rState (F := Ideal) p4 1561).2.1
      = Cert.KernelIdeal.Value.unfold3 (F := Ideal) (Cert.KernelIdeal.Gen.outsAt0 m c Cert.KernelIdeal.Gen.t0_0).1
          (Cert.KernelIdeal.Gen.outsAt0 m c Cert.KernelIdeal.Gen.t0_0).2.1 (Cert.KernelIdeal.Gen.outsAt0 m c Cert.KernelIdeal.Gen.t0_0).2.2 := by
  subst h
  funext i
  obtain ⟨r, e, rfl⟩ : ∃ (r : Fin 6248) (e : Fin 3), i = ix2 r e := ⟨i 0, i 1, by funext a; fin_cases a <;> rfl⟩
  refine (Cert.ReferenceIdeal.Value.refOut_apply _ r e).trans ?_
  exact (Cert.KernelIdeal.Value.sampled_apply m c _ _ (Cert.ReferenceIdeal.Value.sampled _) r e).symm

/-- The segments' ends: what the kernel computes is the reference's constant. -/
theorem ends_eq : (fun i => Cert.ReferenceIdeal.lit0 (Cert.ReferenceIdeal.S4.rowMajor i)) = Cert.KernelIdeal.Value.ends (F := Ideal) := by
  funext i
  obtain ⟨r, rfl⟩ : ∃ r : Fin 4, i = ix1 r := ⟨i 0, by funext a; fin_cases a; rfl⟩
  fin_cases r <;> rfl

end Cert.Equation

namespace Cert.ReferenceIdeal.Value

open Idealize.ShloMosaic Idealize.ShloMosaic.StableHlo Idealize.SL.Sem Cert.ReferenceIdeal Cert.ReferenceIdeal.Gen

variable (m : (ℓ : Loc nD τ sig) → Buf (Elt Ideal) ℓ) (ρ : Dev nD → PrngReg)

/-- The argument's buffer ends as it began. -/
theorem final_arg0 (c : Dev nD) :
    finalContents condOps preI bodyI postI 1561 m c (Proc.devRef .tc main_arg0) = m ((c.tc : Thread nD τ).loc main_arg0) := by
  have h := (atK_all m c 1561).cond m
  show after opsPost (after condOps (atK m 1561 c)) _ = _
  rw [opsPost_keep _ _ (by decide), h.a0]

/-- The reference's run: both results, the argument unchanged, every counter at zero. -/
theorem run_value : θ_run (defs (F := Ideal)) (onTc (τ := τ) (main (F := Ideal))) ⟨m, fun _ => 0, ρ⟩ fun r => (∀ c : Dev nD,
      r.2.mem ((c.tc : Thread nD τ).loc main_v13) = refOut (F := Ideal) (pts m c) (rState (F := Ideal) (pts m c) 1561).2.1
      ∧ r.2.mem ((c.tc : Thread nD τ).loc main_c) = (fun i => lit0 (S4.rowMajor i))
      ∧ r.2.mem ((c.tc : Thread nD τ).loc main_arg0) = m ((c.tc : Thread nD τ).loc main_arg0))
      ∧ r.2.sem = fun _ => 0 :=
  (θ_run defs _ _).mono (fun r h => ⟨fun c =>
    ⟨(h c main_v13 (by decide)).trans (final_vals m c).1, (h c main_c (by decide)).trans (final_vals m c).2,
      (h c main_arg0 (by decide)).trans (final_arg0 m c)⟩, sem_eq_zero_of_no_sems rfl r.2⟩) (run_fold m ρ)

end Cert.ReferenceIdeal.Value

end
-- ==== Proof.NeighbourTrip.lean ====
module

public import proofs.«01_k».proof.Defs
public import proofs.«01_k».proof.Proof.Gen.Kernel2Ideal.Value
public import Idealize.ShloMosaic.Lib.WritesUnit
public import Idealize.ShloMosaic.Lib.VecWindow
public import Idealize.ShloMosaic.Lib.Tactic

@[expose] public section

/-! # What one tile of the neighbour search computes

The generated run lists what each trip of the selection loop writes, as a recursion over the memrefs.  Here the same
recursion is stated on the values alone, and the tile's output is read off it. -/

set_option maxRecDepth 16384

noncomputable section

namespace Cert.Kernel2Ideal.Value

open Idealize.ShloMosaic Idealize.ShloMosaic.TcCoe Idealize.SL.Sem
open Idealize.ShloMosaic.View (readAt_writes_full read_writes_cons_unit_of_mem)
open Cert.Kernel2Ideal Cert.Kernel2Ideal.Gen

variable {F : FTy → Type} [FloatOps F]

/-- The distances not selected yet and the places selected, after `k` trips from the distances `d`. -/
def selState (v26 : IVec S32x25088 32) (d : FVec F S32x25088 .f32) : ℕ → FVec F S32x25088 .f32 × IVec S32x16 32
  | 0 => (d, k0_pay2)
  | k + 1 => if h : k < k0_t1_loop.trips then
      (k0_pay4 v26 (selState v26 d k).1, k0_pay5 v26 ⟨k, h⟩ (selState v26 d k).2 (selState v26 d k).1)
    else selState v26 d k

theorem selState_succ (v26 : IVec S32x25088 32) (d : FVec F S32x25088 .f32) (k : Fin k0_t1_loop.trips) :
    selState v26 d (k.val + 1) = (k0_pay4 v26 (selState v26 d k.val).1, k0_pay5 v26 k (selState v26 d k.val).2 (selState v26 d k.val).1) := by
  rw [selState, dif_pos k.isLt]

section Trip

variable (𝒱 : Variants) (c : Dev nD) (bd : Option 𝒱.V) (i : grid0.Coords) (arg2 : Memref sig .tc .vmem S1x1x25088 .f32) (harg2 : arg2.IsWhole) (arg3 : Memref sig .tc .vmem S1x1x25088 .f32) (harg3 : arg3.IsWhole) (arg4 : Memref sig .tc .vmem S1x1x25088 .f32) (harg4 : arg4.IsWhole) (arg5 : Memref sig .tc .vmem S1x1x32x3 .f32) (harg5 : arg5.IsWhole) (arg6 : Memref sig .tc .vmem S1x1x32x16 .i32) (harg6 : arg6.IsWhole) (arg7 : Memref sig .tc .vmem S32x25088 .f32) (harg7 : arg7.IsWhole)
  (v26 : IVec S32x25088 32)

/-- The whole of the scratch buffer, as a trip loads it. -/
abbrev scratch (f : BufTy.Contents (Elt F) arg7.view.ty) : FVec F S32x25088 .f32 :=
  View.readAt (Elt F) arg7.view (Rect.unit ![0, 0] S32x25088.size inb_S32x25088_S32x25088_0_0).toLoadRect f

/-- What one trip carries on: the selected places with the trip's own. -/
theorem tripR_eq (k : Fin k0_t1_loop.trips) (acc : IVec S32x16 32) (f : BufTy.Contents (Elt F) arg7.view.ty) :
    tripR_k0_t1 𝒱 c bd i arg2 harg2 arg3 harg3 arg4 harg4 arg5 harg5 arg6 harg6 arg7 harg7 v26 k acc f = k0_pay5 v26 k acc (scratch arg7 f) := by
  unfold tripR_k0_t1 trip_k0_t1
  dsimp only

/-- What one trip stores: the distances without the place that it selected. -/
theorem tripL_eq (k : Fin k0_t1_loop.trips) (acc : IVec S32x16 32) (f : BufTy.Contents (Elt F) arg7.view.ty) :
    tripL_k0_t1 𝒱 c bd i arg2 harg2 arg3 harg3 arg4 harg4 arg5 harg5 arg6 harg6 arg7 harg7 v26 k acc f
      = [⟨Rect.unit ![0, 0] S32x25088.size inb_S32x25088_S32x25088_0_0, k0_pay4 v26 (scratch arg7 f)⟩] := by
  unfold tripL_k0_t1 trip_k0_t1
  dsimp only

variable (G : BufTy.Contents (Elt F) arg7.view.ty)

/-- The generated recursion at this loop's operands. -/
abbrev run (k : ℕ) := st_k0_t1 (F := F) 𝒱 c bd i arg2 harg2 arg3 harg3 arg4 harg4 arg5 harg5 arg6 harg6 arg7 harg7 v26 G k0_pay2 k

/-- The recursion's carried places and scratch buffer are the state's. -/
theorem run_state : ∀ k : ℕ, k ≤ k0_t1_loop.trips →
    (run 𝒱 c bd i arg2 harg2 arg3 harg3 arg4 harg4 arg5 harg5 arg6 harg6 arg7 harg7 v26 G k).1 = (selState v26 (scratch arg7 G) k).2
    ∧ scratch arg7 (arg7.view.writes (Elt F) G (run 𝒱 c bd i arg2 harg2 arg3 harg3 arg4 harg4 arg5 harg5 arg6 harg6 arg7 harg7 v26 G k).2) = (selState v26 (scratch arg7 G) k).1
  | 0, _ => ⟨rfl, rfl⟩
  | k + 1, hk => by
    obtain ⟨h1, h2⟩ := run_state k (Nat.le_of_succ_le hk)
    have e := st_k0_t1_succ 𝒱 c bd i arg2 harg2 arg3 harg3 arg4 harg4 arg5 harg5 arg6 harg6 arg7 harg7 v26 G k0_pay2 ⟨k, hk⟩
    have es := selState_succ v26 (scratch arg7 G) ⟨k, hk⟩
    rw [show run 𝒱 c bd i arg2 harg2 arg3 harg3 arg4 harg4 arg5 harg5 arg6 harg6 arg7 harg7 v26 G (k + 1) = _ from e,
      show selState v26 (scratch arg7 G) (k + 1) = _ from es]
    refine ⟨?_, ?_⟩
    · dsimp only
      rw [tripR_eq, h2, h1]
    · dsimp only
      rw [tripL_eq, h2]
      exact readAt_writes_full _ _ _ _ _ _

end Trip

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The column numbers. -/
abbrev lanes : IVec S32x25088 32 := iota .tc S32x25088 32 [1] iota_S32x25088_d1_w32

/-- A tile's distances: of its 32 queries to the segment's points, `+∞` past the last point. -/
abbrev tileDist (x0 x1 x2 : Vec F S1x1x25088 .f32) (x3 : Vec F S1x1x32x3 .f32) : FVec F S32x25088 .f32 :=
  k0_pay1 (k0_pay7 (View.ld x3 (Rect.unit ![0, 0, 0, 0] S1x1x32x1.size inb_S1x1x32x3_S1x1x32x1_0_0_0_0))
    (View.ld x3 (Rect.unit ![0, 0, 0, 1] S1x1x32x1.size inb_S1x1x32x3_S1x1x32x1_0_0_0_1))
    (View.ld x3 (Rect.unit ![0, 0, 0, 2] S1x1x32x1.size inb_S1x1x32x3_S1x1x32x1_0_0_0_2)) x0 x1 x2)

/-- A tile's output: the places selected in sixteen trips. -/
theorem out_4 (c : Dev nD) (i : grid0.Coords) (arg2 : Memref sig .tc .vmem S1x1x25088 .f32) (harg2 : arg2.IsWhole) (arg3 : Memref sig .tc .vmem S1x1x25088 .f32) (harg3 : arg3.IsWhole) (arg4 : Memref sig .tc .vmem S1x1x25088 .f32) (harg4 : arg4.IsWhole) (arg5 : Memref sig .tc .vmem S1x1x32x3 .f32) (harg5 : arg5.IsWhole) (arg6 : Memref sig .tc .vmem S1x1x32x16 .i32) (harg6 : arg6.IsWhole) (arg7 : Memref sig .tc .vmem S32x25088 .f32) (harg7 : arg7.IsWhole)
    (x0 : Vec F S1x1x25088 .f32) (x1 : Vec F S1x1x25088 .f32) (x2 : Vec F S1x1x25088 .f32) (x3 : Vec F S1x1x32x3 .f32) :
    out0_A_4 c i arg2 harg2 arg3 harg3 arg4 harg4 arg5 harg5 arg6 harg6 arg7 harg7 x0 x1 x2 x3
      = k0_pay6 (selState lanes (tileDist x0 x1 x2 x3) 16).2 := by
  unfold out0_A_4 kernelRun0_A
  dsimp only
  sl_unfold_words
  simp only [View.readAt_eq_ld, harg2.read_unread, harg3.read_unread, harg4.read_unread, harg5.read_unread, View.ld_unit_zero (S := S1x1x25088) hz3]
  have hr := (run_state Variants.none c none i arg2 harg2 arg3 harg3 arg4 harg4 arg5 harg5 arg6 harg6 arg7 harg7 lanes
    (arg7.view.writes (Elt F) arg7.view.junk [⟨Rect.unit ![0, 0] S32x25088.size inb_S32x25088_S32x25088_0_0, tileDist x0 x1 x2 x3⟩]) 16 (by decide)).1
  have hs : scratch arg7 (arg7.view.writes (Elt F) arg7.view.junk [⟨Rect.unit ![0, 0] S32x25088.size inb_S32x25088_S32x25088_0_0, tileDist x0 x1 x2 x3⟩]) = tileDist x0 x1 x2 x3 :=
    readAt_writes_full _ _ _ _ _ _
  rw [hs] at hr
  funext y
  refine (read_writes_cons_unit_of_mem VO0_4 _ _ _ _ y y rfl fun a => ?_).trans ?_
  · fin_cases a <;> exact (Nat.zero_add _).symm
  · exact congrFun (congrArg k0_pay6 hr) y

end Cert.Kernel2Ideal.Value

end
-- ==== Proof.Selection.lean ====
module

public import proofs.«01_k».proof.Proof.Sampling
public import Idealize.ShloMosaic.Lib.SortPrefix
public import Mathlib.Data.EReal.Operations

@[expose] public section

/-! # The nearest of finitely many, free of either program

The places of the least of some numbers, in order, of equal numbers the lower place first; and a stable sort of the
numbers begins with these places. -/

noncomputable section

namespace Cert.Sampling

open Idealize.ShloMosaic

/-- The first `k` places in `L` are those of the `k` least of `D 0, …, D (n - 1)`, the least first and of equal ones the
    lower place first. -/
structure Least (D : ℕ → EReal) (n k : ℕ) (L : ℕ → ℕ) : Prop where
  lt : ∀ s, s < k → L s < n
  new : ∀ s, s < k → ∀ j, j < s → L j ≠ L s
  least : ∀ s, s < k → ∀ p, p < n → (∀ j, j < s → L j ≠ p) → D (L s) < D p ∨ (D (L s) = D p ∧ L s ≤ p)

/-- Among the first `n` numbers there is a first least one. -/
theorem exists_first_least (e : ℕ → EReal) (n : ℕ) (hn : 0 < n) :
    ∃ k, k < n ∧ (∀ p, p < n → e k ≤ e p) ∧ ∀ p, p < k → e k < e p := by
  classical
  obtain ⟨a, ha, hmin⟩ := (Finset.range n).exists_min_image e ⟨0, Finset.mem_range.mpr hn⟩
  have hex : ∃ k, k < n ∧ e k = e a := ⟨a, Finset.mem_range.mp ha, rfl⟩
  obtain ⟨h1, h2⟩ := Nat.find_spec hex
  refine ⟨Nat.find hex, h1, fun p hp => ?_, fun p hp => ?_⟩
  · rw [h2]; exact hmin p (Finset.mem_range.mpr hp)
  · rw [h2]
    refine lt_of_le_of_ne (hmin p (Finset.mem_range.mpr (hp.trans h1))) fun h => ?_
    exact Nat.find_min hex hp ⟨hp.trans h1, h.symm⟩

/-- Fewer than `n` places leave one of the first `n` places out. -/
theorem exists_new (n s : ℕ) (h : s < n) (L : ℕ → ℕ) : ∃ p, p < n ∧ ∀ j, j < s → L j ≠ p := by
  classical
  by_contra hno
  push Not at hno
  have hsub : Finset.range n ⊆ (Finset.range s).image L := fun p hp => by
    obtain ⟨j, hj, e⟩ := hno p (Finset.mem_range.mp hp)
    exact Finset.mem_image.mpr ⟨j, Finset.mem_range.mpr hj, e⟩
  have h1 := (Finset.card_le_card hsub).trans Finset.card_image_le
  rw [Finset.card_range, Finset.card_range] at h1
  omega

variable {ι : Type}

/-- An insertion reads its comparator at the inserted element only. -/
theorem insertBefore_congr (B B' : ι → ι → Bool) (a : ι) :
    ∀ l : List ι, (∀ b ∈ l, B b a = B' b a) → insertBefore B a l = insertBefore B' a l
  | [], _ => rfl
  | b :: l, h => by
    rw [insertBefore, insertBefore, h b (List.mem_cons_self ..),
      insertBefore_congr B B' a l fun c hc => h c (List.mem_cons_of_mem _ hc)]

/-- A stable sort compares a later element with an earlier one only. -/
theorem stableSort_congr (B B' : ι → ι → Bool) :
    ∀ l : List ι, l.Pairwise (fun a b => B b a = B' b a) → stableSort B l = stableSort B' l
  | [], _ => rfl
  | a :: l, h => by
    rw [List.pairwise_cons] at h
    rw [stableSort, stableSort, stableSort_congr B B' l h.2]
    exact insertBefore_congr B B' a _ fun b hb => h.1 b ((perm_stableSort B' l).mem_iff.mp hb)

theorem sortedFrom_congr {n : ℕ} (B B' : Fin n → Fin n → Bool) (h : ∀ a b, a < b → B b a = B' b a) (k : Fin n) :
    sortedFrom B k = sortedFrom B' k := by
  have e : sortPositions n B = sortPositions n B' :=
    stableSort_congr B B' _ ((List.pairwise_lt_finRange n).imp fun {a b} hab => h a b hab)
  unfold sortedFrom
  simp only [List.get_eq_getElem, Fin.val_cast]
  simp only [e]

/-- The stable sort of `n` numbers, least first, begins with the places of the least ones. -/
theorem Least.sortedFrom_eq {D : ℕ → EReal} {n k : ℕ} {L : ℕ → ℕ} (h : Least D n k L) (hk : k ≤ n) (i : Fin k) :
    (sortedFrom (fun a b : Fin n => decide (D a.val < D b.val)) (i.castLE hk)).val = L i.val := by
  classical
  have hB := StrictTotalBefore.of_key_then_position (n := n) (fun a b : EReal => decide (a < b)) (fun p => D p.val)
    (fun a => by simp) (fun a b c hab hbc => by simp only [decide_eq_true_eq] at *; exact hab.trans hbc)
    (fun a b => by simp only [decide_eq_true_eq]; exact lt_trichotomy a b)
  have hkey : ∀ s, s < k → ∀ p : Fin n, (∀ j, j < s → L j ≠ p.val) → ∀ hs : L s < n,
      (decide (D p.val < D (L s)) || (decide (D p.val = D (L s)) && decide (p < ⟨L s, hs⟩))) = false := by
    intro s hs p hp hsn
    rw [Bool.or_eq_false_iff, Bool.and_eq_false_iff, decide_eq_false_iff_not, decide_eq_false_iff_not, decide_eq_false_iff_not]
    rcases h.least s hs p.val p.isLt hp with hlt | ⟨heq, hle⟩
    · exact ⟨not_lt.mpr hlt.le, .inl hlt.ne'⟩
    · exact ⟨by rw [heq]; exact lt_irrefl _, .inr fun hc => absurd (Fin.lt_def.mp hc) (not_lt.mpr hle)⟩
  rw [sortedFrom_congr _ (fun a b : Fin n => decide (D a.val < D b.val) || (decide (D a.val = D b.val) && decide (a < b)))
    (fun a b hab => by rw [decide_eq_false (not_lt.mpr hab.le), Bool.and_false, Bool.or_false]) _]
  rw [hB.sortedFrom_eq_of_prefix hk (fun s : Fin k => ⟨L s.val, h.lt s.val s.isLt⟩) ?_ ?_ ?_ i]
  · intro s t hst
    have e : L s.val = L t.val := congrArg Fin.val hst
    rcases lt_trichotomy s.val t.val with hlt | heq | hgt
    · exact absurd e (h.new _ t.isLt _ hlt)
    · exact Fin.ext heq
    · exact absurd e.symm (h.new _ s.isLt _ hgt)
  · intro s t hst
    refine hkey s.val s.isLt ⟨L t.val, _⟩ (fun j hj => ?_) _
    exact h.new _ t.isLt _ (hj.trans (Fin.lt_def.mp hst))
  · intro s p hp
    exact hkey s.val s.isLt p (fun j hj e => hp ⟨j, hj.trans s.isLt⟩ (Fin.ext e)) _

end Cert.Sampling
-- ==== Proof.NeighbourRows.lean ====
module

public import proofs.«01_k».proof.Proof.NeighbourTrip
public import proofs.«01_k».proof.Proof.Selection
public import proofs.«01_k».proof.Proof.Words
public import Idealize.ShloMosaic.Lib.Pointwise
public import Idealize.ShloMosaic.PureOps.Ideal

@[expose] public section

/-! # The neighbour search of one tile

Row by row, each trip selects the first column of the least distance left and removes it, so sixteen trips select the
sixteen least distances in order. -/

set_option maxRecDepth 16384

noncomputable section

namespace Cert.Kernel2Ideal.Value

open Idealize.ShloMosaic Cert.Kernel2Ideal Cert.Kernel2Ideal.Gen Cert.Sampling

/-- The word of +∞ is the greatest extended real. -/
theorem ofBits_posInf : Ideal.ofBits .f32 0x7F800000#32 = ⊤ := by
  simp [Ideal.ofBits, Ideal.ieee]

theorem lanes_apply (r : Fin 32) (l : Fin 25088) : lanes (ix2 r l) = BitVec.ofNat 32 l.val := by
  pointwise [lanes]

/-- The row minima, as a column. -/
def rowMin (d : FVec Ideal S32x25088 .f32) : FVec Ideal S32x1 .f32 :=
  shapeCast S32x1 (multiReduction .minimumf [1] S32 d 0x7F800000#32 reduces_S32x25088_S32 (.inl rfl) rfl) shapeCasts_S32_S32x1

/-- The signed row minima of words, as a column. -/
def rowMinI (d : IVec S32x25088 32) : IVec S32x1 32 :=
  shapeCast S32x1 (multiReductionI .minsi [1] S32 d 2147483647#32 reduces_S32x25088_S32 rfl) shapeCasts_S32_S32x1

theorem rowMin_apply (d : FVec Ideal S32x25088 .f32) (r : Fin 32) :
    rowMin d (ix2 r 0) = Finset.univ.fold min ⊤ fun l : Fin 25088 => d (ix2 r l) := by
  pointwise [rowMin]
  rw [ofBits_posInf]

theorem rowMinI_apply (d : IVec S32x25088 32) (r : Fin 32) :
    rowMinI d (ix2 r 0) = Finset.univ.fold IntOp.minsi 2147483647#32 fun l : Fin 25088 => d (ix2 r l) := by
  pointwise [rowMinI]

/-- A row's numbers by column number, `⊤` past the last column. -/
def rowOf (d : FVec Ideal S32x25088 .f32) (r : Fin 32) (n : ℕ) : EReal := if h : n < 25088 then d (ix2 r ⟨n, h⟩) else ⊤

theorem rowOf_val (d : FVec Ideal S32x25088 .f32) (r : Fin 32) (l : Fin 25088) : rowOf d r l.val = d (ix2 r l) := dif_pos l.isLt

/-- The words whose minimum is taken. -/
def cand (d : FVec Ideal S32x25088 .f32) : IVec S32x25088 32 :=
  select (cmpf .oeq d (broadcastTo S32x25088 (rowMin d) broadcasts_S32x1_S32x25088)) lanes (broadcast S32x25088 25088#32)

theorem pay3_eq (d : FVec Ideal S32x25088 .f32) : k0_pay3 (F := Ideal) lanes d = rowMinI (cand d) := rfl

/-- A row's selected column is its first least one. -/
theorem pay3_apply (d : FVec Ideal S32x25088 .f32) (r : Fin 32) (k : ℕ) (hk : k < 25088)
    (hle : ∀ p, p < 25088 → rowOf d r k ≤ rowOf d r p) (hlt : ∀ p, p < k → rowOf d r k < rowOf d r p) :
    k0_pay3 (F := Ideal) lanes d (ix2 r 0) = BitVec.ofNat 32 k := by
  have hmin : rowMin d (ix2 r 0) = rowOf d r k := by
    rw [rowMin_apply]
    refine le_antisymm ((Finset.fold_min_le _).mpr (.inr ⟨⟨k, hk⟩, Finset.mem_univ _, ?_⟩)) ((Finset.le_fold_min _).mpr ⟨le_top, fun l _ => ?_⟩)
    · exact (rowOf_val d r ⟨k, hk⟩).ge
    · rw [← rowOf_val d r l]; exact hle _ l.isLt
  have hc : ∀ l : Fin 25088, cand d (ix2 r l) = if rowOf d r l.val = rowOf d r k then BitVec.ofNat 32 l.val else 25088#32 := fun l => by
    rw [rowOf_val]
    pointwise [cand]
    rw [hmin]
  have hsel : ∀ a b : BitVec 32, IntOp.minsi a b = a ∨ IntOp.minsi a b = b := fun a b => by
    unfold IntOp.minsi; split_ifs <;> simp
  have hle' : ∀ a b : BitVec 32, (IntOp.minsi a b).toInt ≤ a.toInt ∧ (IntOp.minsi a b).toInt ≤ b.toInt := fun a b => by
    simp only [IntOp.minsi, BitVec.slt, decide_eq_true_eq]; split_ifs <;> omega
  rw [pay3_eq, rowMinI_apply]
  have hup := fold_le IntOp.minsi BitVec.toInt hle' 2147483647#32 (fun l : Fin 25088 => cand d (ix2 r l)) Finset.univ ⟨k, hk⟩ (Finset.mem_univ _)
  rw [hc, if_pos rfl, toInt_ofNat (by show k < _; omega)] at hup
  change _ ≤ (k : ℤ) at hup
  rcases fold_mem IntOp.minsi hsel 2147483647#32 (fun l : Fin 25088 => cand d (ix2 r l)) Finset.univ with h | ⟨l, -, h⟩
  · rw [h] at hup
    exact absurd hup (by rw [show (2147483647#32).toInt = 2147483647 from rfl]; omega)
  · rw [h] at hup ⊢
    rw [hc] at hup ⊢
    have hl := l.isLt
    by_cases he : rowOf d r l.val = rowOf d r k
    · rw [if_pos he] at hup ⊢
      rw [toInt_ofNat (by omega)] at hup
      rcases lt_or_eq_of_le (show l.val ≤ k by omega) with hlt' | heq
      · exact absurd he (ne_of_gt (hlt _ hlt'))
      · rw [heq]
    · rw [if_neg he] at hup
      exact absurd hup (by rw [show (25088#32).toInt = 25088 from rfl]; omega)

/-- The column that row `r` selects. -/
def pick (d : FVec Ideal S32x25088 .f32) (r : Fin 32) : ℕ := (k0_pay3 (F := Ideal) lanes d (ix2 r 0)).toNat

theorem pick_spec (d : FVec Ideal S32x25088 .f32) (r : Fin 32) : pick d r < 25088
    ∧ (∀ p, p < 25088 → rowOf d r (pick d r) ≤ rowOf d r p) ∧ ∀ p, p < pick d r → rowOf d r (pick d r) < rowOf d r p := by
  obtain ⟨k, hk, h1, h2⟩ := exists_first_least (rowOf d r) 25088 (by omega)
  have e : pick d r = k := by
    unfold pick
    rw [pay3_apply d r k hk h1 h2, BitVec.toNat_ofNat, Nat.mod_eq_of_lt (by omega)]
  rw [e]
  exact ⟨hk, h1, h2⟩

theorem pay3_pick (d : FVec Ideal S32x25088 .f32) (r : Fin 32) : k0_pay3 (F := Ideal) lanes d (ix2 r 0) = BitVec.ofNat 32 (pick d r) := by
  obtain ⟨h, h1, h2⟩ := pick_spec d r
  exact pay3_apply d r _ h h1 h2

/-- The distances left: the selected column's is `⊤`. -/
theorem pay4_apply (d : FVec Ideal S32x25088 .f32) (r : Fin 32) (l : Fin 25088) :
    k0_pay4 (F := Ideal) lanes d (ix2 r l) = if pick d r = l.val then ⊤ else d (ix2 r l) := by
  have h := (pick_spec d r).1
  have hl := l.isLt
  pointwise [k0_pay4]
  rw [pay3_pick, cmpi_eq_one, ofBits_posInf]
  by_cases he : pick d r = l.val
  · rw [if_pos ((ofNat_inj (by omega) (by omega)).mpr he.symm), if_pos he]; rfl
  · rw [if_neg fun hc => he ((ofNat_inj (by omega) (by omega)).mp hc).symm, if_neg he]; rfl

/-- The selected places: the trip's own at its place. -/
theorem pay5_apply (d : FVec Ideal S32x25088 .f32) (k : Fin k0_t1_loop.trips) (a : IVec S32x16 32) (r : Fin 32) (c : Fin 16) :
    k0_pay5 (F := Ideal) lanes k a d (ix2 r c) = if c.val = k.val then BitVec.ofNat 32 (pick d r) else a (ix2 r c) := by
  have hk : k.val < 16 := lt_of_lt_of_le k.isLt (by decide)
  have hc := c.isLt
  pointwise [k0_pay5]
  rw [pay3_pick, cmpi_eq_one]
  have e : Scf.iv 0#32 1#32 k.val = BitVec.ofNat 32 k.val := by
    unfold Scf.iv; simp
  rw [e]
  by_cases he : c.val = k.val
  · rw [if_pos ((ofNat_inj (by omega) (by omega)).mpr he), if_pos he]; rfl
  · rw [if_neg fun hc => he ((ofNat_inj (by omega) (by omega)).mp hc), if_neg he]; rfl

section Select
variable (d : FVec Ideal S32x25088 .f32) (r : Fin 32)

/-- The column selected in trip `s`. -/
def nth (s : ℕ) : ℕ := pick (selState lanes d s).1 r

theorem nth_lt (s : ℕ) : nth d r s < 25088 := (pick_spec _ r).1

/-- After `s` trips the selected columns' distances are `⊤`. -/
theorem left_apply (l : Fin 25088) : ∀ s, s ≤ 16 → (selState lanes d s).1 (ix2 r l) = if ∃ j, j < s ∧ nth d r j = l.val then ⊤ else d (ix2 r l)
  | 0, _ => by rw [if_neg (by rintro ⟨j, hj, -⟩; omega)]; rfl
  | s + 1, hs => by
    have hs' : s < k0_t1_loop.trips := lt_of_lt_of_le (Nat.lt_of_succ_le hs) (by decide)
    have e := selState_succ lanes d ⟨s, hs'⟩
    rw [show selState lanes d (s + 1) = _ from e]
    dsimp only
    rw [pay4_apply, left_apply l s (by omega)]
    show (if nth d r s = l.val then _ else _) = _
    by_cases h1 : nth d r s = l.val
    · rw [if_pos h1, if_pos ⟨s, by omega, h1⟩]
    · rw [if_neg h1]
      refine if_congr ⟨fun ⟨j, hj, e⟩ => ⟨j, by omega, e⟩, fun ⟨j, hj, e⟩ => ⟨j, ?_, e⟩⟩ rfl rfl
      rcases Nat.lt_succ_iff_lt_or_eq.mp hj with h | h
      · exact h
      · exact absurd (h ▸ e) h1

/-- After `s` trips the first `s` places are the columns selected. -/
theorem sel_apply (c : Fin 16) : ∀ s, s ≤ 16 → (selState lanes d s).2 (ix2 r c) = if c.val < s then BitVec.ofNat 32 (nth d r c.val) else 0#32
  | 0, _ => by rw [if_neg (by omega)]; rfl
  | s + 1, hs => by
    have hs' : s < k0_t1_loop.trips := lt_of_lt_of_le (Nat.lt_of_succ_le hs) (by decide)
    have e := selState_succ lanes d ⟨s, hs'⟩
    rw [show selState lanes d (s + 1) = _ from e]
    dsimp only
    rw [pay5_apply, sel_apply c s (by omega)]
    show (if c.val = s then BitVec.ofNat 32 (nth d r s) else _) = _
    by_cases h1 : c.val = s
    · rw [if_pos h1, if_pos (by omega), h1]
    · rw [if_neg h1]
      exact if_congr (by omega) rfl rfl

/-- Of distances below `⊤` in the first 25000 columns, and `⊤` in the others, the sixteen trips select the least. -/
theorem nth_least (D : ℕ → EReal) (hD : ∀ n, n < 25000 → D n < ⊤)
    (hd : ∀ l : Fin 25088, d (ix2 r l) = if l.val < 25000 then D l.val else ⊤) : Least D 25000 16 (nth d r) := by
  have hrow : ∀ s, s < 16 → ∀ p, p < 25088 → rowOf (selState lanes d s).1 r p
      = if ∃ j, j < s ∧ nth d r j = p then ⊤ else if p < 25000 then D p else ⊤ := fun s hs p hp => by
    rw [show rowOf (selState lanes d s).1 r p = _ from rowOf_val _ r ⟨p, hp⟩, left_apply d r ⟨p, hp⟩ s hs.le, hd]
  have hfin : ∀ s, s < 16 → (nth d r s < 25000 ∧ (∀ j, j < s → nth d r j ≠ nth d r s)) ∧ rowOf (selState lanes d s).1 r (nth d r s) = D (nth d r s) := by
    intro s hs
    obtain ⟨h1, h2, -⟩ := pick_spec (selState lanes d s).1 r
    obtain ⟨p, hp, hnew⟩ := exists_new 25000 s (by omega) (nth d r)
    have hlt : rowOf (selState lanes d s).1 r (nth d r s) < ⊤ := by
      refine lt_of_le_of_lt (h2 p (by omega)) ?_
      rw [hrow s hs p (by omega), if_neg (by rintro ⟨j, hj, e⟩; exact hnew j hj e), if_pos hp]
      exact hD p hp
    have hr := hrow s hs _ (nth_lt d r s)
    rw [hr] at hlt ⊢
    by_cases ha : ∃ j, j < s ∧ nth d r j = nth d r s
    · rw [if_pos ha] at hlt; exact absurd hlt (lt_irrefl _)
    · rw [if_neg ha] at hlt ⊢
      by_cases hb : nth d r s < 25000
      · exact ⟨⟨hb, fun j hj e => ha ⟨j, hj, e⟩⟩, if_pos hb⟩
      · rw [if_neg hb] at hlt; exact absurd hlt (lt_irrefl _)
  refine ⟨fun s hs => (hfin s hs).1.1, fun s hs => (hfin s hs).1.2, fun s hs p hp hnew => ?_⟩
  obtain ⟨-, h2, h3⟩ := pick_spec (selState lanes d s).1 r
  have hp' := hrow s hs p (by omega)
  rw [if_neg (by rintro ⟨j, hj, e⟩; exact hnew j hj e), if_pos hp] at hp'
  have e := (hfin s hs).2
  have hle := h2 p (by omega)
  change rowOf (selState lanes d s).1 r (nth d r s) ≤ _ at hle
  rw [e, hp'] at hle
  rcases lt_or_eq_of_le hle with h | h
  · exact .inl h
  · refine .inr ⟨h, not_lt.mp fun hlt => ?_⟩
    have := h3 p hlt
    change rowOf (selState lanes d s).1 r (nth d r s) < _ at this
    rw [e, hp', h] at this
    exact lt_irrefl _ this

end Select

/-- Squared distances as the kernel sums them. -/
theorem tileDist_apply (x0 x1 x2 : FVec Ideal S1x1x25088 .f32) (x3 : FVec Ideal S1x1x32x3 .f32) (r : Fin 32) (l : Fin 25088) :
    tileDist x0 x1 x2 x3 (ix2 r l) = if l.val < 25000 then
      (x3 (ix4 0 0 r 0) - x0 (ix3 0 0 l)) * (x3 (ix4 0 0 r 0) - x0 (ix3 0 0 l))
        + (x3 (ix4 0 0 r 1) - x1 (ix3 0 0 l)) * (x3 (ix4 0 0 r 1) - x1 (ix3 0 0 l))
        + (x3 (ix4 0 0 r 2) - x2 (ix3 0 0 l)) * (x3 (ix4 0 0 r 2) - x2 (ix3 0 0 l)) else ⊤ := by
  have hl := l.isLt
  pointwise [tileDist, k0_pay1, k0_pay7]
  rw [ofBits_posInf]
  show (if BitVec.ofBool (BitVec.slt _ _) = 1#1 then _ else _) = _
  rw [BitVec.slt, toInt_ofNat (by omega)]
  show (if BitVec.ofBool (decide ((l.val : ℤ) < 25000)) = 1#1 then _ else _) = _
  by_cases h : l.val < 25000
  · rw [if_pos h, decide_eq_true (by omega)]; rfl
  · rw [if_neg h, decide_eq_false (by omega)]; rfl

end Cert.Kernel2Ideal.Value

end
-- ==== Proof.NeighbourRun.lean ====
module

public import proofs.«01_k».proof.Proof.NeighbourRows
public import Idealize.ShloMosaic.Lib.StableHlo.Run
public import Idealize.ShloMosaic.Lib.StableHlo.RunClose
public import Idealize.ShloMosaic.Lib.Quiescent
public import Idealize.ShloMosaic.Lib.Claim
public import Idealize.ShloMosaic.Lib.Pipeline.ValueKit.Point
public import Idealize.ShloMosaic.Lib.Pipeline.ValueKit

@[expose] public section

/-! # The neighbour search's result

Tile `t` of segment `b` reads the segment's three padded coordinate rows and its 32 queries, and the launch's result holds
at that tile what the tile computed. -/

set_option maxRecDepth 16384

noncomputable section

namespace Cert.Kernel2Ideal.Value

open Idealize.ShloMosaic Idealize.ShloMosaic.TcCoe Idealize.SL.Sem
open Idealize.ShloMosaic.StableHlo
open Idealize.ShloMosaic.Pipeline (Dat)
open Cert.Kernel2Ideal Cert.Kernel2Ideal.Gen

variable (m : (ℓ : Loc nD τ sig) → Buf (Elt Ideal) ℓ)

/-- The first argument's contents on core `c`. -/
abbrev arg0 (c : Dev nD) : (⟨S100000x3, .f32⟩ : BufTy).Contents (Elt Ideal) := m ((c.tc : Thread nD τ).loc main_arg0)
/-- The second argument's contents on core `c`. -/
abbrev arg1 (c : Dev nD) : (⟨S4x1568x3, .f32⟩ : BufTy).Contents (Elt Ideal) := m ((c.tc : Thread nD τ).loc main_arg1)

theorem coords0 (t : Fin cfg0.N) : (grid0.coords t 0).val = t.val / 49 % 4 :=
  Pipeline.Grid.coords_val t 0 (by decide) rfl
theorem coords1 (t : Fin cfg0.N) : (grid0.coords t 1).val = t.val / 1 % 49 :=
  Pipeline.Grid.coords_val t 1 (by decide) rfl

/-- The points padded by 88 zero rows per segment. -/
def padded (p : (⟨S100000x3, .f32⟩ : BufTy).Contents (Elt Ideal)) : (⟨S4x25088x3, .f32⟩ : BufTy).Contents (Elt Ideal) :=
  pad S4x25088x3 ![0, 0, 0] ![0, 88, 0] ![0, 0, 0] (shapeCast S4x25000x3 p shapeCasts_S100000x3_S4x25000x3) (sitofp (F := Ideal) .f32 (constantI S_ 32 0#32)) pads_S4x25000x3_S4x25088x3_000_0880_000 h_S_

/-- A padded coordinate, as rows. -/
def rowsOf (v : (⟨S4x25088x1, .f32⟩ : BufTy).Contents (Elt Ideal)) : (⟨S4x1x25088, .f32⟩ : BufTy).Contents (Elt Ideal) :=
  broadcastInDim S4x1x25088 ![0, 2] bcast_S4x25088_S4x1x25088_0_2 (shapeCast S4x25088 v shapeCasts_S4x25088x1_S4x25088)

set_option maxHeartbeats 1000000 in
theorem pre_v9 (W : Valuation τ sig (Elt Ideal)) :
    after (List.flatten [hostOps0, hostOps0_1, hostOps0_2]) W (no_index (Proc.devRef .tc main_v9))
      = rowsOf (extractStridedSlice S4x25088x1 ![0, 0, 0] (padded (W (Proc.devRef .tc main_arg0))) slices_S4x25088x3_S4x25088x1_0_0_0) := by
  simp only [List.flatten_cons, List.flatten_nil, List.append_nil, List.cons_append, List.nil_append]
  after_results
  rfl

set_option maxHeartbeats 1000000 in
theorem pre_v10 (W : Valuation τ sig (Elt Ideal)) :
    after (List.flatten [hostOps0, hostOps0_1, hostOps0_2]) W (no_index (Proc.devRef .tc main_v10))
      = rowsOf (extractStridedSlice S4x25088x1 ![0, 0, 1] (padded (W (Proc.devRef .tc main_arg0))) slices_S4x25088x3_S4x25088x1_0_0_1) := by
  simp only [List.flatten_cons, List.flatten_nil, List.append_nil, List.cons_append, List.nil_append]
  after_results
  rfl

set_option maxHeartbeats 1000000 in
theorem pre_v11 (W : Valuation τ sig (Elt Ideal)) :
    after (List.flatten [hostOps0, hostOps0_1, hostOps0_2]) W (no_index (Proc.devRef .tc main_v11))
      = rowsOf (extractStridedSlice S4x25088x1 ![0, 0, 2] (padded (W (Proc.devRef .tc main_arg0))) slices_S4x25088x3_S4x25088x1_0_0_2) := by
  simp only [List.flatten_cons, List.flatten_nil, List.append_nil, List.cons_append, List.nil_append]
  after_results
  rfl

set_option maxHeartbeats 1000000 in
theorem pre_v8 (W : Valuation τ sig (Elt Ideal)) :
    after (List.flatten [hostOps0, hostOps0_1, hostOps0_2]) W (no_index (Proc.devRef .tc main_v8))
      = (shapeCast S4x49x32x3 (W (Proc.devRef .tc main_arg1)) shapeCasts_S4x1568x3_S4x49x32x3 : (⟨S4x49x32x3, .f32⟩ : BufTy).Contents (Elt Ideal)) := by
  simp only [List.flatten_cons, List.flatten_nil, List.append_nil, List.cons_append, List.nil_append]
  after_results
  rfl

/-- A coordinate row's block is the segment's row. -/
theorem emb_0 (t : Fin cfg0.N) (l : Fin 25088) :
    (win0_0.rect t).emb (ix3 0 0 l) = (ix3 (grid0.coords t 0) 0 l : S4x1x25088.Idx) := by
  have h0 : (grid0.coords t 0).val < 4 := (grid0.coords t 0).isLt
  funext a
  apply Fin.ext
  rw [Pipeline.Window.rect_emb_val (hk := rfl)]
  fin_cases a
  · show (BitVec.ofNat 32 (grid0.coords t 0).val).toNat * 1 + 0 = (grid0.coords t 0).val
    rw [BitVec.toNat_ofNat, Nat.mod_eq_of_lt (by omega)]; omega
  · rfl
  · show 0 * 25088 + l.val = l.val; omega

/-- A tile's block of the queries is the tile's. -/
theorem emb_3 (t : Fin cfg0.N) (r : Fin 32) (e : Fin 3) :
    (win0_3.rect t).emb (ix4 0 0 r e) = (ix4 (grid0.coords t 0) (grid0.coords t 1) r e : S4x49x32x3.Idx) := by
  have h0 : (grid0.coords t 0).val < 4 := (grid0.coords t 0).isLt
  have h1 : (grid0.coords t 1).val < 49 := (grid0.coords t 1).isLt
  funext a
  apply Fin.ext
  rw [Pipeline.Window.rect_emb_val (hk := rfl)]
  fin_cases a
  · show (BitVec.ofNat 32 (grid0.coords t 0).val).toNat * 1 + 0 = (grid0.coords t 0).val
    rw [BitVec.toNat_ofNat, Nat.mod_eq_of_lt (by omega)]; omega
  · show (BitVec.ofNat 32 (grid0.coords t 1).val).toNat * 1 + 0 = (grid0.coords t 1).val
    rw [BitVec.toNat_ofNat, Nat.mod_eq_of_lt (by omega)]; omega
  · show 0 * 32 + r.val = r.val; omega
  · show 0 * 3 + e.val = e.val; omega

/-- A tile's block of the result is the tile's. -/
theorem emb_4 (t : Fin cfg0.N) (r : Fin 32) (j : Fin 16) :
    (win0_4.rect t).emb (ix4 0 0 r j) = (ix4 (grid0.coords t 0) (grid0.coords t 1) r j : S4x49x32x16.Idx) := by
  have h0 : (grid0.coords t 0).val < 4 := (grid0.coords t 0).isLt
  have h1 : (grid0.coords t 1).val < 49 := (grid0.coords t 1).isLt
  funext a
  apply Fin.ext
  rw [Pipeline.Window.rect_emb_val (hk := rfl)]
  fin_cases a
  · show (BitVec.ofNat 32 (grid0.coords t 0).val).toNat * 1 + 0 = (grid0.coords t 0).val
    rw [BitVec.toNat_ofNat, Nat.mod_eq_of_lt (by omega)]; omega
  · show (BitVec.ofNat 32 (grid0.coords t 1).val).toNat * 1 + 0 = (grid0.coords t 1).val
    rw [BitVec.toNat_ofNat, Nat.mod_eq_of_lt (by omega)]; omega
  · show 0 * 32 + r.val = r.val; omega
  · show 0 * 16 + j.val = j.val; omega

/-- Coordinate `e` of point `n` of segment `b`. -/
def point (p : (⟨S100000x3, .f32⟩ : BufTy).Contents (Elt Ideal)) (b : Fin 4) (n : Fin 25000) (e : Fin 3) : EReal :=
  shapeCast S4x25000x3 p shapeCasts_S100000x3_S4x25000x3 (ix3 b n e)

/-- Coordinate `e` of query `32 t + r` of segment `b`. -/
def query (q : (⟨S4x1568x3, .f32⟩ : BufTy).Contents (Elt Ideal)) (b : Fin 4) (t : Fin 49) (r : Fin 32) (e : Fin 3) : EReal :=
  shapeCast S4x49x32x3 q shapeCasts_S4x1568x3_S4x49x32x3 (ix4 b t r e)

theorem padded_apply (p : (⟨S100000x3, .f32⟩ : BufTy).Contents (Elt Ideal)) (b : Fin 4) (l : Fin 25088) (hl : l.val < 25000) (e : Fin 3) :
    padded p (ix3 b l e) = point p b ⟨l.val, hl⟩ e := by
  unfold padded point
  pointwise
  exact dif_pos hl

theorem rowsOf_apply (v : (⟨S4x25088x1, .f32⟩ : BufTy).Contents (Elt Ideal)) (b : Fin 4) (l : Fin 25088) :
    rowsOf v (ix3 b 0 l) = v (ix3 b l 0) := by
  pointwise [rowsOf]

/-- Input 0's block: the first coordinates of the segment's points. -/
theorem iblk_0 (c : Dev nD) (t : Fin cfg0.N) (l : Fin 25088) (hl : l.val < 25000) :
    (iblk m c 0 t : Vec Ideal S1x1x25088 .f32) (ix3 0 0 l) = point (arg0 m c) (grid0.coords t 0) ⟨l.val, hl⟩ 0 := by
  show after (List.flatten [hostOps0, hostOps0_1, hostOps0_2]) (fun b => m (c, b)) (Proc.devRef .tc main_v9) ((win0_0.rect t).emb (ix3 0 0 l)) = _
  rw [emb_0]
  refine (congrFun (pre_v9 _) _).trans ((rowsOf_apply _ _ _).trans (Eq.trans ?_ (padded_apply _ _ l hl 0)))
  pointwise

/-- Input 1's block: the second coordinates of the segment's points. -/
theorem iblk_1 (c : Dev nD) (t : Fin cfg0.N) (l : Fin 25088) (hl : l.val < 25000) :
    (iblk m c 1 t : Vec Ideal S1x1x25088 .f32) (ix3 0 0 l) = point (arg0 m c) (grid0.coords t 0) ⟨l.val, hl⟩ 1 := by
  show after (List.flatten [hostOps0, hostOps0_1, hostOps0_2]) (fun b => m (c, b)) (Proc.devRef .tc main_v10) ((win0_0.rect t).emb (ix3 0 0 l)) = _
  rw [emb_0]
  refine (congrFun (pre_v10 _) _).trans ((rowsOf_apply _ _ _).trans (Eq.trans ?_ (padded_apply _ _ l hl 1)))
  pointwise

/-- Input 2's block: the third coordinates of the segment's points. -/
theorem iblk_2 (c : Dev nD) (t : Fin cfg0.N) (l : Fin 25088) (hl : l.val < 25000) :
    (iblk m c 2 t : Vec Ideal S1x1x25088 .f32) (ix3 0 0 l) = point (arg0 m c) (grid0.coords t 0) ⟨l.val, hl⟩ 2 := by
  show after (List.flatten [hostOps0, hostOps0_1, hostOps0_2]) (fun b => m (c, b)) (Proc.devRef .tc main_v11) ((win0_0.rect t).emb (ix3 0 0 l)) = _
  rw [emb_0]
  refine (congrFun (pre_v11 _) _).trans ((rowsOf_apply _ _ _).trans (Eq.trans ?_ (padded_apply _ _ l hl 2)))
  pointwise

/-- Input 3's block: the tile's queries. -/
theorem iblk_3 (c : Dev nD) (t : Fin cfg0.N) (r : Fin 32) (e : Fin 3) :
    (iblk m c 3 t : Vec Ideal S1x1x32x3 .f32) (ix4 0 0 r e)
      = query (arg1 m c) (grid0.coords t 0) (grid0.coords t 1) r e := by
  show after (List.flatten [hostOps0, hostOps0_1, hostOps0_2]) (fun b => m (c, b)) (Proc.devRef .tc main_v8) ((win0_3.rect t).emb (ix4 0 0 r e)) = _
  rw [emb_3]
  exact congrFun (pre_v8 _) _

/-- The squared distance of query `32 t + r` of a segment from its point `n`; `⊤` where there is no such point. -/
def sqDist (p : (⟨S100000x3, .f32⟩ : BufTy).Contents (Elt Ideal)) (q : (⟨S4x1568x3, .f32⟩ : BufTy).Contents (Elt Ideal)) (b : Fin 4) (t : Fin 49) (r : Fin 32) (n : ℕ) : EReal :=
  if h : n < 25000 then
    (query q b t r 0 - point p b ⟨n, h⟩ 0) * (query q b t r 0 - point p b ⟨n, h⟩ 0)
    + (query q b t r 1 - point p b ⟨n, h⟩ 1) * (query q b t r 1 - point p b ⟨n, h⟩ 1)
    + (query q b t r 2 - point p b ⟨n, h⟩ 2) * (query q b t r 2 - point p b ⟨n, h⟩ 2)
  else ⊤

theorem sqDist_of_lt (p : (⟨S100000x3, .f32⟩ : BufTy).Contents (Elt Ideal)) (q : (⟨S4x1568x3, .f32⟩ : BufTy).Contents (Elt Ideal)) (b : Fin 4) (t : Fin 49) (r : Fin 32) (n : ℕ) (h : n < 25000) :
    sqDist p q b t r n = (query q b t r 0 - point p b ⟨n, h⟩ 0) * (query q b t r 0 - point p b ⟨n, h⟩ 0)
      + (query q b t r 1 - point p b ⟨n, h⟩ 1) * (query q b t r 1 - point p b ⟨n, h⟩ 1)
      + (query q b t r 2 - point p b ⟨n, h⟩ 2) * (query q b t r 2 - point p b ⟨n, h⟩ 2) := by
  unfold sqDist
  exact dif_pos h

/-- The distances of a tile. -/
abbrev tile (c : Dev nD) (t : Fin cfg0.N) : FVec Ideal S32x25088 .f32 :=
  tileDist (F := Ideal) (iblk m c 0 t) (iblk m c 1 t) (iblk m c 2 t) (iblk m c 3 t)

theorem tile_apply (c : Dev nD) (t : Fin cfg0.N) (r : Fin 32) (l : Fin 25088) :
    tile m c t (ix2 r l) = if l.val < 25000 then sqDist (arg0 m c) (arg1 m c) (grid0.coords t 0) (grid0.coords t 1) r l.val else ⊤ := by
  refine (tileDist_apply _ _ _ _ r l).trans ?_
  by_cases h : l.val < 25000
  · rw [if_pos h, if_pos h, iblk_0 m c t l h, iblk_1 m c t l h, iblk_2 m c t l h, iblk_3, iblk_3, iblk_3]
    exact (sqDist_of_lt _ _ _ _ _ _ h).symm
  · rw [if_neg h, if_neg h]

/-- The result at tile `t`: the columns that its rows selected. -/
theorem final_apply (c : Dev nD) (t : Fin cfg0.N) (r : Fin 32) (j : Fin 16) :
    (dats m 0 c).arrAt 4 cfg0.N (ix4 (grid0.coords t 0) (grid0.coords t 1) r j : S4x49x32x16.Idx)
      = BitVec.ofNat 32 (nth (tile m c t) r j.val) := by
  have h := congrFun (blocks4 m c t (flush0_4 t)) (ix4 0 0 r j : S1x1x32x16.Idx)
  have he : ((cfg0.win 4).blk t).view.read (Elt Ideal) ((dats m 0 c).arrAt 4 cfg0.N) (ix4 0 0 r j : S1x1x32x16.Idx)
      = (dats m 0 c).arrAt 4 cfg0.N ((win0_4.rect t).emb (ix4 0 0 r j)) := rfl
  rw [he, emb_4, flushed4_A] at h
  refine h.trans ?_
  show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (ix4 0 0 r j) = _
  rw [out_4]
  refine Eq.trans ?_ ((sel_apply (tile m c t) r j 16 le_rfl).trans (if_pos j.isLt))
  pointwise [k0_pay6]

end Cert.Kernel2Ideal.Value

end
-- ==== Proof.NeighbourReference.lean ====
module

public import proofs.«01_k».proof.Proof.Selection
public import proofs.«01_k».proof.Proof.Gen.Reference2Ideal
public import proofs.«01_k».proof.Proof.Gen.Reference2Ideal.Run
public import Idealize.ShloMosaic.Lib.Pointwise
public import Idealize.ShloMosaic.PureOps.Ideal

@[expose] public section

/-! # The reference's neighbours

The reference negates every query's squared distances, sorts them stably, greatest first, and keeps the first sixteen
places: those of the sixteen least distances. -/

set_option maxRecDepth 16384

noncomputable section

namespace Cert.Reference2Ideal.Value

open Idealize.ShloMosaic Cert.Reference2Ideal Cert.Reference2Ideal.Gen Cert.Sampling

/-- The differences of every query and every point of its segment. -/
def diffs (p : FVec Ideal S100000x3 .f32) (q : FVec Ideal S4x1568x3 .f32) : FVec Ideal S4x1568x25000x3 .f32 :=
  subf (broadcastInDim S4x1568x25000x3 ![0, 1, 2, 3] bcast_S4x1568x1x3_S4x1568x25000x3_0_1_2_3 (broadcastInDim S4x1568x1x3 ![0, 1, 3] bcast_S4x1568x3_S4x1568x1x3_0_1_3 q))
    (broadcastInDim S4x1568x25000x3 ![0, 1, 2, 3] bcast_S4x1x25000x3_S4x1568x25000x3_0_1_2_3 (broadcastInDim S4x1x25000x3 ![0, 2, 3] bcast_S4x25000x3_S4x1x25000x3_0_2_3 (shapeCast S4x25000x3 p shapeCasts_S100000x3_S4x25000x3)))

/-- The squared distances. -/
def dists (p : FVec Ideal S100000x3 .f32) (q : FVec Ideal S4x1568x3 .f32) : FVec Ideal S4x1568x25000 .f32 :=
  Host.reduceAdd (mulf (diffs p q) (diffs p q)) (constant S_ .f32 0x00000000#32) reducesTo_S4x1568x25000x3_S4x1568x25000_d3 h_S_

/-- The sixteen places. -/
def places (x : FVec Ideal S4x1568x25000 .f32) : IVec S4x1568x16 32 :=
  (Host.topK S4x1568x16 2 (FloatOps.cmpfTotal .gt) (Host.negf x) sliceFits_S4x1568x25000_S4x1568x16).2

/-- The reference's result. -/
def refOut (p : FVec Ideal S100000x3 .f32) (q : FVec Ideal S4x1568x3 .f32) : IVec S4x49x32x16 32 :=
  shapeCast S4x49x32x16 (places (dists p q)) shapeCasts_S4x1568x16_S4x49x32x16

theorem dists_apply (p : FVec Ideal S100000x3 .f32) (q : FVec Ideal S4x1568x3 .f32) (b : Fin 4) (s : Fin 1568) (n : Fin 25000) :
    dists p q (ix3 b s n)
      = (q (ix3 b s 0) - shapeCast S4x25000x3 p shapeCasts_S100000x3_S4x25000x3 (ix3 b n 0)) * (q (ix3 b s 0) - shapeCast S4x25000x3 p shapeCasts_S100000x3_S4x25000x3 (ix3 b n 0))
        + (q (ix3 b s 1) - shapeCast S4x25000x3 p shapeCasts_S100000x3_S4x25000x3 (ix3 b n 1)) * (q (ix3 b s 1) - shapeCast S4x25000x3 p shapeCasts_S100000x3_S4x25000x3 (ix3 b n 1))
        + (q (ix3 b s 2) - shapeCast S4x25000x3 p shapeCasts_S100000x3_S4x25000x3 (ix3 b n 2)) * (q (ix3 b s 2) - shapeCast S4x25000x3 p shapeCasts_S100000x3_S4x25000x3 (ix3 b n 2)) := by
  pointwise [dists, diffs]
  rw [Fin.sum_univ_three]

/-- Where the slice to the first sixteen places reads. -/
def front (i : S4x1568x16.Idx) : S4x1568x25000.Idx := extractStridedSlice S4x1568x16 (fun _ => 0) (fun j => j) sliceFits_S4x1568x25000_S4x1568x16 i

theorem front_apply (b : Fin 4) (s : Fin 1568) (j : Fin 16) : front (ix3 b s j) = ix3 b s (j.castLE (by omega)) := by
  funext a
  apply Fin.ext
  fin_cases a <;> exact Nat.zero_add _

/-- The fiber through `i` along the last axis. -/
def fiber (i : S4x1568x25000.Idx) (k : Fin 25000) : S4x1568x25000.Idx := Shape.Idx.along (s := S4x1568x25000) i (2 : Fin 3) k

theorem fiber_apply (b : Fin 4) (s : Fin 1568) (n k : Fin 25000) : fiber (ix3 b s n) k = ix3 b s k := by
  funext a
  fin_cases a <;> rfl

theorem places_eq (x : FVec Ideal S4x1568x25000 .f32) (i : S4x1568x16.Idx) :
    places x i = iotaInDim S4x1568x25000 32 (2 : Fin 3) (fiber (front i) (sortedFrom (n := 25000)
      (fun k k' => FloatOps.cmpfTotal (F := Ideal) (φ := .f32) .gt (Host.negf x (fiber (front i) k)) (Host.negf x (fiber (front i) k')) == 1#1) (front i (2 : Fin 3)))) := by
  unfold places Host.topK Host.sort2
  have hd : 2 < S4x1568x25000.rank := by decide
  simp only [dif_pos hd]
  rfl

/-- The places by the least distances. -/
theorem places_apply (x : FVec Ideal S4x1568x25000 .f32) (b : Fin 4) (s : Fin 1568) (D : ℕ → EReal) (L : ℕ → ℕ)
    (hD : ∀ n : Fin 25000, x (ix3 b s n) = D n.val) (hL : Least D 25000 16 L) (j : Fin 16) :
    places x (ix3 b s j) = BitVec.ofNat 32 (L j.val) := by
  have hbefore : (fun k k' : Fin 25000 => FloatOps.cmpfTotal (F := Ideal) (φ := .f32) .gt (Host.negf x (ix3 b s k)) (Host.negf x (ix3 b s k')) == 1#1)
      = fun k k' => decide (D k.val < D k'.val) := by
    funext k k'
    have h : ∀ u v : EReal, (FloatOps.cmpfTotal (F := Ideal) (φ := .f32) .gt (-u) (-v) == 1#1) = decide (u < v) := fun u v => by
      show (BitVec.ofBool (decide (-v < -u)) == 1#1) = _
      by_cases huv : u < v
      · rw [decide_eq_true huv, decide_eq_true (EReal.neg_lt_neg_iff.mpr huv)]; rfl
      · rw [decide_eq_false huv, decide_eq_false (fun h => huv (EReal.neg_lt_neg_iff.mp h))]; rfl
    rw [← hD, ← hD]
    exact h _ _
  have hs := hL.sortedFrom_eq (by omega) j
  rw [places_eq, front_apply]
  simp only [fiber_apply]
  rw [hbefore, ← hs]
  rfl

end Cert.Reference2Ideal.Value

end
-- ==== Proof.NeighbourEquation.lean ====
module

public import proofs.«01_k».proof.Proof.NeighbourRun
public import proofs.«01_k».proof.Proof.NeighbourReference
public import proofs.«01_k».proof.Proof.Gen.Pre_finite
public import proofs.«01_k».proof.Pre_finite
public import Idealize.ShloMosaic.Lib.ReduceAll
public import Idealize.ShloMosaic.Lib.Affine
public import Idealize.ShloMosaic.Lib.Pipeline.Covers

@[expose] public section

/-! # The kernel's neighbours are the reference's

Where every coordinate is finite so is every distance, and both programs write down the sixteen places of the least. -/

set_option maxRecDepth 16384

noncomputable section

namespace Cert.Neighbours

open Idealize.ShloMosaic Idealize.ShloMosaic.StableHlo Idealize.SL.Sem Cert.Sampling

/-- Finite: neither infinity. -/
def Finite (x : EReal) : Prop := x ≠ ⊤ ∧ x ≠ ⊥

/-- Below `+∞` in magnitude is finite. -/
theorem finite_of_cmp (x : Ideal .f32)
    (h : FloatOps.cmpf (F := Ideal) (φ := .f32) .olt (FloatOps.hostAbsf (F := Ideal) (φ := .f32) x) (Ideal.ofBits .f32 0x7F800000#32) = 1#1) : Finite x := by
  rw [Cert.Kernel2Ideal.Value.ofBits_posInf] at h
  have h2 : max (x : EReal) (-x) < ⊤ := by
    by_contra hn
    have : BitVec.ofBool (decide (max (x : EReal) (-x) < ⊤)) = 1#1 := h
    rw [decide_eq_false hn] at this
    exact absurd this (by decide)
  obtain ⟨h3, h4⟩ := max_lt_iff.mp h2
  refine ⟨ne_of_lt h3, fun hb => ?_⟩
  rw [hb, EReal.neg_bot] at h4
  exact lt_irrefl _ h4

/-- The sum of three squared differences of finite numbers is below `⊤`. -/
theorem sum_lt_top (a b : Fin 3 → EReal) (ha : ∀ e, Finite (a e)) (hb : ∀ e, Finite (b e)) :
    (a 0 - b 0) * (a 0 - b 0) + (a 1 - b 1) * (a 1 - b 1) + (a 2 - b 2) * (a 2 - b 2) < ⊤ := by
  have h : ∀ e, ∃ x : ℝ, (a e - b e) * (a e - b e) = x := fun e => by
    obtain ⟨x, hx⟩ : ∃ x : ℝ, a e = x := ⟨_, (EReal.coe_toReal (ha e).1 (ha e).2).symm⟩
    obtain ⟨y, hy⟩ : ∃ y : ℝ, b e = y := ⟨_, (EReal.coe_toReal (hb e).1 (hb e).2).symm⟩
    exact ⟨(x - y) * (x - y), by rw [hx, hy, ← EReal.coe_sub, ← EReal.coe_mul]⟩
  obtain ⟨x, hx⟩ := h 0
  obtain ⟨y, hy⟩ := h 1
  obtain ⟨z, hz⟩ := h 2
  rw [hx, hy, hz, ← EReal.coe_add, ← EReal.coe_add]
  exact EReal.coe_lt_top _

instance : Subsingleton Cert.Pre_finite.S_.Idx := ⟨fun i j => funext fun a => a.elim0⟩

/-- What the precondition says: every coordinate is finite. -/
theorem finite_of_pre [Cert.Pre_finite.Facts] (p : FVec Ideal Cert.Pre_finite.S100000x3 .f32) (q : FVec Ideal Cert.Pre_finite.S4x1568x3 .f32)
    (h : Cert.Pre_finite.fn (F := Ideal) p q = fun _ => 1#1) : (∀ i, Finite (p i)) ∧ ∀ i, Finite (q i) := by
  have h1 := (IntOp.andi_eq_one).mp (congrFun h (fun a => Fin.elim0 a))
  exact ⟨fun i => finite_of_cmp _ (Host.reduce_andi_all _ _ _ _ _ h1.1 i), fun i => finite_of_cmp _ (Host.reduce_andi_all _ _ _ _ _ h1.2 i)⟩

open Cert.Kernel2Ideal Cert.Kernel2Ideal.Gen Cert.Kernel2Ideal.Value

/-- A query read through its tile is the query itself. -/
theorem query_eq (q : (⟨S4x1568x3, .f32⟩ : BufTy).Contents (Elt Ideal)) (b : Fin 4) (t : Fin 49) (r : Fin 32) (e : Fin 3) :
    query q b t r e = q (ix3 b ⟨t.val * 32 + r.val, by omega⟩ e) := by
  pointwise [query]

/-- The reference's result, read at a tile. -/
theorem refOut_apply (p : FVec Ideal Cert.Reference2Ideal.S100000x3 .f32) (q : FVec Ideal Cert.Reference2Ideal.S4x1568x3 .f32) (b : Fin 4) (t : Fin 49) (r : Fin 32) (j : Fin 16) :
    Cert.Reference2Ideal.Value.refOut p q (ix4 b t r j)
      = Cert.Reference2Ideal.Value.places (Cert.Reference2Ideal.Value.dists p q) (ix3 b ⟨t.val * 32 + r.val, by omega⟩ j) := by
  pointwise [Cert.Reference2Ideal.Value.refOut]

/-- Distances between finite points are finite. -/
theorem sqDist_lt_top (p : (⟨S100000x3, .f32⟩ : BufTy).Contents (Elt Ideal)) (q : (⟨S4x1568x3, .f32⟩ : BufTy).Contents (Elt Ideal))
    (hp : ∀ i, Finite (p i)) (hq : ∀ i, Finite (q i)) (b : Fin 4) (t : Fin 49) (r : Fin 32) (n : ℕ) (hn : n < 25000) :
    sqDist p q b t r n < ⊤ := by
  rw [sqDist_of_lt _ _ _ _ _ _ hn]
  exact sum_lt_top (query q b t r) (point p b ⟨n, hn⟩) (fun e => hq _) (fun e => hp _)

/-- The reference's result at a tile: the places of the query's least distances. -/
theorem refOut_least (p : (⟨S100000x3, .f32⟩ : BufTy).Contents (Elt Ideal)) (q : (⟨S4x1568x3, .f32⟩ : BufTy).Contents (Elt Ideal))
    (b : Fin 4) (t : Fin 49) (r : Fin 32) (L : ℕ → ℕ) (hL : Least (sqDist p q b t r) 25000 16 L) (j : Fin 16) :
    Cert.Reference2Ideal.Value.refOut p q (ix4 b t r j) = BitVec.ofNat 32 (L j.val) := by
  rw [refOut_apply]
  refine Cert.Reference2Ideal.Value.places_apply _ _ _ _ _ (fun n => ?_) hL j
  rw [Cert.Reference2Ideal.Value.dists_apply, sqDist_of_lt _ _ _ _ _ _ n.isLt, query_eq, query_eq, query_eq]
  rfl

/-- The neighbours: what the kernel's launch leaves is what the reference computes. -/
theorem neighbours_eq [Cert.Pre_finite.Facts] (m : (ℓ : Loc nD τ sig) → Buf (Elt Ideal) ℓ) (c : Dev nD)
    (h : Cert.Pre_finite.fn (F := Ideal) (arg0 m c) (arg1 m c) = fun _ => 1#1) :
    Cert.Reference2Ideal.Value.refOut (arg0 m c) (arg1 m c) = (dats m 0 c).arrAt 4 cfg0.N := by
  obtain ⟨hp, hq⟩ := finite_of_pre _ _ h
  funext i
  obtain ⟨b, s, r, j, rfl⟩ : ∃ (b : Fin 4) (s : Fin 49) (r : Fin 32) (j : Fin 16), i = ix4 b s r j :=
    ⟨i 0, i 1, i 2, i 3, by funext a; fin_cases a <;> rfl⟩
  obtain ⟨t, ht⟩ := Pipeline.Grid.coords_surjective grid0 (ix2 b s)
  obtain rfl : grid0.coords t 0 = b := congrFun ht 0
  obtain rfl : grid0.coords t 1 = s := congrFun ht 1
  exact (refOut_least _ _ _ _ r _ (nth_least (tile m c t) r _ (sqDist_lt_top _ _ hp hq _ _ r) (tile_apply m c t r)) j).trans
    (final_apply m c t r j).symm

end Cert.Neighbours

end
-- ==== Proof.WholeBody.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.Kernel3Ideal.Whole

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame of the program with the three launches (projection, gather, normalisation), part one: what each launch's
body leaves in its output blocks, at any contents `V` of the arrays when the launch is entered. The gather's body takes one
hypothesis: each word of its neighbour block addresses a row of the projected table. -/

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x3136x35 := Rect.unit (s := S1x3136x35) ![0, 0, 0] S1x3136x35.size inb_S1x3136x35_S1x3136x35_0_0_0
abbrev r0_1 : Rect S35x64 := Rect.unit (s := S35x64) ![0, 0] S35x64.size inb_S35x64_S35x64_0_0
abbrev r0_2 : Rect S1x3136x64 := Rect.unit (s := S1x3136x64) ![0, 0, 0] S1x3136x64.size inb_S1x3136x64_S1x3136x64_0_0_0

def out0_2 (x0 : Vec F S1x3136x35 .f32) (x1 : Vec F S35x64 .f32) : Vec F S1x3136x64 .f32 :=
  View.canon [⟨r0_2, k0_pay1 (View.ld x0 r0_0) (View.ld x1 r0_1)⟩]

theorem cover0_2 (p0 : Vec F S1x3136x64 .f32) (y : S1x3136x64.Idx) :
    ∃ pc ∈ ([⟨r0_2, p0⟩] : List (View.Piece (Elt F) S1x3136x64 .f32)), y ∈ pc.1.set :=
  View.cover_of_tiled [⟨r0_2, p0⟩] S1x3136x64.size (by rfl) y

set_option maxHeartbeats 1000000 in
theorem sound_kernel0 (c : Dev nD) (E : Set ℕ) (i : grid0.Coords) (arg2 : Memref sig .tc .vmem S1x3136x35 .f32) (harg2 : arg2.IsWhole) (arg3 : Memref sig .tc .vmem S35x64 .f32) (harg3 : arg3.IsWhole) (arg4 : Memref sig .tc .vmem S1x3136x64 .f32) (harg4 : arg4.IsWhole)
    (x0 : Vec F S1x3136x35 .f32) (x1 : Vec F S35x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x1x8x64 .f32 := (Memref.whole cc1_stg2_0 : Memref sig .tc .vmem S1x1x8x64 .f32).view
abbrev VO1_3 : View sig .tc .vmem S1x1x8x64 .f32 := (Memref.whole cc1_stg3_0 : Memref sig .tc .vmem S1x1x8x64 .f32).view
abbrev VO1_4 : View sig .tc .vmem S1x1x8x64 .f32 := (Memref.whole cc1_stg4_0 : Memref sig .tc .vmem S1x1x8x64 .f32).view
abbrev VO1_5 : View sig .tc .vmem S1x1x8x64 .f32 := (Memref.whole cc1_stg5_0 : Memref sig .tc .vmem S1x1x8x64 .f32).view
abbrev ms1_0 (t : Fin cfg1.N) : Memref sig .tc .smem S1x1x8x16 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x25088x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x8x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x8x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x8x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x8x64 .f32 := win1_5.stage (cfg1.slots t 5)
abbrev hs1_5 (t : Fin cfg1.N) : (ms1_5 t).IsWhole := hstage1_5 ((cfg1.slots t 5).cast nbuf1_5)
/-- Whatever rectangle of the neighbour block is read, each word read is one of the block's words. -/
theorem inRange_read {arg2 : Memref sig .tc .smem S1x1x8x16 .i32} (harg2 : arg2.IsWhole) {x0 : Vec F S1x1x8x16 .i32}
    (hx : ∀ j, k1_chk1 (x0 j)) (r : LoadRect S1x1x8x16) (y : r.shape.Idx) :
    k1_chk1 (arg2.view.readAt (Elt F) r (harg2.unread x0) y) := by
  rw [Memref.IsWhole.readAt_unread]; exact hx _

set_option maxHeartbeats 4000000 in
noncomputable def kernelRun1_A (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) :
    Σ' (L2 : List (View.Piece (Elt F) S1x1x8x64 .f32)), Σ' (L3 : List (View.Piece (Elt F) S1x1x8x64 .f32)), Σ' (L4 : List (View.Piece (Elt F) S1x1x8x64 .f32)), { L5 : List (View.Piece (Elt F) S1x1x8x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__gather_kernel i arg2 harg2 arg3 harg3 arg4 harg4 arg5 harg5 arg6 harg6 arg7 harg7) K } := by
  refine ⟨?_, ?_, ?_, ?_, fun E K => ?run⟩
  case run =>
    simp only [cc1__gather_kernel_eq_skeleton]; unfold cc1__gather_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := sl_exact inRange_read harg2 hx _ _)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

theorem cover1_A_2 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) (y : S1x1x8x64.Idx) :
    ∃ pc ∈ (kernelRun1_A c i arg2 harg2 arg3 harg3 arg4 harg4 arg5 harg5 arg6 harg6 arg7 harg7 x0 x1 hx).1, y ∈ pc.1.set :=
  View.cover_of_tiledL (kernelRun1_A c i arg2 harg2 arg3 harg3 arg4 harg4 arg5 harg5 arg6 harg6 arg7 harg7 x0 x1 hx).1 S1x1x8x64.size (by sl_kernel_rfl) y

def out1_A_2 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) : Vec F S1x1x8x64 .f32 :=
  VO1_2.read (Elt F) (VO1_2.writes (Elt F) VO1_2.junk (kernelRun1_A c i arg2 harg2 arg3 harg3 arg4 harg4 arg5 harg5 arg6 harg6 arg7 harg7 x0 x1 hx).1)

theorem cover1_A_3 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) (y : S1x1x8x64.Idx) :
    ∃ pc ∈ (kernelRun1_A c i arg2 harg2 arg3 harg3 arg4 harg4 arg5 harg5 arg6 harg6 arg7 harg7 x0 x1 hx).2.1, y ∈ pc.1.set :=
  View.cover_of_tiledL (kernelRun1_A c i arg2 harg2 arg3 harg3 arg4 harg4 arg5 harg5 arg6 harg6 arg7 harg7 x0 x1 hx).2.1 S1x1x8x64.size (by sl_kernel_rfl) y

def out1_A_3 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) : Vec F S1x1x8x64 .f32 :=
  VO1_3.read (Elt F) (VO1_3.writes (Elt F) VO1_3.junk (kernelRun1_A c i arg2 harg2 arg3 harg3 arg4 harg4 arg5 harg5 arg6 harg6 arg7 harg7 x0 x1 hx).2.1)

theorem cover1_A_4 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) (y : S1x1x8x64.Idx) :
    ∃ pc ∈ (kernelRun1_A c i arg2 harg2 arg3 harg3 arg4 harg4 arg5 harg5 arg6 harg6 arg7 harg7 x0 x1 hx).2.2.1, y ∈ pc.1.set :=
  View.cover_of_tiledL (kernelRun1_A c i arg2 harg2 arg3 harg3 arg4 harg4 arg5 harg5 arg6 harg6 arg7 harg7 x0 x1 hx).2.2.1 S1x1x8x64.size (by sl_kernel_rfl) y

def out1_A_4 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) : Vec F S1x1x8x64 .f32 :=
  VO1_4.read (Elt F) (VO1_4.writes (Elt F) VO1_4.junk (kernelRun1_A c i arg2 harg2 arg3 harg3 arg4 harg4 arg5 harg5 arg6 harg6 arg7 harg7 x0 x1 hx).2.2.1)

theorem cover1_A_5 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) (y : S1x1x8x64.Idx) :
    ∃ pc ∈ (kernelRun1_A c i arg2 harg2 arg3 harg3 arg4 harg4 arg5 harg5 arg6 harg6 arg7 harg7 x0 x1 hx).2.2.2.1, y ∈ pc.1.set :=
  View.cover_of_tiledL (kernelRun1_A c i arg2 harg2 arg3 harg3 arg4 harg4 arg5 harg5 arg6 harg6 arg7 harg7 x0 x1 hx).2.2.2.1 S1x1x8x64.size (by sl_kernel_rfl) y

def out1_A_5 (c : Dev nD) (i : grid1.Coords) (arg2 : Memref sig .tc .smem S1x1x8x16 .i32) (harg2 : arg2.IsWhole) (arg3 : Memref sig .tc .vmem S1x25088x64 .f32) (harg3 : arg3.IsWhole) (arg4 : Memref sig .tc .vmem S1x1x8x64 .f32) (harg4 : arg4.IsWhole) (arg5 : Memref sig .tc .vmem S1x1x8x64 .f32) (harg5 : arg5.IsWhole) (arg6 : Memref sig .tc .vmem S1x1x8x64 .f32) (harg6 : arg6.IsWhole) (arg7 : Memref sig .tc .vmem S1x1x8x64 .f32) (harg7 : arg7.IsWhole)
    (x0 : Vec F S1x1x8x16 .i32) (x1 : Vec F S1x25088x64 .f32) (hx : ∀ j, k1_chk1 (x0 j)) : Vec F S1x1x8x64 .f32 :=
  VO1_5.read (Elt F) (VO1_5.writes (Elt F) VO1_5.junk (kernelRun1_A c i arg2 harg2 arg3 harg3 arg4 harg4 arg5 harg5 arg6 harg6 arg7 harg7 x0 x1 hx).2.2.2.1)

variable (hV : ∀ (c : Dev nD) (t : Fin cfg1.N) (j : S1x1x8x16.Idx), k1_chk1 (iblk1 V c 0 t j : BitVec 32))

def outsAt1 (c : Dev nD) (t : Fin cfg1.N) : Vec F S1x1x8x64 .f32 × Vec F S1x1x8x64 .f32 × Vec F S1x1x8x64 .f32 × Vec F S1x1x8x64 .f32 :=
  (out1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (hV c t), out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (hV c t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (hV c t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (hV c t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V hV c t).1
    | ⟨3, _⟩ => (outsAt1 V hV c t).2.1
    | ⟨4, _⟩ => (outsAt1 V hV c t).2.2.1
    | ⟨5, _⟩ => (outsAt1 V hV c t).2.2.2
  Φ _ := Pipeline.ΦA spec1 c
  q _ := fullShare
  owed _ := 0

theorem A_eq1 (c : Dev nD) (w : Fin cfg1.W) : (dat1 V hV c).A w = V c (Pipeline.arrRef spec1 w) := by
  dsimp only [dat1]

theorem after1_0 (c : Dev nD) (t : Fin cfg1.N) : (dat1 V hV c).after 0 t = iblk1 V c 0 t := by dsimp only [dat1]
theorem after1_1 (c : Dev nD) (t : Fin cfg1.N) : (dat1 V hV c).after 1 t = iblk1 V c 1 t := by dsimp only [dat1]
theorem after1_2 (c : Dev nD) (t : Fin cfg1.N) : (dat1 V hV c).after 2 t = (outsAt1 V hV c t).1 := by dsimp only [dat1]
theorem after1_3 (c : Dev nD) (t : Fin cfg1.N) : (dat1 V hV c).after 3 t = (outsAt1 V hV c t).2.1 := by dsimp only [dat1]
theorem after1_4 (c : Dev nD) (t : Fin cfg1.N) : (dat1 V hV c).after 4 t = (outsAt1 V hV c t).2.2.1 := by dsimp only [dat1]
theorem after1_5 (c : Dev nD) (t : Fin cfg1.N) : (dat1 V hV c).after 5 t = (outsAt1 V hV c t).2.2.2 := by dsimp only [dat1]

theorem before1_0 (c : Dev nD) (t : Fin cfg1.N) (d) : (dat1 V hV c).before 0 t d = iblk1 V c 0 t :=
  before1_0_of V (dat1 V hV c) (A_eq1 V hV c 0) (after1_0 V hV c) t d
theorem before1_1 (c : Dev nD) (t : Fin cfg1.N) (d) : (dat1 V hV c).before 1 t d = iblk1 V c 1 t :=
  before1_1_of V (dat1 V hV c) (A_eq1 V hV c 1) (after1_1 V hV c) t d

def bodyPre1 (c : Dev nD) (t : Fin cfg1.N) : sProp 𝕄 :=
  iprop((dat1 V hV c).Φ t.castSucc ∗ (dat1 V hV c).owesAt () t.castSucc
    ∗ (∃ d, owns (c : Thread nD τ) (ms1_0 t) fullShare ((dat1 V hV c).before 0 t d))
    ∗ (∃ d, owns (c : Thread nD τ) (ms1_1 t) fullShare ((dat1 V hV c).before 1 t d))
    ∗ (∃ d, owns (c : Thread nD τ) (ms1_2 t) fullShare ((dat1 V hV c).before 2 t d))
    ∗ (∃ d, owns (c : Thread nD τ) (ms1_3 t) fullShare ((dat1 V hV c).before 3 t d))
    ∗ (∃ d, owns (c : Thread nD τ) (ms1_4 t) fullShare ((dat1 V hV c).before 4 t d))
    ∗ (∃ d, owns (c : Thread nD τ) (ms1_5 t) fullShare ((dat1 V hV c).before 5 t d)))

def bodyPost1 (c : Dev nD) (t : Fin cfg1.N) : sProp 𝕄 :=
  iprop((dat1 V hV c).Φ t.succ ∗ (dat1 V hV c).owesAt () t.succ
    ∗ owns (c : Thread nD τ) (ms1_0 t) fullShare ((dat1 V hV c).after 0 t)
    ∗ owns (c : Thread nD τ) (ms1_1 t) fullShare ((dat1 V hV c).after 1 t)
    ∗ owns (c : Thread nD τ) (ms1_2 t) fullShare ((dat1 V hV c).after 2 t)
    ∗ owns (c : Thread nD τ) (ms1_3 t) fullShare ((dat1 V hV c).after 3 t)
    ∗ owns (c : Thread nD τ) (ms1_4 t) fullShare ((dat1 V hV c).after 4 t)
    ∗ owns (c : Thread nD τ) (ms1_5 t) fullShare ((dat1 V hV c).after 5 t))

theorem sound_body1 (c : Dev nD) (t : Fin cfg1.N) :
    bodyPre1 V hV c t ⊢ wp frame (wpE (defs₀ (F := F)) Variants.none c none) Set.univ (bodyAt1 t) (fun _ => bodyPost1 V hV c t) := by
  unfold bodyPre1 bodyPost1 bodyAt1
  simp only [before1_0, before1_1]
  rw [show (dat1 V hV c).Φ t.succ = (dat1 V hV c).Φ t.castSucc from rfl,
    show (dat1 V hV c).owesAt () t.succ = (dat1 V hV c).owesAt () t.castSucc from rfl,
    after1_0, after1_1, after1_2, after1_3, after1_4, after1_5]
  unfold outsAt1
  unfold out1_A_2 out1_A_3 out1_A_4 out1_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (hV c t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _ _ _ _ _ _)
  isplitl [H3]
  · unfold owns; iexists _; isplitr
    swap; · iexact H3
    ipureintro; exact View.read_writes_of_cover _ _ _ _ _ (cover1_A_3 c _ _ _ _ _ _ _ _ _ _ _ _ _ _ _ _)
  isplitl [H4]
  · unfold owns; iexists _; isplitr
    swap; · iexact H4
    ipureintro; exact View.read_writes_of_cover _ _ _ _ _ (cover1_A_4 c _ _ _ _ _ _ _ _ _ _ _ _ _ _ _ _)
  unfold owns; iexists _; isplitr
  swap; · iexact H5
  ipureintro; exact View.read_writes_of_cover _ _ _ _ _ (cover1_A_5 c _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V hV c) (defs₀ (F := F)) Variants.none () Set.univ := fun t => by
  rw [bigSep_W1, bigSep_W1, defs₀_row1]
  exact triple_restated (sound_body1 V hV c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S6272x1 := Rect.unit (s := S6272x1) ![0, 0] S6272x1.size inb_S6272x1_S6272x1_0_0
abbrev r2_1 : Rect S1x64 := Rect.unit (s := S1x64) ![0, 0] S1x64.size inb_S1x64_S1x64_0_0
abbrev r2_2 : Rect S6272x64 := Rect.unit (s := S6272x64) ![0, 0] S6272x64.size inb_S6272x64_S6272x64_0_0

def k2_pay11 (x0 : Vec F S6272x64 .f32) (x1 : Vec F S6272x64 .f32) (x2 : Vec F S6272x64 .f32) (x3 : Vec F S6272x64 .f32) (x4 : Vec F S6272x1 .f32) (x5 : Vec F S6272x1 .f32) (x6 : Vec F S6272x1 .f32) (x7 : Vec F S1x64 .f32) (x8 : Vec F S1x64 .f32) (x9 : Vec F S1x64 .f32) (x10 : Vec F S1x64 .f32) (x11 : Vec F S1x64 .f32) : FVec F S6272x64 .f32 :=
  k2_pay2 (View.ld x4 r2_0) (View.ld x7 r2_1) (View.ld x5 r2_0) (View.ld x8 r2_1) (View.ld x6 r2_0) (View.ld x9 r2_1) -- `v22`
def k2_pay12 (x0 : Vec F S6272x64 .f32) (x1 : Vec F S6272x64 .f32) (x2 : Vec F S6272x64 .f32) (x3 : Vec F S6272x64 .f32) (x4 : Vec F S6272x1 .f32) (x5 : Vec F S6272x1 .f32) (x6 : Vec F S6272x1 .f32) (x7 : Vec F S1x64 .f32) (x8 : Vec F S1x64 .f32) (x9 : Vec F S1x64 .f32) (x10 : Vec F S1x64 .f32) (x11 : Vec F S1x64 .f32) : FVec F S6272x64 .f32 :=
  k2_pay4 (View.ld x4 r2_0) (View.ld x7 r2_1) (View.ld x5 r2_0) (View.ld x8 r2_1) (View.ld x6 r2_0) (View.ld x9 r2_1) (View.ld x0 r2_2) -- `v27`

def out2_12 (x0 : Vec F S6272x64 .f32) (x1 : Vec F S6272x64 .f32) (x2 : Vec F S6272x64 .f32) (x3 : Vec F S6272x64 .f32) (x4 : Vec F S6272x1 .f32) (x5 : Vec F S6272x1 .f32) (x6 : Vec F S6272x1 .f32) (x7 : Vec F S1x64 .f32) (x8 : Vec F S1x64 .f32) (x9 : Vec F S1x64 .f32) (x10 : Vec F S1x64 .f32) (x11 : Vec F S1x64 .f32) : Vec F S6272x64 .f32 :=
  View.canon [⟨r2_2, k2_pay1 (k2_pay6 (k2_pay11 x0 x1 x2 x3 x4 x5 x6 x7 x8 x9 x10 x11) (View.ld x2 r2_2)) (k2_pay7 (k2_pay11 x0 x1 x2 x3 x4 x5 x6 x7 x8 x9 x10 x11) (View.ld x3 r2_2)) (k2_pay9 (k2_pay12 x0 x1 x2 x3 x4 x5 x6 x7 x8 x9 x10 x11)) (k2_pay10 (k2_pay12 x0 x1 x2 x3 x4 x5 x6 x7 x8 x9 x10 x11) (k2_pay5 (View.ld x4 r2_0) (View.ld x7 r2_1) (View.ld x5 r2_0) (View.ld x8 r2_1) (View.ld x6 r2_0) (View.ld x9 r2_1) (View.ld x0 r2_2) (View.ld x1 r2_2))) (View.ld x10 r2_1) (View.ld x11 r2_1)⟩]

theorem cover2_12 (p0 : Vec F S6272x64 .f32) (y : S6272x64.Idx) :
    ∃ pc ∈ ([⟨r2_2, p0⟩] : List (View.Piece (Elt F) S6272x64 .f32)), y ∈ pc.1.set :=
  View.cover_of_tiled [⟨r2_2, p0⟩] S6272x64.size (by rfl) y

set_option maxHeartbeats 1000000 in
theorem sound_kernel2 (c : Dev nD) (E : Set ℕ) (arg0 : Memref sig .tc .vmem S6272x64 .f32) (harg0 : arg0.IsWhole) (arg1 : Memref sig .tc .vmem S6272x64 .f32) (harg1 : arg1.IsWhole) (arg2 : Memref sig .tc .vmem S6272x64 .f32) (harg2 : arg2.IsWhole) (arg3 : Memref sig .tc .vmem S6272x64 .f32) (harg3 : arg3.IsWhole) (arg4 : Memref sig .tc .vmem S6272x1 .f32) (harg4 : arg4.IsWhole) (arg5 : Memref sig .tc .vmem S6272x1 .f32) (harg5 : arg5.IsWhole) (arg6 : Memref sig .tc .vmem S6272x1 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S6272x64 .f32) (harg12 : arg12.IsWhole)
    (x0 : Vec F S6272x64 .f32) (x1 : Vec F S6272x64 .f32) (x2 : Vec F S6272x64 .f32) (x3 : Vec F S6272x64 .f32) (x4 : Vec F S6272x1 .f32) (x5 : Vec F S6272x1 .f32) (x6 : Vec F S6272x1 .f32) (x7 : Vec F S1x64 .f32) (x8 : Vec F S1x64 .f32) (x9 : Vec F S1x64 .f32) (x10 : Vec F S1x64 .f32) (x11 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out2_12 x0 x1 x2 x3 x4 x5 x6 x7 x8 x9 x10 x11)) -∗ K ⟨⟩))
      ⊢ wp frame (wpE (defs₀ (F := F)) Variants.none c none) E (cc2__bn_kernel arg0 harg0 arg1 harg1 arg2 harg2 arg3 harg3 arg4 harg4 arg5 harg5 arg6 harg6 arg7 harg7 arg8 harg8 arg9 harg9 arg10 harg10 arg11 harg11 arg12 harg12) K := by
  simp only [cc2__bn_kernel_eq_skeleton]; unfold cc2__bn_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover2_12 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel3Ideal.Whole

end
-- ==== Proof.WholeGather.lean ====
module

public import proofs.«01_k».proof.Proof.WholeBody

/-!
What one grid point of the gather launch writes: of each of its eight queries, the sum, the sum of squares, the maximum
and the minimum of the sixteen rows of the projected features that the query's words name.
-/

@[expose] public section
set_option maxRecDepth 16384
noncomputable section
open Idealize.ShloMosaic Idealize.ShloMosaic.TcCoe Idealize.ShloMosaic.Tactic
namespace Cert.Kernel3Ideal.Whole
open Cert.Kernel3Ideal Cert.Kernel3Ideal.Gen
variable {F : FTy → Type} [FloatOps F]

/-- The sixteen neighbours after the first. -/
abbrev later : List (Fin 16) := [1, 2, 3, 4, 5, 6, 7, 8, 9, 10, 11, 12, 13, 14, 15]

theorem inb_word (q : Fin 8) (s : Fin 16) : ∀ a, (![0, 0, q.val, s.val] : Fin 4 → ℕ) a + S1x1x1x1.size a ≤ S1x1x8x16.size a := by
  intro a
  fin_cases a
  · exact Nat.le_refl 1
  · exact Nat.le_refl 1
  · show q.val + 1 ≤ 8; omega
  · show s.val + 1 ≤ 16; omega

section Reads
variable {arg2 : Memref sig .tc .smem S1x1x8x16 .i32} (harg2 : arg2.IsWhole) {arg3 : Memref sig .tc .vmem S1x25088x64 .f32}
  (harg3 : arg3.IsWhole) (x0 : Vec F S1x1x8x16 .i32) (x1 : Vec F S1x25088x64 .f32) (hx : ∀ j, k1_chk1 (x0 j))

/-- The word the kernel reads for query `q`'s neighbour `s`. -/
def word (q : Fin 8) (s : Fin 16) : BitVec 32 :=
  arg2.view.readAt (Elt F) (Rect.unit (s := S1x1x8x16) ![0, 0, q.val, s.val] S1x1x1x1.size (inb_word q s)).toLoadRect (harg2.unread x0)
    (Shape.Idx.first (s := S1x1x1x1) (by decide))

include hx in
theorem word_range (q : Fin 8) (s : Fin 16) : k1_chk1 (word harg2 x0 q s) := inRange_read harg2 hx _ _

/-- The row of projected features it names. -/
def zrow (q : Fin 8) (s : Fin 16) : FVec F S1x64 .f32 :=
  shapeCast S1x64 (arg3.view.readAt (Elt F) (Rect.unit (s := S1x25088x64) (k1_off1 (word harg2 x0 q s)) S1x1x64.size
    (k1_off1_inb _ (word_range harg2 x0 hx q s))).toLoadRect (harg3.unread x1)) shapeCasts_S1x1x64_S1x64

/-- The four statistics of a query's sixteen rows, in the kernel's order. -/
def rowSum (q : Fin 8) : FVec F S1x64 .f32 :=
  later.foldl (fun a s => addf a (zrow harg2 harg3 x0 x1 hx q s)) (zrow harg2 harg3 x0 x1 hx q 0)
def rowSq (q : Fin 8) : FVec F S1x64 .f32 :=
  later.foldl (fun a s => addf a (mulf (zrow harg2 harg3 x0 x1 hx q s) (zrow harg2 harg3 x0 x1 hx q s)))
    (mulf (zrow harg2 harg3 x0 x1 hx q 0) (zrow harg2 harg3 x0 x1 hx q 0))
def rowMax (q : Fin 8) : FVec F S1x64 .f32 :=
  later.foldl (fun a s => maximumf a (zrow harg2 harg3 x0 x1 hx q s)) (zrow harg2 harg3 x0 x1 hx q 0)
def rowMin (q : Fin 8) : FVec F S1x64 .f32 :=
  later.foldl (fun a s => minimumf a (zrow harg2 harg3 x0 x1 hx q s)) (zrow harg2 harg3 x0 x1 hx q 0)

/-- Eight rows one under another, as a block of the result. -/
def stack (f : Fin 8 → FVec F S1x64 .f32) : FVec F S1x1x8x64 .f32 :=
  shapeCast S1x1x8x64 (concatenate S8x64 0 [⟨S1x64, f 0⟩, ⟨S1x64, f 1⟩, ⟨S1x64, f 2⟩, ⟨S1x64, f 3⟩, ⟨S1x64, f 4⟩, ⟨S1x64, f 5⟩,
    ⟨S1x64, f 6⟩, ⟨S1x64, f 7⟩] concatenates_S1x64_S1x64_S1x64_S1x64_S1x64_S1x64_S1x64_S1x64_S8x64_d0) shapeCasts_S8x64_S1x1x8x64

/-- A block written whole. -/
abbrev wholeBlock (v : FVec F S1x1x8x64 .f32) : List (View.Piece (Elt F) S1x1x8x64 .f32) :=
  [⟨Rect.unit ![0, 0, 0, 0] ![1, 1, 8, 64] inb_S1x1x8x64_S1x1x8x64_0_0_0_0, v⟩]

variable (c : Dev nD) (i : grid1.Coords) (arg4 : Memref sig .tc .vmem S1x1x8x64 .f32) (harg4 : arg4.IsWhole)
  (arg5 : Memref sig .tc .vmem S1x1x8x64 .f32) (harg5 : arg5.IsWhole) (arg6 : Memref sig .tc .vmem S1x1x8x64 .f32)
  (harg6 : arg6.IsWhole) (arg7 : Memref sig .tc .vmem S1x1x8x64 .f32) (harg7 : arg7.IsWhole)

theorem pieces_max : (kernelRun1_A c i arg2 harg2 arg3 harg3 arg4 harg4 arg5 harg5 arg6 harg6 arg7 harg7 x0 x1 hx).2.2.1
    = wholeBlock (stack (rowMax harg2 harg3 x0 x1 hx)) := by sl_kernel_rfl
theorem pieces_sum : (kernelRun1_A c i arg2 harg2 arg3 harg3 arg4 harg4 arg5 harg5 arg6 harg6 arg7 harg7 x0 x1 hx).1
    = wholeBlock (stack (rowSum harg2 harg3 x0 x1 hx)) := by sl_kernel_rfl
theorem pieces_sq : (kernelRun1_A c i arg2 harg2 arg3 harg3 arg4 harg4 arg5 harg5 arg6 harg6 arg7 harg7 x0 x1 hx).2.1
    = wholeBlock (stack (rowSq harg2 harg3 x0 x1 hx)) := by sl_kernel_rfl
theorem pieces_min : (kernelRun1_A c i arg2 harg2 arg3 harg3 arg4 harg4 arg5 harg5 arg6 harg6 arg7 harg7 x0 x1 hx).2.2.2.1
    = wholeBlock (stack (rowMin harg2 harg3 x0 x1 hx)) := by sl_kernel_rfl

end Reads

end Cert.Kernel3Ideal.Whole
-- ==== Proof.WholeTile.lean ====
module

public import proofs.«01_k».proof.Proof.WholeGather
public import Idealize.ShloMosaic.Lib.Pipeline.ValueKit
public import Idealize.ShloMosaic.Lib.StableHlo.Run

/-!
The gather launch's block read entry by entry over the extended reals.
-/

@[expose] public section
set_option maxRecDepth 16384
noncomputable section
open Idealize.ShloMosaic Idealize.ShloMosaic.TcCoe Idealize.ShloMosaic.Tactic
namespace Cert.Kernel3Ideal.Whole
open Cert.Kernel3Ideal Cert.Kernel3Ideal.Gen

/-- Row `n` of a block of projected features, 0 where there is none. -/
def rowOf (x1 : Vec Ideal S1x25088x64 .f32) (n : ℕ) (ch : Fin 64) : EReal :=
  if h : n < 25088 then x1 (ix3 0 ⟨n, h⟩ ch) else 0

/-- Sixteen values added, and their greatest and least, in order. -/
def sum16 (f : Fin 16 → EReal) : EReal := later.foldl (fun a s => a + f s) (f 0)
def max16 (f : Fin 16 → EReal) : EReal := later.foldl (fun a s => max a (f s)) (f 0)
def min16 (f : Fin 16 → EReal) : EReal := later.foldl (fun a s => min a (f s)) (f 0)

theorem fold_apply {S : Shape} {α : Type} (op : α → α → α) (l : List (Fin 16)) (g : Fin 16 → S.Idx → α) (a : S.Idx → α) (j : S.Idx) :
    (l.foldl (fun a s => fun j => op (a j) (g s j)) a) j = l.foldl (fun a s => op a (g s j)) (a j) := by
  induction l generalizing a with
  | nil => rfl
  | cons s l ih => exact ih _

section
variable {arg2 : Memref sig .tc .smem S1x1x8x16 .i32} (harg2 : arg2.IsWhole) {arg3 : Memref sig .tc .vmem S1x25088x64 .f32}
  (harg3 : arg3.IsWhole) (x0 : Vec Ideal S1x1x8x16 .i32) (x1 : Vec Ideal S1x25088x64 .f32) (hx : ∀ j, k1_chk1 (x0 j))

theorem word_eq (q : Fin 8) (s : Fin 16) : word harg2 x0 q s = x0 (ix4 0 0 q s) := by
  refine (harg2.readAt_unread ..).trans (congrArg x0 ?_)
  funext a
  apply Fin.ext
  fin_cases a <;> rfl

theorem zrow_apply (q : Fin 8) (s : Fin 16) (ch : Fin 64) :
    zrow harg2 harg3 x0 x1 hx q s (ix2 0 ch) = rowOf x1 (x0 (ix4 0 0 q s) : BitVec 32).toNat ch := by
  have hw : k1_chk1 (x0 (ix4 0 0 q s)) := hx _
  have hn : (x0 (ix4 0 0 q s) : BitVec 32).toNat < 25088 := hw 1
  unfold rowOf
  rw [dif_pos hn]
  unfold zrow
  pointwise
  refine (harg3.readAt_unread ..).trans (congrArg x1 ?_)
  funext a
  apply Fin.ext
  fin_cases a
  · rfl
  · show (word harg2 x0 q s).toNat + 1 * 0 = _
    rw [word_eq]; rfl
  · show 0 + 1 * ch.val = ch.val; omega

theorem rowSum_apply (q : Fin 8) (ch : Fin 64) :
    rowSum harg2 harg3 x0 x1 hx q (ix2 0 ch) = sum16 fun s => rowOf x1 (x0 (ix4 0 0 q s) : BitVec 32).toNat ch := by
  refine (fold_apply (S := S1x64) (fun a b : EReal => a + b) later (fun s => zrow harg2 harg3 x0 x1 hx q s) _ _).trans ?_
  simp only [zrow_apply]; rfl

theorem rowSq_apply (q : Fin 8) (ch : Fin 64) :
    rowSq harg2 harg3 x0 x1 hx q (ix2 0 ch)
      = sum16 fun s => rowOf x1 (x0 (ix4 0 0 q s) : BitVec 32).toNat ch * rowOf x1 (x0 (ix4 0 0 q s) : BitVec 32).toNat ch := by
  refine (fold_apply (S := S1x64) (fun a b : EReal => a + b) later
    (fun s j => zrow harg2 harg3 x0 x1 hx q s j * zrow harg2 harg3 x0 x1 hx q s j) _ _).trans ?_
  simp only [zrow_apply]
  show later.foldl _ (zrow harg2 harg3 x0 x1 hx q 0 (ix2 0 ch) * zrow harg2 harg3 x0 x1 hx q 0 (ix2 0 ch)) = _
  rw [zrow_apply]; rfl

theorem rowMax_apply (q : Fin 8) (ch : Fin 64) :
    rowMax harg2 harg3 x0 x1 hx q (ix2 0 ch) = max16 fun s => rowOf x1 (x0 (ix4 0 0 q s) : BitVec 32).toNat ch := by
  refine (fold_apply (S := S1x64) (fun a b : EReal => max a b) later (fun s => zrow harg2 harg3 x0 x1 hx q s) _ _).trans ?_
  simp only [zrow_apply]; rfl

theorem rowMin_apply (q : Fin 8) (ch : Fin 64) :
    rowMin harg2 harg3 x0 x1 hx q (ix2 0 ch) = min16 fun s => rowOf x1 (x0 (ix4 0 0 q s) : BitVec 32).toNat ch := by
  refine (fold_apply (S := S1x64) (fun a b : EReal => min a b) later (fun s => zrow harg2 harg3 x0 x1 hx q s) _ _).trans ?_
  simp only [zrow_apply]; rfl

end

theorem stack_apply (f : Fin 8 → FVec Ideal S1x64 .f32) (q : Fin 8) (ch : Fin 64) : stack f (ix4 0 0 q ch) = f q (ix2 0 ch) := by
  fin_cases q <;> pointwise [stack]

/-- A block written whole is what was written. -/
theorem read_wholeBlock (v : FVec Ideal S1x1x8x64 .f32) (V : View sig .tc .vmem S1x1x8x64 .f32) :
    V.read (Elt Ideal) (V.writes (Elt Ideal) V.junk (wholeBlock v)) = v := by
  rw [View.read_writes_junk_eq_canon]
  · exact View.canon_cons_unit_lit _ _ _ (by decide)

end Cert.Kernel3Ideal.Whole
-- ==== Proof.WholeStats.lean ====
module

public import proofs.«01_k».proof.Proof.WholeTile
public import Idealize.ShloMosaic.Lib.StableHlo.RunClose

/-!
What the gather launch leaves in its four result arrays: of every query, the statistics of the sixteen rows of the
projected features that its words name.
-/

@[expose] public section
set_option maxRecDepth 16384
noncomputable section
open Idealize.ShloMosaic Idealize.ShloMosaic.TcCoe Idealize.ShloMosaic.Tactic Idealize.SL.Sem
namespace Cert.Kernel3Ideal.Whole
open Cert.Kernel3Ideal Cert.Kernel3Ideal.Gen

/-- Row `n` of segment `b`'s projected features, 0 where there is none. -/
def zAt (z : (⟨S4x25088x64, .f32⟩ : BufTy).Contents (Elt Ideal)) (b : Fin 4) (n : ℕ) (ch : Fin 64) : EReal :=
  if h : n < 25088 then z (ix3 b ⟨n, h⟩ ch) else 0

/-- A statistic of every query's sixteen rows. -/
def statOf (st : (Fin 16 → EReal) → EReal) (z : (⟨S4x25088x64, .f32⟩ : BufTy).Contents (Elt Ideal))
    (k : (⟨S4x196x8x16, .i32⟩ : BufTy).Contents (Elt Ideal)) : (⟨S4x196x8x64, .f32⟩ : BufTy).Contents (Elt Ideal) :=
  fun i => st fun s => zAt z (i 0) (k (ix4 (i 0 : Fin 4) (i 1 : Fin 196) (i 2 : Fin 8) s) : BitVec 32).toNat (i 3)

/-- The sum of sixteen squares. -/
def sq16 (f : Fin 16 → EReal) : EReal := sum16 fun s => f s * f s

variable (V : (c : Dev nD) → (b : Ref sig .tc) → Buf (Elt Ideal) ((c : Thread nD τ).loc b))
  (hV : ∀ (c : Dev nD) (t : Fin cfg1.N) (j : S1x1x8x16.Idx), k1_chk1 (iblk1 V c 0 t j : BitVec 32))

theorem coords_lt (t : Fin cfg1.N) : (grid1.coords t 0).val < 4 ∧ (grid1.coords t 1).val < 196 :=
  ⟨(grid1.coords t 0).isLt, (grid1.coords t 1).isLt⟩

/-- A point's block of words is the array's at the point. -/
theorem emb1_0 (t : Fin cfg1.N) (q : Fin 8) (s : Fin 16) :
    (win1_0.rect t).emb (ix4 0 0 q s) = (ix4 (grid1.coords t 0) (grid1.coords t 1) q s : S4x196x8x16.Idx) := by
  obtain ⟨h0, h1⟩ := coords_lt t
  funext a
  apply Fin.ext
  rw [Pipeline.Window.rect_emb_val (hk := rfl)]
  fin_cases a
  · show (BitVec.ofNat 32 (grid1.coords t 0).val).toNat * 1 + 0 = (grid1.coords t 0).val
    rw [BitVec.toNat_ofNat, Nat.mod_eq_of_lt (by omega)]; omega
  · show (BitVec.ofNat 32 (grid1.coords t 1).val).toNat * 1 + 0 = (grid1.coords t 1).val
    rw [BitVec.toNat_ofNat, Nat.mod_eq_of_lt (by omega)]; omega
  · show 0 * 8 + q.val = q.val; omega
  · show 0 * 16 + s.val = s.val; omega

/-- A point's block of projected features is its segment's. -/
theorem emb1_1 (t : Fin cfg1.N) (n : Fin 25088) (ch : Fin 64) :
    (win1_1.rect t).emb (ix3 0 n ch) = (ix3 (grid1.coords t 0) n ch : S4x25088x64.Idx) := by
  obtain ⟨h0, h1⟩ := coords_lt t
  funext a
  apply Fin.ext
  rw [Pipeline.Window.rect_emb_val (hk := rfl)]
  fin_cases a
  · show (BitVec.ofNat 32 (grid1.coords t 0).val).toNat * 1 + 0 = (grid1.coords t 0).val
    rw [BitVec.toNat_ofNat, Nat.mod_eq_of_lt (by omega)]; omega
  · show 0 * 25088 + n.val = n.val; omega
  · show 0 * 64 + ch.val = ch.val; omega

/-- A point's block of a result is the array's at the point. -/
theorem emb1_2 (t : Fin cfg1.N) (q : Fin 8) (ch : Fin 64) :
    (win1_2.rect t).emb (ix4 0 0 q ch) = (ix4 (grid1.coords t 0) (grid1.coords t 1) q ch : S4x196x8x64.Idx) := by
  obtain ⟨h0, h1⟩ := coords_lt t
  funext a
  apply Fin.ext
  rw [Pipeline.Window.rect_emb_val (hk := rfl)]
  fin_cases a
  · show (BitVec.ofNat 32 (grid1.coords t 0).val).toNat * 1 + 0 = (grid1.coords t 0).val
    rw [BitVec.toNat_ofNat, Nat.mod_eq_of_lt (by omega)]; omega
  · show (BitVec.ofNat 32 (grid1.coords t 1).val).toNat * 1 + 0 = (grid1.coords t 1).val
    rw [BitVec.toNat_ofNat, Nat.mod_eq_of_lt (by omega)]; omega
  · show 0 * 8 + q.val = q.val; omega
  · show 0 * 64 + ch.val = ch.val; omega

theorem emb1_3 (t : Fin cfg1.N) (q : Fin 8) (ch : Fin 64) :
    (win1_3.rect t).emb (ix4 0 0 q ch) = (ix4 (grid1.coords t 0) (grid1.coords t 1) q ch : S4x196x8x64.Idx) := emb1_2 t q ch
theorem emb1_4 (t : Fin cfg1.N) (q : Fin 8) (ch : Fin 64) :
    (win1_4.rect t).emb (ix4 0 0 q ch) = (ix4 (grid1.coords t 0) (grid1.coords t 1) q ch : S4x196x8x64.Idx) := emb1_2 t q ch
theorem emb1_5 (t : Fin cfg1.N) (q : Fin 8) (ch : Fin 64) :
    (win1_5.rect t).emb (ix4 0 0 q ch) = (ix4 (grid1.coords t 0) (grid1.coords t 1) q ch : S4x196x8x64.Idx) := emb1_2 t q ch

theorem iblk1_word (c : Dev nD) (t : Fin cfg1.N) (q : Fin 8) (s : Fin 16) :
    (iblk1 V c 0 t : Vec Ideal S1x1x8x16 .i32) (ix4 0 0 q s) = V c main_v10 (ix4 (grid1.coords t 0) (grid1.coords t 1) q s : S4x196x8x16.Idx) := by
  show V c main_v10 ((win1_0.rect t).emb (ix4 0 0 q s)) = _
  rw [emb1_0]

theorem iblk1_row (c : Dev nD) (t : Fin cfg1.N) (n : ℕ) (ch : Fin 64) :
    rowOf (iblk1 V c 1 t : Vec Ideal S1x25088x64 .f32) n ch = zAt (V c main_v9) (grid1.coords t 0) n ch := by
  unfold rowOf zAt
  split
  · show V c main_v9 ((win1_1.rect t).emb (ix3 0 _ ch)) = _
    rw [emb1_1]
  · rfl

/-- Each point's statistics, at an entry. -/
theorem stat_apply (st : (Fin 16 → EReal) → EReal) (c : Dev nD) (t : Fin cfg1.N) (q : Fin 8) (ch : Fin 64) :
    (st fun s => rowOf (iblk1 V c 1 t : Vec Ideal S1x25088x64 .f32) ((iblk1 V c 0 t : Vec Ideal S1x1x8x16 .i32) (ix4 0 0 q s) : BitVec 32).toNat ch)
      = statOf st (V c main_v9) (V c main_v10) (ix4 (grid1.coords t 0) (grid1.coords t 1) q ch : S4x196x8x64.Idx) := by
  simp only [iblk1_row, iblk1_word]
  rfl

/-- A point's block of the sums. -/
theorem block_sum (c : Dev nD) (t : Fin cfg1.N) (q : Fin 8) (ch : Fin 64) :
    (outsAt1 V hV c t).1 (ix4 0 0 q ch) = statOf sum16 (V c main_v9) (V c main_v10) (ix4 (grid1.coords t 0) (grid1.coords t 1) q ch : S4x196x8x64.Idx) := by
  unfold outsAt1 out1_A_2
  dsimp only
  rw [pieces_sum, read_wholeBlock, stack_apply, rowSum_apply]
  exact stat_apply V sum16 c t q ch
theorem block_sq (c : Dev nD) (t : Fin cfg1.N) (q : Fin 8) (ch : Fin 64) :
    (outsAt1 V hV c t).2.1 (ix4 0 0 q ch) = statOf sq16 (V c main_v9) (V c main_v10) (ix4 (grid1.coords t 0) (grid1.coords t 1) q ch : S4x196x8x64.Idx) := by
  unfold outsAt1 out1_A_3
  dsimp only
  rw [pieces_sq, read_wholeBlock, stack_apply, rowSq_apply]
  exact stat_apply V sq16 c t q ch
theorem block_max (c : Dev nD) (t : Fin cfg1.N) (q : Fin 8) (ch : Fin 64) :
    (outsAt1 V hV c t).2.2.1 (ix4 0 0 q ch) = statOf max16 (V c main_v9) (V c main_v10) (ix4 (grid1.coords t 0) (grid1.coords t 1) q ch : S4x196x8x64.Idx) := by
  unfold outsAt1 out1_A_4
  dsimp only
  rw [pieces_max, read_wholeBlock, stack_apply, rowMax_apply]
  exact stat_apply V max16 c t q ch
theorem block_min (c : Dev nD) (t : Fin cfg1.N) (q : Fin 8) (ch : Fin 64) :
    (outsAt1 V hV c t).2.2.2 (ix4 0 0 q ch) = statOf min16 (V c main_v9) (V c main_v10) (ix4 (grid1.coords t 0) (grid1.coords t 1) q ch : S4x196x8x64.Idx) := by
  unfold outsAt1 out1_A_5
  dsimp only
  rw [pieces_min, read_wholeBlock, stack_apply, rowMin_apply]
  exact stat_apply V min16 c t q ch

/-- The point of a segment and a group of queries. -/
def pointOf (b : Fin 4) (g : Fin 196) : Fin cfg1.N := ⟨b.val * 196 + g.val, by
  have : cfg1.N = 784 := by decide
  omega⟩
theorem coords1_0 (t : Fin cfg1.N) : (grid1.coords t 0).val = t.val / 196 % 4 := Pipeline.Grid.coords_val t 0 (by decide) rfl
theorem coords1_1 (t : Fin cfg1.N) : (grid1.coords t 1).val = t.val / 1 % 196 := Pipeline.Grid.coords_val t 1 (by decide) rfl
theorem pointOf_0 (b : Fin 4) (g : Fin 196) : grid1.coords (pointOf b g) 0 = b := by
  apply Fin.ext
  refine (coords1_0 _).trans ?_
  show (b.val * 196 + g.val) / 196 % 4 = b.val
  omega
theorem pointOf_1 (b : Fin 4) (g : Fin 196) : grid1.coords (pointOf b g) 1 = g := by
  apply Fin.ext
  refine (coords1_1 _).trans ?_
  show (b.val * 196 + g.val) / 1 % 196 = g.val
  omega

/-- A block that is an array's entry by entry is the array's block. -/
theorem block_at (v : Vec Ideal S1x1x8x64 .f32) (G : (⟨S4x196x8x64, .f32⟩ : BufTy).Contents (Elt Ideal)) (t : Fin cfg1.N)
    (h : ∀ q ch, v (ix4 0 0 q ch) = G (ix4 (grid1.coords t 0) (grid1.coords t 1) q ch : S4x196x8x64.Idx)) (y : S1x1x8x64.Idx) :
    v y = G ((win1_2.rect t).emb y) := by
  obtain ⟨a, b, q, ch, rfl⟩ : ∃ (a b : Fin 1) (q : Fin 8) (ch : Fin 64), y = ix4 a b q ch := ⟨_, _, _, _, eq_ix4 y⟩
  rw [Subsingleton.elim a 0, Subsingleton.elim b 0]
  exact (h q ch).trans (congrArg G (emb1_2 t q ch).symm)

/-- Every entry of a result lies in some point's block. -/
theorem cover_at (i : S4x196x8x64.Idx) : ∃ t : Fin cfg1.N, ∃ y : S1x1x8x64.Idx, (win1_2.rect t).emb y = i := by
  obtain ⟨b, g, q, ch, rfl⟩ : ∃ (b : Fin 4) (g : Fin 196) (q : Fin 8) (ch : Fin 64), i = ix4 b g q ch := ⟨_, _, _, _, eq_ix4 i⟩
  exact ⟨pointOf b g, ix4 0 0 q ch, (emb1_2 _ _ _).trans
    (congrArg₂ (fun (b : Fin 4) (g : Fin 196) => (ix4 b g q ch : S4x196x8x64.Idx)) (pointOf_0 b g) (pointOf_1 b g))⟩

theorem arr_sum (c : Dev nD) : (dat1 V hV c).arrAt 2 cfg1.N = statOf sum16 (V c main_v9) (V c main_v10) := by
  refine (dat1 V hV c).arrAt_eq_of_cover 2 _ (fun t _ => ?_) fun i => ?_
  · have h := block_sum V hV c t
    show (cfg1.win 2).cut (cfg1.grid.coords t) ((dat1 V hV c).after 2 t) = _
    rw [after1_2]
    revert h
    generalize (outsAt1 V hV c t).1 = v
    intro h
    exact funext (block_at v _ t h)
  · obtain ⟨t, y, rfl⟩ := cover_at i
    exact ⟨t, flush1_2 t, ((cfg1.win 2).blk t).view.emb_mem_set y⟩
theorem arr_sq (c : Dev nD) : (dat1 V hV c).arrAt 3 cfg1.N = statOf sq16 (V c main_v9) (V c main_v10) := by
  refine (dat1 V hV c).arrAt_eq_of_cover 3 _ (fun t _ => ?_) fun i => ?_
  · have h := block_sq V hV c t
    show (cfg1.win 3).cut (cfg1.grid.coords t) ((dat1 V hV c).after 3 t) = _
    rw [after1_3]
    revert h
    generalize (outsAt1 V hV c t).2.1 = v
    intro h
    exact funext (block_at v _ t h)
  · obtain ⟨t, y, rfl⟩ := cover_at i
    exact ⟨t, flush1_3 t, ((cfg1.win 3).blk t).view.emb_mem_set y⟩
theorem arr_max (c : Dev nD) : (dat1 V hV c).arrAt 4 cfg1.N = statOf max16 (V c main_v9) (V c main_v10) := by
  refine (dat1 V hV c).arrAt_eq_of_cover 4 _ (fun t _ => ?_) fun i => ?_
  · have h := block_max V hV c t
    show (cfg1.win 4).cut (cfg1.grid.coords t) ((dat1 V hV c).after 4 t) = _
    rw [after1_4]
    revert h
    generalize (outsAt1 V hV c t).2.2.1 = v
    intro h
    exact funext (block_at v _ t h)
  · obtain ⟨t, y, rfl⟩ := cover_at i
    exact ⟨t, flush1_4 t, ((cfg1.win 4).blk t).view.emb_mem_set y⟩
theorem arr_min (c : Dev nD) : (dat1 V hV c).arrAt 5 cfg1.N = statOf min16 (V c main_v9) (V c main_v10) := by
  refine (dat1 V hV c).arrAt_eq_of_cover 5 _ (fun t _ => ?_) fun i => ?_
  · have h := block_min V hV c t
    show (cfg1.win 5).cut (cfg1.grid.coords t) ((dat1 V hV c).after 5 t) = _
    rw [after1_5]
    revert h
    generalize (outsAt1 V hV c t).2.2.2 = v
    intro h
    exact funext (block_at v _ t h)
  · obtain ⟨t, y, rfl⟩ := cover_at i
    exact ⟨t, flush1_5 t, ((cfg1.win 5).blk t).view.emb_mem_set y⟩

end Cert.Kernel3Ideal.Whole
-- ==== Proof.WholeProjection.lean ====
module

public import proofs.«01_k».proof.Proof.WholeStats

/-!
What the projection launch leaves: every padded point's features multiplied by the transposed weights.
-/

@[expose] public section
set_option maxRecDepth 16384
noncomputable section
open Idealize.ShloMosaic Idealize.ShloMosaic.TcCoe Idealize.ShloMosaic.Tactic Idealize.SL.Sem
namespace Cert.Kernel3Ideal.Whole
open Cert.Kernel3Ideal Cert.Kernel3Ideal.Gen

/-- The product of features and weights. -/
def projOf (x : (⟨S4x25088x35, .f32⟩ : BufTy).Contents (Elt Ideal)) (w : (⟨S35x64, .f32⟩ : BufTy).Contents (Elt Ideal)) :
    (⟨S4x25088x64, .f32⟩ : BufTy).Contents (Elt Ideal) :=
  fun i => ∑ k : Fin 35, (x (ix3 (i 0 : Fin 4) (i 1 : Fin 25088) k) : EReal) * w (ix2 k (i 2 : Fin 64))

theorem pay_apply (x : FVec Ideal S1x3136x35 .f32) (w : FVec Ideal S35x64 .f32) (r : Fin 3136) (ch : Fin 64) :
    k0_pay1 (F := Ideal) x w (ix3 0 r ch) = ∑ k : Fin 35, x (ix3 0 r k) * w (ix2 k ch) := by
  pointwise [k0_pay1]

variable (V : (c : Dev nD) → (b : Ref sig .tc) → Buf (Elt Ideal) ((c : Thread nD τ).loc b))

theorem coords0_lt (t : Fin cfg0.N) : (grid0.coords t 0).val < 4 ∧ (grid0.coords t 1).val < 8 :=
  ⟨(grid0.coords t 0).isLt, (grid0.coords t 1).isLt⟩

/-- The row of the array that row `r` of point `t`'s block is. -/
def rowAt (t : Fin cfg0.N) (r : Fin 3136) : Fin 25088 := ⟨(grid0.coords t 1).val * 3136 + r.val, by
  have := coords0_lt t
  omega⟩

theorem emb0_0 (t : Fin cfg0.N) (r : Fin 3136) (k : Fin 35) :
    (win0_0.rect t).emb (ix3 0 r k) = (ix3 (grid0.coords t 0) (rowAt t r) k : S4x25088x35.Idx) := by
  obtain ⟨h0, h1⟩ := coords0_lt t
  funext a
  apply Fin.ext
  rw [Pipeline.Window.rect_emb_val (hk := rfl)]
  fin_cases a
  · show (BitVec.ofNat 32 (grid0.coords t 0).val).toNat * 1 + 0 = (grid0.coords t 0).val
    rw [BitVec.toNat_ofNat, Nat.mod_eq_of_lt (by omega)]; omega
  · show (BitVec.ofNat 32 (grid0.coords t 1).val).toNat * 3136 + r.val = (grid0.coords t 1).val * 3136 + r.val
    rw [BitVec.toNat_ofNat, Nat.mod_eq_of_lt (by omega)]
  · show 0 * 35 + k.val = k.val; omega

theorem emb0_1 (t : Fin cfg0.N) (k : Fin 35) (ch : Fin 64) :
    (win0_1.rect t).emb (ix2 k ch) = (ix2 k ch : S35x64.Idx) := by
  funext a
  apply Fin.ext
  rw [Pipeline.Window.rect_emb_val (hk := rfl)]
  fin_cases a
  · show 0 * 35 + k.val = k.val; omega
  · show 0 * 64 + ch.val = ch.val; omega

theorem emb0_2 (t : Fin cfg0.N) (r : Fin 3136) (ch : Fin 64) :
    (win0_2.rect t).emb (ix3 0 r ch) = (ix3 (grid0.coords t 0) (rowAt t r) ch : S4x25088x64.Idx) := by
  obtain ⟨h0, h1⟩ := coords0_lt t
  funext a
  apply Fin.ext
  rw [Pipeline.Window.rect_emb_val (hk := rfl)]
  fin_cases a
  · show (BitVec.ofNat 32 (grid0.coords t 0).val).toNat * 1 + 0 = (grid0.coords t 0).val
    rw [BitVec.toNat_ofNat, Nat.mod_eq_of_lt (by omega)]; omega
  · show (BitVec.ofNat 32 (grid0.coords t 1).val).toNat * 3136 + r.val = (grid0.coords t 1).val * 3136 + r.val
    rw [BitVec.toNat_ofNat, Nat.mod_eq_of_lt (by omega)]
  · show 0 * 64 + ch.val = ch.val; omega

theorem block_proj (c : Dev nD) (t : Fin cfg0.N) (r : Fin 3136) (ch : Fin 64) :
    out0_2 (F := Ideal) (iblk0 V c 0 t) (iblk0 V c 1 t) (ix3 0 r ch)
      = projOf (V c main_v7) (V c main_v8) (ix3 (grid0.coords t 0) (rowAt t r) ch : S4x25088x64.Idx) := by
  unfold out0_2
  rw [View.canon_cons_unit_lit _ _ _ (by decide), View.ld_unit_lit _ _ (by decide), View.ld_unit_lit _ _ (by decide)]
  refine (pay_apply _ _ r ch).trans (Finset.sum_congr rfl fun k _ => ?_)
  refine congrArg₂ (fun a b : EReal => a * b) ?_ ?_
  · exact congrArg (V c main_v7) (emb0_0 t r k)
  · exact congrArg (V c main_v8) (emb0_1 t k ch)

/-- The point whose block holds row `n` of a segment. -/
def pointOf0 (b : Fin 4) (n : Fin 25088) : Fin cfg0.N := ⟨b.val * 8 + n.val / 3136, by
  have : cfg0.N = 32 := by decide
  omega⟩
theorem coords0_0 (t : Fin cfg0.N) : (grid0.coords t 0).val = t.val / 8 % 4 := Pipeline.Grid.coords_val t 0 (by decide) rfl
theorem coords0_1 (t : Fin cfg0.N) : (grid0.coords t 1).val = t.val / 1 % 8 := Pipeline.Grid.coords_val t 1 (by decide) rfl

theorem arr_proj (c : Dev nD) : (dat0 V c).arrAt 2 cfg0.N = projOf (V c main_v7) (V c main_v8) := by
  refine (dat0 V c).arrAt_eq_of_cover 2 _ (fun t _ => ?_) fun i => ?_
  · have h := block_proj V c t
    show (cfg0.win 2).cut (cfg0.grid.coords t) ((dat0 V c).after 2 t) = _
    rw [after0_2]
    revert h
    generalize out0_2 (F := Ideal) (iblk0 V c 0 t) (iblk0 V c 1 t) = v
    intro h
    refine funext fun y => ?_
    obtain ⟨a, r, ch, rfl⟩ : ∃ (a : Fin 1) (r : Fin 3136) (ch : Fin 64), y = ix3 a r ch := ⟨_, _, _, eq_ix3 y⟩
    rw [Subsingleton.elim a 0]
    exact (h r ch).trans (congrArg (projOf (V c main_v7) (V c main_v8)) (emb0_2 t r ch).symm)
  · obtain ⟨b, n, ch, rfl⟩ : ∃ (b : Fin 4) (n : Fin 25088) (ch : Fin 64), i = ix3 b n ch := ⟨_, _, _, eq_ix3 i⟩
    refine ⟨pointOf0 b n, flush0_2 _, ?_⟩
    have he : (win0_2.rect (pointOf0 b n)).emb (ix3 0 ⟨n.val % 3136, Nat.mod_lt _ (by decide)⟩ ch) = (ix3 b n ch : S4x25088x64.Idx) := by
      refine (emb0_2 _ _ _).trans (congrArg₂ (fun (b : Fin 4) (n : Fin 25088) => (ix3 b n ch : S4x25088x64.Idx)) ?_ ?_)
      · apply Fin.ext
        refine (coords0_0 _).trans ?_
        show (b.val * 8 + n.val / 3136) / 8 % 4 = b.val
        omega
      · apply Fin.ext
        show (grid0.coords (pointOf0 b n) 1).val * 3136 + n.val % 3136 = n.val
        rw [coords0_1]
        show (b.val * 8 + n.val / 3136) / 1 % 8 * 3136 + n.val % 3136 = n.val
        omega
    rw [← he]
    exact ((cfg0.win 2).blk (pointOf0 b n)).view.emb_mem_set _

end Cert.Kernel3Ideal.Whole
-- ==== Proof.WholeNormalise.lean ====
module

public import proofs.«01_k».proof.Proof.WholeProjection

/-!
The normalisation launch read entry by entry over the extended reals.
-/

@[expose] public section
set_option maxRecDepth 16384
noncomputable section
open Idealize.ShloMosaic Idealize.ShloMosaic.TcCoe Idealize.ShloMosaic.Tactic Idealize.SL.Sem
namespace Cert.Kernel3Ideal.Whole
open Cert.Kernel3Ideal Cert.Kernel3Ideal.Gen

theorem shift_apply (x y z : FVec Ideal S6272x1 .f32) (u v w : FVec Ideal S1x64 .f32) (r : Fin 6272) (ch : Fin 64) :
    k2_pay2 (F := Ideal) x u y v z w (ix2 r ch) = x (ix2 r 0) * u (ix2 0 ch) + y (ix2 r 0) * v (ix2 0 ch) + z (ix2 r 0) * w (ix2 0 ch) := by
  pointwise [k2_pay2]

theorem hsum_apply (x y z : FVec Ideal S6272x1 .f32) (u v w : FVec Ideal S1x64 .f32) (zs : FVec Ideal S6272x64 .f32) (r : Fin 6272) (ch : Fin 64) :
    k2_pay4 (F := Ideal) x u y v z w zs (ix2 r ch) = zs (ix2 r ch) - Ideal.ofBits .f32 0x41800000#32 * k2_pay2 (F := Ideal) x u y v z w (ix2 r ch) := by
  pointwise [k2_pay4, k2_pay3]

theorem hsq_apply (x y z : FVec Ideal S6272x1 .f32) (u v w : FVec Ideal S1x64 .f32) (zs zq : FVec Ideal S6272x64 .f32) (r : Fin 6272) (ch : Fin 64) :
    k2_pay5 (F := Ideal) x u y v z w zs zq (ix2 r ch)
      = zq (ix2 r ch) - Ideal.ofBits .f32 0x40000000#32 * k2_pay2 (F := Ideal) x u y v z w (ix2 r ch) * zs (ix2 r ch)
        + Ideal.ofBits .f32 0x41800000#32 * (k2_pay2 (F := Ideal) x u y v z w (ix2 r ch) * k2_pay2 (F := Ideal) x u y v z w (ix2 r ch)) := by
  pointwise [k2_pay5, k2_pay3]

theorem hmax_apply (s zx : FVec Ideal S6272x64 .f32) (r : Fin 6272) (ch : Fin 64) :
    k2_pay6 (F := Ideal) s zx (ix2 r ch) = zx (ix2 r ch) - s (ix2 r ch) := by
  pointwise [k2_pay6]

theorem hmin_apply (s zx : FVec Ideal S6272x64 .f32) (r : Fin 6272) (ch : Fin 64) :
    k2_pay7 (F := Ideal) s zx (ix2 r ch) = zx (ix2 r ch) - s (ix2 r ch) := by
  pointwise [k2_pay7]

/-- The rows of a segment past its last sampled point are not valid. -/
theorem valid_apply (r : Fin 6272) : k2_pay8 (ix2 r 0) = if r.val % 1568 < 1562 then 1#1 else 0#1 := by
  pointwise [k2_pay8]
  have hc : Scalar.select (Scalar.cmpi CmpIPredicate.eq 1568#32 0#32) 1#32 1568#32 = BitVec.ofNat 32 1568 := rfl
  have hm : IntOp.remsi ArithUnit.vector (BitVec.ofNat 32 r.val) (BitVec.ofNat 32 1568) = BitVec.ofNat 32 (r.val % 1568) := by
    apply BitVec.eq_of_toNat_eq
    have h : (BitVec.ofNat 32 r.val).toNat = r.val := by rw [BitVec.toNat_ofNat]; exact Nat.mod_eq_of_lt (by show _ < 4294967296; omega)
    rw [IntOp.toNat_remsi _ (by rw [h]; omega) 1568 (by decide) (by decide), h, BitVec.toNat_ofNat]
    exact (Nat.mod_eq_of_lt (by show _ < 4294967296; omega)).symm
  have hz : IntOp.cmpi CmpIPredicate.slt (BitVec.ofNat 32 (r.val % 1568)) 0#32 = 0#1 :=
    (WordCmp.cmpi_slt_ofNat_eq_zero_iff (w := 32) (a := r.val % 1568) (b := 0) (by show _ < 2147483648; omega) (by decide)).mpr (by omega)
  have hz' : Scalar.cmpi CmpIPredicate.slt (BitVec.ofNat 32 1568) 0#32 = 0#1 := by decide
  rw [hc, hm, hz, hz']
  have hx : IntOp.xori 0#1 0#1 = 0#1 := by decide
  have ha : ∀ x : BitVec 1, IntOp.andi 0#1 x = 0#1 := by decide
  rw [hx, ha]
  show IntOp.cmpi CmpIPredicate.slt (BitVec.ofNat 32 (r.val % 1568)) (BitVec.ofNat 32 1562) = _
  rw [WordCmp.cmpi_slt_ofNat (by show _ < 2147483648; omega) (by decide)]
  by_cases h : r.val % 1568 < 1562 <;> simp [h]

/-- The mean of one channel over the valid rows. -/
def meanOf (h : Fin 6272 → EReal) : EReal :=
  Ideal.div (∑ r : Fin 6272, if r.val % 1568 < 1562 then h r else 0) (Ideal.ofBits .f32 0x47C34000#32)

theorem mean_apply (hs : FVec Ideal S6272x64 .f32) (ch : Fin 64) :
    k2_pay9 (F := Ideal) hs (ix2 0 ch) = meanOf fun r => hs (ix2 r ch) := by
  pointwise [k2_pay9]
  refine congrArg (fun s => Ideal.div s _) (Finset.sum_congr rfl fun r _ => ?_)
  rw [valid_apply]
  by_cases h : r.val % 1568 < 1562
  · rw [if_pos h, if_pos h]; rfl
  · rw [if_neg h, if_neg h]; rfl

theorem var_apply (hs hq : FVec Ideal S6272x64 .f32) (ch : Fin 64) :
    k2_pay10 (F := Ideal) hs hq (ix2 0 ch)
      = k2_pay9 (F := Ideal) hq (ix2 0 ch) - k2_pay9 (F := Ideal) hs (ix2 0 ch) * k2_pay9 (F := Ideal) hs (ix2 0 ch) + Ideal.ofBits .f32 0x3727C5AC#32 := by
  have h : k2_pay9 (F := Ideal) hq (ix2 0 ch) = Ideal.div (∑ x : Fin 6272, Scalar.select (k2_pay8 (ix2 x 0)) (hq (ix2 x ch)) 0) (Ideal.ofBits FTy.f32 0x47C34000#32) := by
    pointwise [k2_pay9]
  rw [h]
  pointwise [k2_pay10]

theorem norm_apply (hmax hmin : FVec Ideal S6272x64 .f32) (mean var g b : FVec Ideal S1x64 .f32) (r : Fin 6272) (ch : Fin 64) :
    k2_pay1 (F := Ideal) hmax hmin mean var g b (ix2 r ch)
      = max (((if (0 : EReal) ≤ g (ix2 0 ch) then hmax (ix2 r ch) else hmin (ix2 r ch)) - mean (ix2 0 ch)) * Ideal.rsqrt (var (ix2 0 ch)) * g (ix2 0 ch) + b (ix2 0 ch)) 0 := by
  pointwise [k2_pay1]

/-- One channel normalised: from the sums `zs` and sums of squares `zq` of every row, the row's maximum `zx` and minimum
    `zn`, the shift `sh` of every row, scale `g` and offset `b`. -/
def normRow (zs zq zx zn sh : Fin 6272 → EReal) (g b : EReal) (r : Fin 6272) : EReal :=
  let mean := meanOf fun r => zs r - Ideal.ofBits .f32 0x41800000#32 * sh r
  let msq := meanOf fun r => zq r - Ideal.ofBits .f32 0x40000000#32 * sh r * zs r + Ideal.ofBits .f32 0x41800000#32 * (sh r * sh r)
  max (((if (0 : EReal) ≤ g then zx r - sh r else zn r - sh r) - mean) * Ideal.rsqrt (msq - mean * mean + Ideal.ofBits .f32 0x3727C5AC#32) * g + b) 0

abbrev Rows := (⟨S6272x64, .f32⟩ : BufTy).Contents (Elt Ideal)
abbrev Col := (⟨S6272x1, .f32⟩ : BufTy).Contents (Elt Ideal)
abbrev Chan := (⟨S1x64, .f32⟩ : BufTy).Contents (Elt Ideal)

/-- The result of the normalisation launch from its twelve arrays. -/
def normOf (zs zq zx zn : Rows) (x y z : Col) (u v w g b : Chan) : Rows := fun i =>
  normRow (fun r => zs (ix2 r (i 1))) (fun r => zq (ix2 r (i 1))) (fun r => zx (ix2 r (i 1))) (fun r => zn (ix2 r (i 1)))
    (fun r => x (ix2 r 0) * u (ix2 0 (i 1)) + y (ix2 r 0) * v (ix2 0 (i 1)) + z (ix2 r 0) * w (ix2 0 (i 1)))
    (g (ix2 0 (i 1))) (b (ix2 0 (i 1))) (i 0)

theorem out_apply (zs zq zx zn : FVec Ideal S6272x64 .f32) (x y z : FVec Ideal S6272x1 .f32) (u v w g b : FVec Ideal S1x64 .f32)
    (r : Fin 6272) (ch : Fin 64) :
    out2_12 (F := Ideal) zs zq zx zn x y z u v w g b (ix2 r ch) = normOf zs zq zx zn x y z u v w g b (ix2 r ch) := by
  unfold out2_12 k2_pay12 k2_pay11
  rw [View.canon_cons_unit_lit _ _ _ (by decide)]
  repeat rw [View.ld_unit_lit _ _ (by decide)]
  rw [norm_apply, var_apply, mean_apply, mean_apply, hmax_apply, hmin_apply]
  simp only [hsum_apply, hsq_apply, shift_apply]
  rfl

section Launch
variable (V : (c : Dev nD) → (b : Ref sig .tc) → Buf (Elt Ideal) ((c : Thread nD τ).loc b))

theorem emb2_0 (t : Fin cfg2.N) (r : Fin 6272) (ch : Fin 64) : (win2_0.rect t).emb (ix2 r ch) = (ix2 r ch : S6272x64.Idx) := by
  funext a
  apply Fin.ext
  rw [Pipeline.Window.rect_emb_val (hk := rfl)]
  fin_cases a
  · show 0 * 6272 + r.val = r.val; omega
  · show 0 * 64 + ch.val = ch.val; omega
theorem emb2_4 (t : Fin cfg2.N) (r : Fin 6272) : (win2_4.rect t).emb (ix2 r 0) = (ix2 r 0 : S6272x1.Idx) := by
  funext a
  apply Fin.ext
  rw [Pipeline.Window.rect_emb_val (hk := rfl)]
  fin_cases a
  · show 0 * 6272 + r.val = r.val; omega
  · show 0 * 1 + 0 = 0; omega
theorem emb2_7 (t : Fin cfg2.N) (ch : Fin 64) : (win2_7.rect t).emb (ix2 0 ch) = (ix2 0 ch : S1x64.Idx) := by
  funext a
  apply Fin.ext
  rw [Pipeline.Window.rect_emb_val (hk := rfl)]
  fin_cases a
  · show 0 * 1 + 0 = 0; omega
  · show 0 * 64 + ch.val = ch.val; omega

/-- The launch has one point, whose blocks are the whole arrays. -/
theorem rows_whole (A : Rows) (t : Fin cfg2.N) : (win2_0.blk t).view.read (Elt Ideal) A = A := by
  funext i
  obtain ⟨r, ch, rfl⟩ : ∃ (r : Fin 6272) (ch : Fin 64), i = ix2 r ch := ⟨_, _, eq_ix2 i⟩
  exact congrArg A (emb2_0 t r ch)
theorem col_whole (A : Col) (t : Fin cfg2.N) : (win2_4.blk t).view.read (Elt Ideal) A = A := by
  funext i
  obtain ⟨r, a, rfl⟩ : ∃ (r : Fin 6272) (a : Fin 1), i = ix2 r a := ⟨_, _, eq_ix2 i⟩
  rw [Subsingleton.elim a 0]
  exact congrArg A (emb2_4 t r)
theorem chan_whole (A : Chan) (t : Fin cfg2.N) : (win2_7.blk t).view.read (Elt Ideal) A = A := by
  funext i
  obtain ⟨a, ch, rfl⟩ : ∃ (a : Fin 1) (ch : Fin 64), i = ix2 a ch := ⟨_, _, eq_ix2 i⟩
  rw [Subsingleton.elim a 0]
  exact congrArg A (emb2_7 t ch)

theorem block_norm (c : Dev nD) (t : Fin cfg2.N) (r : Fin 6272) (ch : Fin 64) :
    out2_12 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (ix2 r ch)
      = normOf (V c main_v12) (V c main_v13) (V c main_v14) (V c main_v15) (V c main_v16) (V c main_v17) (V c main_v18)
          (V c main_v21) (V c main_v24) (V c main_v27) (V c main_v28) (V c main_v29) (ix2 r ch) := by
  have h0 : iblk2 V c 0 t = V c main_v12 := rows_whole (V c main_v12) t
  have h1 : iblk2 V c 1 t = V c main_v13 := rows_whole (V c main_v13) t
  have h2 : iblk2 V c 2 t = V c main_v14 := rows_whole (V c main_v14) t
  have h3 : iblk2 V c 3 t = V c main_v15 := rows_whole (V c main_v15) t
  have h4 : iblk2 V c 4 t = V c main_v16 := col_whole (V c main_v16) t
  have h5 : iblk2 V c 5 t = V c main_v17 := col_whole (V c main_v17) t
  have h6 : iblk2 V c 6 t = V c main_v18 := col_whole (V c main_v18) t
  have h7 : iblk2 V c 7 t = V c main_v21 := chan_whole (V c main_v21) t
  have h8 : iblk2 V c 8 t = V c main_v24 := chan_whole (V c main_v24) t
  have h9 : iblk2 V c 9 t = V c main_v27 := chan_whole (V c main_v27) t
  have h10 : iblk2 V c 10 t = V c main_v28 := chan_whole (V c main_v28) t
  have h11 : iblk2 V c 11 t = V c main_v29 := chan_whole (V c main_v29) t
  rw [h0, h1, h2, h3, h4, h5, h6, h7, h8, h9, h10, h11]
  exact out_apply _ _ _ _ _ _ _ _ _ _ _ _ r ch

theorem arr_norm (c : Dev nD) : (dat2 V c).arrAt 12 cfg2.N
    = normOf (V c main_v12) (V c main_v13) (V c main_v14) (V c main_v15) (V c main_v16) (V c main_v17) (V c main_v18)
          (V c main_v21) (V c main_v24) (V c main_v27) (V c main_v28) (V c main_v29) := by
  refine (dat2 V c).arrAt_eq_of_cover 12 _ (fun t _ => ?_) fun i => ?_
  · have h := block_norm V c t
    show (cfg2.win 12).cut (cfg2.grid.coords t) ((dat2 V c).after 12 t) = _
    rw [after2_12]
    revert h
    generalize out2_12 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) = o
    generalize normOf (V c main_v12) (V c main_v13) (V c main_v14) (V c main_v15) (V c main_v16) (V c main_v17) (V c main_v18)
          (V c main_v21) (V c main_v24) (V c main_v27) (V c main_v28) (V c main_v29) = G
    intro h
    refine funext fun y => ?_
    obtain ⟨r, ch, rfl⟩ : ∃ (r : Fin 6272) (ch : Fin 64), y = ix2 r ch := ⟨_, _, eq_ix2 y⟩
    exact (h r ch).trans (congrArg G (emb2_0 t r ch).symm)
  · obtain ⟨r, ch, rfl⟩ : ∃ (r : Fin 6272) (ch : Fin 64), i = ix2 r ch := ⟨_, _, eq_ix2 i⟩
    refine ⟨t2_0, flush2_12 _, ?_⟩
    have h := ((cfg2.win 12).blk t2_0).view.emb_mem_set (ix2 r ch : S6272x64.Idx)
    exact (emb2_0 t2_0 r ch) ▸ h
end Launch

end Cert.Kernel3Ideal.Whole
-- ==== Proof.WholeFrame.lean ====
module

public import proofs.«01_k».proof.Proof.WholeBody

@[expose] public section

set_option maxRecDepth 16384

noncomputable section

namespace Cert.Kernel3Ideal.Whole

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame of the program with the three launches, part two: the contents of the arrays at each boundary between host
operations and launches, and the run. The one hypothesis `hH`: when the gather is entered, each word of each neighbour block
addresses a row of the projected table. -/

variable (m : (ℓ : Loc nD τ sig) → Buf (Elt F) ℓ) (ρ : Dev nD → PrngReg)

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v3]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v4, main_v5, main_v6, main_v7, main_v8]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v10]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v12, main_v13, main_v14, main_v15, main_v16, main_v17, main_v18, main_v19, main_v20, main_v21, main_v22, main_v23, main_v24, main_v25, main_v26, main_v27, main_v28, main_v29]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v31, main_v32, main_v33]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
abbrev V7 : (c : Dev nD) → (b : Ref sig .tc) → Buf (Elt F) ((c : Thread nD τ).loc b) := fun c b => W7 m ρ c b
variable (hH : ∀ (c : Dev nD) (t : Fin cfg1.N) (j : S1x1x8x16.Idx), k1_chk1 (iblk1 (V7 m ρ) c 0 t j : BitVec 32))

def W8 (c : Dev nD) : Valuation τ sig (Elt F) :=
  Pipeline.withArrays spec1 c (W7 m ρ c) fun w => (dat1 (V7 m ρ) hH c).arrAt w cfg1.N
theorem W8_arr (c : Dev nD) (w : Fin cfg1.W) :
    W8 m ρ hH c (Proc.devRef .tc (Pipeline.arrRef spec1 w)) = (dat1 (V7 m ρ) hH c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ hH c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ hH c (Proc.devRef .tc r) = W7 m ρ c (Proc.devRef .tc r) := by
  by_cases hw : ∃ w : Fin cfg1.W, Pipeline.arrRef spec1 w = r
  · obtain ⟨w, rfl⟩ := hw
    exact (W8_arr m ρ hH c w).trans (((dat1 (V7 m ρ) hH c).arrAt_in w (h w rfl) _).trans (A_eq1 (V7 m ρ) hH c w))
  · exact W8_of_ne m ρ hH c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ hH c (Proc.devRef .tc a) = m ((c : Thread nD τ).loc a) :=
  fun a ha => (W8_of m ρ hH c a (argsIn1 a ha)).trans (W7_args m ρ c a ha)
abbrev V8 : (c : Dev nD) → (b : Ref sig .tc) → Buf (Elt F) ((c : Thread nD τ).loc b) := fun c b => W8 m ρ hH c b
theorem hF1 (c : Dev nD) (w : Fin cfg1.W) : (dat1 (V7 m ρ) hH c).arrAt w cfg1.N = V8 m ρ hH c (Pipeline.arrRef spec1 w) :=
  (W8_arr m ρ hH c w).symm
theorem hrest1 (c : Dev nD) : ∀ b, b ∉ Finset.univ.image (Pipeline.arrRef spec1) → V8 m ρ hH c b = V7 m ρ c b :=
  fun b hb => W8_of_ne m ρ hH c b fun w e => hb (Finset.mem_image.mpr ⟨w, Finset.mem_univ _, e⟩)

abbrev W9 : Dev nD → Valuation τ sig (Elt F) := fun c => StableHlo.after hostOps2 (W8 m ρ hH c)
theorem W9_of (c : Dev nD) (r : Ref sig .tc) (h : r ∉ hostOps2_W) : W9 m ρ hH c (Proc.devRef .tc r) = W8 m ρ hH c (Proc.devRef .tc r) :=
  StableHlo.after_of_writes_sub hostOps2 _ hostOps2_writes h
theorem W9_args (c : Dev nD) : ∀ a ∈ argRefs, W9 m ρ hH c (Proc.devRef .tc a) = m ((c : Thread nD τ).loc a) :=
  fun a ha => (W9_of m ρ hH c a (hostOps2_args a ha)).trans (W8_args m ρ hH c a ha)
abbrev V9 : (c : Dev nD) → (b : Ref sig .tc) → Buf (Elt F) ((c : Thread nD τ).loc b) := fun c b => W9 m ρ hH c b
def W10 (c : Dev nD) : Valuation τ sig (Elt F) :=
  Pipeline.withArrays spec2 c (W9 m ρ hH c) fun w => (dat2 (V9 m ρ hH) c).arrAt w cfg2.N
theorem W10_arr (c : Dev nD) (w : Fin cfg2.W) :
    W10 m ρ hH c (Proc.devRef .tc (Pipeline.arrRef spec2 w)) = (dat2 (V9 m ρ hH) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ hH c (Proc.devRef .tc b) = W9 m ρ hH c (Proc.devRef .tc b) := by
  unfold W10; exact Pipeline.withArrays_of_ne spec2 c _ _ b hb
theorem W10_of (c : Dev nD) (r : Ref sig .tc) (h : ∀ w : Fin cfg2.W, Pipeline.arrRef spec2 w = r → (cfg2.win w).isOut = false) :
    W10 m ρ hH c (Proc.devRef .tc r) = W9 m ρ hH c (Proc.devRef .tc r) := by
  by_cases hw : ∃ w : Fin cfg2.W, Pipeline.arrRef spec2 w = r
  · obtain ⟨w, rfl⟩ := hw
    exact (W10_arr m ρ hH c w).trans (((dat2 (V9 m ρ hH) c).arrAt_in w (h w rfl) _).trans (A_eq2 (V9 m ρ hH) c w))
  · exact W10_of_ne m ρ hH c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ hH c (Proc.devRef .tc a) = m ((c : Thread nD τ).loc a) :=
  fun a ha => (W10_of m ρ hH c a (argsIn2 a ha)).trans (W9_args m ρ hH c a ha)
abbrev V10 : (c : Dev nD) → (b : Ref sig .tc) → Buf (Elt F) ((c : Thread nD τ).loc b) := fun c b => W10 m ρ hH c b
theorem hF2 (c : Dev nD) (w : Fin cfg2.W) : (dat2 (V9 m ρ hH) c).arrAt w cfg2.N = V10 m ρ hH c (Pipeline.arrRef spec2 w) :=
  (W10_arr m ρ hH c w).symm
theorem hrest2 (c : Dev nD) : ∀ b, b ∉ Finset.univ.image (Pipeline.arrRef spec2) → V10 m ρ hH c b = V9 m ρ hH c b :=
  fun b hb => W10_of_ne m ρ hH c b fun w e => hb (Finset.mem_image.mpr ⟨w, Finset.mem_univ _, e⟩)

abbrev W11 : Dev nD → Valuation τ sig (Elt F) := fun c => StableHlo.after hostOps3 (W10 m ρ hH c)
theorem W11_of (c : Dev nD) (r : Ref sig .tc) (h : r ∉ hostOps3_W) : W11 m ρ hH c (Proc.devRef .tc r) = W10 m ρ hH c (Proc.devRef .tc r) :=
  StableHlo.after_of_writes_sub hostOps3 _ hostOps3_writes h
theorem W11_args (c : Dev nD) : ∀ a ∈ argRefs, W11 m ρ hH c (Proc.devRef .tc a) = m ((c : Thread nD τ).loc a) :=
  fun a ha => (W11_of m ρ hH c a (hostOps3_args a ha)).trans (W10_args m ρ hH c a ha)

theorem W11_main_arg0 (c : Dev nD) : W11 m ρ hH c (Proc.devRef .tc main_arg0) = m ((c : Thread nD τ).loc main_arg0) :=
  W11_args m ρ hH c main_arg0 (by decide)
theorem W11_main_arg1 (c : Dev nD) : W11 m ρ hH c (Proc.devRef .tc main_arg1) = m ((c : Thread nD τ).loc main_arg1) :=
  W11_args m ρ hH c main_arg1 (by decide)
theorem W11_main_arg2 (c : Dev nD) : W11 m ρ hH c (Proc.devRef .tc main_arg2) = m ((c : Thread nD τ).loc main_arg2) :=
  W11_args m ρ hH c main_arg2 (by decide)
theorem W11_main_arg3 (c : Dev nD) : W11 m ρ hH c (Proc.devRef .tc main_arg3) = m ((c : Thread nD τ).loc main_arg3) :=
  W11_args m ρ hH c main_arg3 (by decide)
theorem W11_main_arg4 (c : Dev nD) : W11 m ρ hH c (Proc.devRef .tc main_arg4) = m ((c : Thread nD τ).loc main_arg4) :=
  W11_args m ρ hH c main_arg4 (by decide)
theorem W11_main_arg5 (c : Dev nD) : W11 m ρ hH c (Proc.devRef .tc main_arg5) = m ((c : Thread nD τ).loc main_arg5) :=
  W11_args m ρ hH c main_arg5 (by decide)
theorem W11_main_arg6 (c : Dev nD) : W11 m ρ hH c (Proc.devRef .tc main_arg6) = m ((c : Thread nD τ).loc main_arg6) :=
  W11_args m ρ hH c main_arg6 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) hH c
  | ⟨2, _⟩ => fun c => dat2 (V9 m ρ hH) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ hH c) ∗ ∃ r, prngReg c r)
set_option backward.isDefEq.respectTransparency.types false in
def reg0 : Pipeline.RegionSeg (pcfgs (F := F)) adm (pdats m ρ hH) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ hH) launch0.win launch0.arr_whole c
      ((pdats m ρ hH 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ hH) ((pdats m ρ hH 0 c).share_full fun _ => rfl)
      (V5 m ρ c) (V6 m ρ c) ((pdats m ρ hH 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ hH) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) hH c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ hH c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ hH) launch1.win launch1.arr_whole c
      ((pdats m ρ hH 1 c).share_full fun _ => rfl) (V7 m ρ c) (A_eq1 (V7 m ρ) hH c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hH 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ hH) ((pdats m ρ hH 1 c).share_full fun _ => rfl)
      (V7 m ρ c) (V8 m ρ hH c) ((pdats m ρ hH 1 c).arrAt · cfg1.N) (hF1 m ρ hH c) (hrest1 m ρ hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ hH) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ hH) c).loose
  hwaits := Pipeline.hwaits_of_owed_zero _ _ _ _ L lv 2 fun _ _ => rfl
  pre c := iprop(StableHlo.held (c : Thread nD τ) (Pipeline.ucRefs τ sig) (W9 m ρ hH c) ∗ R c)
  post c := iprop(StableHlo.held (c : Thread nD τ) (Pipeline.ucRefs τ sig) (W10 m ρ hH c) ∗ R c)
  X c := iprop(∃ r, prngReg c r)
  Y c := iprop(∃ r, prngReg c r)
  Z c := Pipeline.unscopedRest (Ix := Unit) (Name := ℕ) (U := UR sig nD τ) (Lvl := ℕ) spec2 c (V9 m ρ hH c)
  hentry c := by
    rw [Pipeline.ownSems0_none]
    have hsplit := Pipeline.arrays_of_unscopedBufs (p := 2) (pcfgs (F := F)) adm (pdats m ρ hH) launch2.win launch2.arr_whole c
      ((pdats m ρ hH 2 c).share_full fun _ => rfl) (V9 m ρ hH c) (A_eq2 (V9 m ρ hH) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hH 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ hH) ((pdats m ρ hH 2 c).share_full fun _ => rfl)
      (V9 m ρ hH c) (V10 m ρ hH c) ((pdats m ρ hH 2 c).arrAt · cfg2.N) (hF2 m ρ hH c) (hrest2 m ρ hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ hH) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ hH),
    .host (hseg hostOps1 hostOps1_sub hostOps1_fresh (W6 m ρ)),
    .region (reg1 m ρ hH),
    .host (hseg hostOps2 hostOps2_sub hostOps2_fresh (W8 m ρ hH)),
    .region (reg2 m ρ hH),
    .host (hseg hostOps3 hostOps3_sub hostOps3_fresh (W10 m ρ hH)) ]
theorem main_run (c : Dev nD) : main (F := F) c = Pipeline.Seg.run (segs m ρ hH) := (main_chain c).trans (by chain_rfl)

theorem no_unscoped : ∀ sm : SemLoc sig, sm.isScoped .tc = true := by decide
include hH in
set_option backward.isDefEq.respectTransparency.types false in
/-- The run: it ends, with no semaphore counter left, and every array the program keeps holds the last boundary's contents. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ hH c b) ∧ r.2.sem = fun _ => 0) :=
  Pipeline.θ_run_regions_kit_sems (pcfgs (F := F)) adm (pdats m ρ hH) () cellOf_inj emb₁ defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ hH c) s')
      isplitl [Hh] <;> iassumption)
    (hQ := fun s h hz => ⟨h, funext fun g => hz g (.inr (no_unscoped g.2))⟩)

include hH in
/-- The arguments end as they were launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s ⟨h, hz⟩ => ⟨(fun c =>
      ⟨(h c _ (mem_uc main_arg0 (by decide))).trans (W11_main_arg0 m ρ hH c),
       (h c _ (mem_uc main_arg1 (by decide))).trans (W11_main_arg1 m ρ hH c),
       (h c _ (mem_uc main_arg2 (by decide))).trans (W11_main_arg2 m ρ hH c),
       (h c _ (mem_uc main_arg3 (by decide))).trans (W11_main_arg3 m ρ hH c),
       (h c _ (mem_uc main_arg4 (by decide))).trans (W11_main_arg4 m ρ hH c),
       (h c _ (mem_uc main_arg5 (by decide))).trans (W11_main_arg5 m ρ hH c),
       (h c _ (mem_uc main_arg6 (by decide))).trans (W11_main_arg6 m ρ hH c)⟩), hz⟩) (run m ρ hH)

end Cert.Kernel3Ideal.Whole

end
-- ==== Proof.WholeHost.lean ====
module

public import proofs.«01_k».proof.Proof.WholeNormalise
public import proofs.«01_k».proof.Proof.WholeFrame

/-!
The host operations around the three launches read entry by entry, and the whole program's result from its arguments.
-/

@[expose] public section
set_option maxRecDepth 16384
noncomputable section
open Idealize.ShloMosaic Idealize.ShloMosaic.TcCoe Idealize.ShloMosaic.Tactic Idealize.ShloMosaic.StableHlo Idealize.SL.Sem
namespace Cert.Kernel3Ideal.Whole
open Cert.Kernel3Ideal Cert.Kernel3Ideal.Gen

section Words
variable {F : FTy → Type} [FloatOps F]
variable (m : (ℓ : Loc nD τ sig) → Buf (Elt F) ℓ) (ρ : Dev nD → PrngReg)

theorem words_read (W : Valuation τ sig (Elt F)) : after hostOps1 W (no_index (Proc.devRef .tc main_v10))
    = (shapeCast S4x196x8x16 (W (Proc.devRef .tc main_arg6)) shapeCasts_S4x1568x16_S4x196x8x16 : (⟨S4x196x8x16, .i32⟩ : BufTy).Contents (Elt F)) := by
  after_results
  rfl

/-- The neighbours as the gather launch reads them: eight points to a group. -/
theorem words_apply (k : (⟨S4x1568x16, .i32⟩ : BufTy).Contents (Elt F)) (b : Fin 4) (g : Fin 196) (q : Fin 8) (s : Fin 16) :
    (shapeCast S4x196x8x16 k shapeCasts_S4x1568x16_S4x196x8x16 : (⟨S4x196x8x16, .i32⟩ : BufTy).Contents (Elt F)) (ix4 b g q s)
      = k (ix3 b ⟨g.val * 8 + q.val, by omega⟩ s) := by
  pointwise []

/-- A word in range passes the gather's check. -/
theorem check_of_range {w : BitVec 32} (h0 : 0 ≤ w.toInt) (h1 : w.toInt < 25000) : k1_chk1 w := by
  have hn : w.toNat < 25000 := by rw [BitVec.toInt_eq_toNat_cond] at h0 h1; split at h0 <;> rename_i h <;> simp only [h, if_true, if_false] at h1 <;> omega
  intro a
  fin_cases a
  · exact Nat.le_refl 1
  · show w.toNat + 1 ≤ 25088; omega
  · exact Nat.le_refl 64

/-- Neighbours in range pass the check of every gather. -/
theorem checked (h : ∀ (c : Dev nD) i, 0 ≤ (m ((c : Thread nD τ).loc main_arg6) i : BitVec 32).toInt ∧ (m ((c : Thread nD τ).loc main_arg6) i : BitVec 32).toInt < 25000)
    (c : Dev nD) (t : Fin cfg1.N) (j : S1x1x8x16.Idx) : k1_chk1 (iblk1 (V7 m ρ) c 0 t j : BitVec 32) := by
  have hread : V7 m ρ c main_v10 = _ := words_read (W6 m ρ c)
  have ha : W6 m ρ c (Proc.devRef .tc main_arg6) = m ((c : Thread nD τ).loc main_arg6) := W6_args m ρ c main_arg6 (by decide)
  have hw : (iblk1 (V7 m ρ) c 0 t j : BitVec 32) = V7 m ρ c main_v10 ((win1_0.rect t).emb j) := rfl
  rw [hw, hread, ha]
  generalize (win1_0.rect t).emb j = i
  obtain ⟨b, g, q, s, rfl⟩ : ∃ (b : Fin 4) (g : Fin 196) (q : Fin 8) (s : Fin 16), i = ix4 b g q s := ⟨_, _, _, _, eq_ix4 i⟩
  rw [words_apply]
  obtain ⟨h0, h1⟩ := h c (ix3 b ⟨g.val * 8 + q.val, by omega⟩ s)
  revert h0 h1
  generalize (m ((c : Thread nD τ).loc main_arg6) (ix3 b ⟨g.val * 8 + q.val, by omega⟩ s) : BitVec 32) = w
  intro h0 h1
  exact check_of_range h0 h1
end Words

abbrev Points := (⟨S100000x3, .f32⟩ : BufTy).Contents (Elt Ideal)
abbrev Feats := (⟨S100000x32, .f32⟩ : BufTy).Contents (Elt Ideal)
abbrev Weights := (⟨S64x35, .f32⟩ : BufTy).Contents (Elt Ideal)
abbrev Scale := (⟨S64, .f32⟩ : BufTy).Contents (Elt Ideal)
abbrev Samples := (⟨S4x1568x3, .f32⟩ : BufTy).Contents (Elt Ideal)
abbrev Near := (⟨S4x1568x16, .i32⟩ : BufTy).Contents (Elt Ideal)

/-- The segment of a padded row, and the row's place in it. -/
def segment (r : Fin 6272) : Fin 4 := ⟨r.val / 1568, by omega⟩
def place (r : Fin 6272) : Fin 1568 := ⟨r.val % 1568, by omega⟩
/-- The padded row of a result's row. -/
def paddedRow (j : Fin 6248) : Fin 6272 := ⟨j.val / 1562 * 1568 + j.val % 1562, by omega⟩

/-- The features of point `n` of segment `b`: its three coordinates and its 32 features. -/
def feature (p : Points) (x : Feats) (b : Fin 4) (n : Fin 25000) (k : Fin 35) : EReal :=
  if h : k.val < 3 then p (ix2 ⟨b.val * 25000 + n.val, by omega⟩ ⟨k.val, h⟩)
  else x (ix2 ⟨b.val * 25000 + n.val, by omega⟩ ⟨k.val - 3, by omega⟩)
/-- Neighbour `s` of a sample. -/
def near (k : Near) (b : Fin 4) (q : Fin 1568) (s : Fin 16) : Fin 25000 :=
  ⟨(k (ix3 b q s) : BitVec 32).toNat % 25000, Nat.mod_lt _ (by decide)⟩
/-- The projected features of every neighbour of a row, in one channel. -/
def gathered (p : Points) (x : Feats) (w : Weights) (k : Near) (ch : Fin 64) (r : Fin 6272) (s : Fin 16) : EReal :=
  ∑ a : Fin 35, feature p x (segment r) (near k (segment r) (place r) s) a * w (ix2 ch a)
/-- A row's sample projected, in one channel. -/
def shift (n : Samples) (w : Weights) (ch : Fin 64) (r : Fin 6272) : EReal :=
  n (ix3 (segment r) (place r) 0) * w (ix2 ch 0) + n (ix3 (segment r) (place r) 1) * w (ix2 ch 1) + n (ix3 (segment r) (place r) 2) * w (ix2 ch 2)

section Before
variable (W : Valuation τ sig (Elt Ideal))

/-- The points and features side by side, padded by 88 zero rows per segment. -/
def features (p : Points) (x : Feats) : (⟨S4x25088x35, .f32⟩ : BufTy).Contents (Elt Ideal) :=
  concatenate S4x25088x35 2
    [⟨S4x25088x3, pad S4x25088x3 ![0, 0, 0] ![0, 88, 0] ![0, 0, 0] (shapeCast S4x25000x3 p shapeCasts_S100000x3_S4x25000x3) (sitofp (F := Ideal) .f32 (constantI S_ 32 0#32)) pads_S4x25000x3_S4x25088x3_000_0880_000 h_S_⟩,
     ⟨S4x25088x32, pad S4x25088x32 ![0, 0, 0] ![0, 88, 0] ![0, 0, 0] (shapeCast S4x25000x32 x shapeCasts_S100000x32_S4x25000x32) (sitofp (F := Ideal) .f32 (constantI S_ 32 0#32)) pads_S4x25000x32_S4x25088x32_000_0880_000 h_S_⟩]
    concatenates_S4x25088x3_S4x25088x32_S4x25088x35_d2

/-- The host operations before the first launch. -/
abbrev before : List (HloOp τ sig (Elt Ideal)) := List.flatten [hostOps0, hostOps0_1, hostOps0_2, hostOps0_3, hostOps0_4]

set_option maxHeartbeats 1000000 in
theorem pre_v7 : after before W (no_index (Proc.devRef .tc main_v7)) = features (W (Proc.devRef .tc main_arg0)) (W (Proc.devRef .tc main_arg1)) := by
  simp only [before, List.flatten_cons, List.flatten_nil, List.append_nil, List.cons_append, List.nil_append]
  after_results
  rfl

set_option maxHeartbeats 1000000 in
theorem pre_v8 : after before W (no_index (Proc.devRef .tc main_v8))
    = (transpose S35x64 [1, 0] (W (Proc.devRef .tc main_arg2) : Weights) transposes_S64x35_S35x64_1_0 : (⟨S35x64, .f32⟩ : BufTy).Contents (Elt Ideal)) := by
  simp only [before, List.flatten_cons, List.flatten_nil, List.append_nil, List.cons_append, List.nil_append]
  after_results

set_option maxHeartbeats 1000000 in
theorem pre_v4 : after before W (no_index (Proc.devRef .tc main_v4))
    = (extractStridedSlice S4x1568x1 ![0, 0, 0] (W (Proc.devRef .tc main_arg5) : Samples) slices_S4x1568x3_S4x1568x1_0_0_0 : (⟨S4x1568x1, .f32⟩ : BufTy).Contents (Elt Ideal)) := by
  simp only [before, List.flatten_cons, List.flatten_nil, List.append_nil, List.cons_append, List.nil_append]
  after_results

set_option maxHeartbeats 1000000 in
theorem pre_v5 : after before W (no_index (Proc.devRef .tc main_v5))
    = (extractStridedSlice S4x1568x1 ![0, 0, 1] (W (Proc.devRef .tc main_arg5) : Samples) slices_S4x1568x3_S4x1568x1_0_0_1 : (⟨S4x1568x1, .f32⟩ : BufTy).Contents (Elt Ideal)) := by
  simp only [before, List.flatten_cons, List.flatten_nil, List.append_nil, List.cons_append, List.nil_append]
  after_results

set_option maxHeartbeats 1000000 in
theorem pre_v6 : after before W (no_index (Proc.devRef .tc main_v6))
    = (extractStridedSlice S4x1568x1 ![0, 0, 2] (W (Proc.devRef .tc main_arg5) : Samples) slices_S4x1568x3_S4x1568x1_0_0_2 : (⟨S4x1568x1, .f32⟩ : BufTy).Contents (Elt Ideal)) := by
  simp only [before, List.flatten_cons, List.flatten_nil, List.append_nil, List.cons_append, List.nil_append]
  after_results

theorem features_apply (p : Points) (x : Feats) (b : Fin 4) (n : Fin 25088) (hn : n.val < 25000) (k : Fin 35) :
    features p x (ix3 b n k) = feature p x b ⟨n.val, hn⟩ k := by
  unfold feature
  pointwise [features]
  by_cases h : k.val < 3
  · rw [dif_pos h, dif_pos h, dif_pos ⟨hn, h⟩]
  · rw [dif_neg h, dif_neg h, dif_pos ⟨hn, by omega⟩]

theorem weights_apply (w : Weights) (k : Fin 35) (ch : Fin 64) :
    (transpose S35x64 [1, 0] w transposes_S64x35_S35x64_1_0 : (⟨S35x64, .f32⟩ : BufTy).Contents (Elt Ideal)) (ix2 k ch) = w (ix2 ch k) := by
  pointwise []

/-- The samples' coordinates, one to a row. -/
theorem column_apply (n : Samples) (r : Fin 6272) :
    (shapeCast S6272x1 (extractStridedSlice S4x1568x1 ![0, 0, 0] n slices_S4x1568x3_S4x1568x1_0_0_0) shapeCasts_S4x1568x1_S6272x1 : Col) (ix2 r 0)
      = n (ix3 (segment r) (place r) 0)
    ∧ (shapeCast S6272x1 (extractStridedSlice S4x1568x1 ![0, 0, 1] n slices_S4x1568x3_S4x1568x1_0_0_1) shapeCasts_S4x1568x1_S6272x1 : Col) (ix2 r 0)
      = n (ix3 (segment r) (place r) 1)
    ∧ (shapeCast S6272x1 (extractStridedSlice S4x1568x1 ![0, 0, 2] n slices_S4x1568x3_S4x1568x1_0_0_2) shapeCasts_S4x1568x1_S6272x1 : Col) (ix2 r 0)
      = n (ix3 (segment r) (place r) 2) := by
  refine ⟨?_, ?_, ?_⟩ <;> pointwise [segment, place]

/-- The weights of the three coordinates, one to a channel. -/
theorem weight_apply (w : Weights) (ch : Fin 64) :
    (shapeCast S1x64 (shapeCast S64 (extractStridedSlice S64x1 ![0, 0] w slices_S64x35_S64x1_0_0) shapeCasts_S64x1_S64) shapeCasts_S64_S1x64 : Chan) (ix2 0 ch)
      = w (ix2 ch 0)
    ∧ (shapeCast S1x64 (shapeCast S64 (extractStridedSlice S64x1 ![0, 1] w slices_S64x35_S64x1_0_1) shapeCasts_S64x1_S64) shapeCasts_S64_S1x64 : Chan) (ix2 0 ch)
      = w (ix2 ch 1)
    ∧ (shapeCast S1x64 (shapeCast S64 (extractStridedSlice S64x1 ![0, 2] w slices_S64x35_S64x1_0_2) shapeCasts_S64x1_S64) shapeCasts_S64_S1x64 : Chan) (ix2 0 ch)
      = w (ix2 ch 2) := by
  refine ⟨?_, ?_, ?_⟩ <;> pointwise []

theorem scale_apply (g : Scale) (ch : Fin 64) : (shapeCast S1x64 g shapeCasts_S64_S1x64 : Chan) (ix2 0 ch) = g (ix1 ch) := by
  pointwise []

theorem stat_rows (v : (⟨S4x196x8x64, .f32⟩ : BufTy).Contents (Elt Ideal)) (r : Fin 6272) (ch : Fin 64) :
    (shapeCast S6272x64 v shapeCasts_S4x196x8x64_S6272x64 : Rows) (ix2 r ch)
      = v (ix4 ⟨r.val / 1568, by omega⟩ ⟨r.val / 8 % 196, by omega⟩ ⟨r.val % 8, by omega⟩ ch) := by
  pointwise []

/-- The result: the first 1562 rows of every segment. -/
def resultOf (v : Rows) : (⟨S6248x64, .f32⟩ : BufTy).Contents (Elt Ideal) :=
  shapeCast S6248x64 (extractStridedSlice S4x1562x64 ![0, 0, 0] (shapeCast S4x1568x64 v shapeCasts_S6272x64_S4x1568x64) slices_S4x1568x64_S4x1562x64_0_0_0)
    shapeCasts_S4x1562x64_S6248x64

theorem result_apply (v : Rows) (j : Fin 6248) (ch : Fin 64) :
    resultOf v (ix2 j ch) = v (ix2 (paddedRow j) ch) := by
  pointwise [resultOf, paddedRow]

theorem post_v33 : after hostOps3 W (no_index (Proc.devRef .tc main_v33)) = resultOf (W (Proc.devRef .tc main_v30)) := by
  after_results
  rfl
set_option maxHeartbeats 4000000 in
/-- The twelve arrays of the normalisation launch, read from the arrays before it. -/
theorem mid_reads :
     after hostOps2 W (no_index (Proc.devRef .tc main_v12)) = (shapeCast S6272x64 (W (Proc.devRef .tc main_v11_0)) shapeCasts_S4x196x8x64_S6272x64 : Rows)
    ∧ after hostOps2 W (no_index (Proc.devRef .tc main_v13)) = (shapeCast S6272x64 (W (Proc.devRef .tc main_v11_1)) shapeCasts_S4x196x8x64_S6272x64 : Rows)
    ∧ after hostOps2 W (no_index (Proc.devRef .tc main_v14)) = (shapeCast S6272x64 (W (Proc.devRef .tc main_v11_2)) shapeCasts_S4x196x8x64_S6272x64 : Rows)
    ∧ after hostOps2 W (no_index (Proc.devRef .tc main_v15)) = (shapeCast S6272x64 (W (Proc.devRef .tc main_v11_3)) shapeCasts_S4x196x8x64_S6272x64 : Rows)
    ∧ after hostOps2 W (no_index (Proc.devRef .tc main_v16)) = (shapeCast S6272x1 (W (Proc.devRef .tc main_v4)) shapeCasts_S4x1568x1_S6272x1 : Col)
    ∧ after hostOps2 W (no_index (Proc.devRef .tc main_v17)) = (shapeCast S6272x1 (W (Proc.devRef .tc main_v5)) shapeCasts_S4x1568x1_S6272x1 : Col)
    ∧ after hostOps2 W (no_index (Proc.devRef .tc main_v18)) = (shapeCast S6272x1 (W (Proc.devRef .tc main_v6)) shapeCasts_S4x1568x1_S6272x1 : Col)
    ∧ after hostOps2 W (no_index (Proc.devRef .tc main_v21)) = (shapeCast S1x64 (shapeCast S64 (extractStridedSlice S64x1 ![0, 0] (W (Proc.devRef .tc main_arg2) : Weights) slices_S64x35_S64x1_0_0) shapeCasts_S64x1_S64) shapeCasts_S64_S1x64 : Chan)
    ∧ after hostOps2 W (no_index (Proc.devRef .tc main_v24)) = (shapeCast S1x64 (shapeCast S64 (extractStridedSlice S64x1 ![0, 1] (W (Proc.devRef .tc main_arg2) : Weights) slices_S64x35_S64x1_0_1) shapeCasts_S64x1_S64) shapeCasts_S64_S1x64 : Chan)
    ∧ after hostOps2 W (no_index (Proc.devRef .tc main_v27)) = (shapeCast S1x64 (shapeCast S64 (extractStridedSlice S64x1 ![0, 2] (W (Proc.devRef .tc main_arg2) : Weights) slices_S64x35_S64x1_0_2) shapeCasts_S64x1_S64) shapeCasts_S64_S1x64 : Chan)
    ∧ after hostOps2 W (no_index (Proc.devRef .tc main_v28)) = (shapeCast S1x64 (W (Proc.devRef .tc main_arg3)) shapeCasts_S64_S1x64 : Chan)
    ∧ after hostOps2 W (no_index (Proc.devRef .tc main_v29)) = (shapeCast S1x64 (W (Proc.devRef .tc main_arg4)) shapeCasts_S64_S1x64 : Chan) := by
  refine ⟨?_, ?_, ?_, ?_, ?_, ?_, ?_, ?_, ?_, ?_, ?_, ?_⟩
  all_goals
    after_results
    rfl

/-- A statistic's entry on a padded row, from the arguments. -/
theorem stat_value (p : Points) (x : Feats) (w : Weights) (k : Near) (hk : ∀ i, (k i : BitVec 32).toNat < 25000) (st : (Fin 16 → EReal) → EReal) (r : Fin 6272) (ch : Fin 64) :
    (shapeCast S6272x64 (statOf st (projOf (features p x) (transpose S35x64 [1, 0] w transposes_S64x35_S35x64_1_0))
        (shapeCast S4x196x8x16 k shapeCasts_S4x1568x16_S4x196x8x16)) shapeCasts_S4x196x8x64_S6272x64 : Rows) (ix2 r ch)
      = st (gathered p x w k ch r) := by
  rw [stat_rows]
  refine congrArg st (funext fun s => ?_)
  have hq : (⟨(⟨r.val / 8 % 196, by omega⟩ : Fin 196).val * 8 + (⟨r.val % 8, by omega⟩ : Fin 8).val, by dsimp only; omega⟩ : Fin 1568) = place r := by
    apply Fin.ext
    show r.val / 8 % 196 * 8 + r.val % 8 = r.val % 1568
    omega
  have hword := (words_apply (F := Ideal) k (segment r) ⟨r.val / 8 % 196, by omega⟩ ⟨r.val % 8, by omega⟩ s).trans (congrArg (fun q => k (ix3 (segment r) q s)) hq)
  have hn := hk (ix3 (segment r) (place r) s)
  refine (congrArg (fun v : BitVec 32 => zAt _ (segment r) v.toNat ch) hword).trans ?_
  unfold zAt
  rw [dif_pos (Nat.lt_trans hn (by decide))]
  refine Finset.sum_congr rfl fun a _ => ?_
  refine congrArg₂ (fun u v : EReal => u * v) ((features_apply p x (segment r) ⟨_, Nat.lt_trans hn (by decide)⟩ hn a).trans ?_) (weights_apply w a ch)
  refine congrArg (fun n => feature p x (segment r) n a) (Fin.ext ?_)
  exact (Nat.mod_eq_of_lt hn).symm
end Before

end Cert.Kernel3Ideal.Whole
-- ==== Proof.WholeResult.lean ====
module

public import proofs.«01_k».proof.Proof.WholeHost

/-!
The whole program's result, entry by entry, from its arguments.
-/

@[expose] public section
set_option maxRecDepth 16384
noncomputable section
open Idealize.ShloMosaic Idealize.ShloMosaic.TcCoe Idealize.ShloMosaic.Tactic Idealize.ShloMosaic.StableHlo Idealize.SL.Sem
namespace Cert.Kernel3Ideal.Whole
open Cert.Kernel3Ideal Cert.Kernel3Ideal.Gen

section Norm
variable (zs zq zx zn : Rows) (n : Samples) (w : Weights) (g b : Scale)

/-- The columns that the normalisation launch reads: the samples' coordinates, and the weights' first three. -/
abbrev columns : Col × Col × Col :=
  ((shapeCast S6272x1 (extractStridedSlice S4x1568x1 ![0, 0, 0] n slices_S4x1568x3_S4x1568x1_0_0_0) shapeCasts_S4x1568x1_S6272x1 : Col),
   (shapeCast S6272x1 (extractStridedSlice S4x1568x1 ![0, 0, 1] n slices_S4x1568x3_S4x1568x1_0_0_1) shapeCasts_S4x1568x1_S6272x1 : Col),
   (shapeCast S6272x1 (extractStridedSlice S4x1568x1 ![0, 0, 2] n slices_S4x1568x3_S4x1568x1_0_0_2) shapeCasts_S4x1568x1_S6272x1 : Col))
abbrev channels : Chan × Chan × Chan :=
  ((shapeCast S1x64 (shapeCast S64 (extractStridedSlice S64x1 ![0, 0] w slices_S64x35_S64x1_0_0) shapeCasts_S64x1_S64) shapeCasts_S64_S1x64 : Chan),
   (shapeCast S1x64 (shapeCast S64 (extractStridedSlice S64x1 ![0, 1] w slices_S64x35_S64x1_0_1) shapeCasts_S64x1_S64) shapeCasts_S64_S1x64 : Chan),
   (shapeCast S1x64 (shapeCast S64 (extractStridedSlice S64x1 ![0, 2] w slices_S64x35_S64x1_0_2) shapeCasts_S64x1_S64) shapeCasts_S64_S1x64 : Chan))

theorem norm_value (A B C D : Fin 6272 → EReal) (ch : Fin 64) (r : Fin 6272) (hA : ∀ r, zs (ix2 r ch) = A r) (hB : ∀ r, zq (ix2 r ch) = B r)
    (hC : ∀ r, zx (ix2 r ch) = C r) (hD : ∀ r, zn (ix2 r ch) = D r) :
    normOf zs zq zx zn (columns n).1 (columns n).2.1 (columns n).2.2 (channels w).1 (channels w).2.1 (channels w).2.2
        (shapeCast S1x64 g shapeCasts_S64_S1x64 : Chan) (shapeCast S1x64 b shapeCasts_S64_S1x64 : Chan) (ix2 r ch)
      = normRow A B C D (shift n w ch) (g (ix1 ch)) (b (ix1 ch)) r := by
  obtain ⟨w0, w1, w2⟩ := weight_apply w ch
  have hs : (fun r => (columns n).1 (ix2 r 0) * (channels w).1 (ix2 0 ch) + (columns n).2.1 (ix2 r 0) * (channels w).2.1 (ix2 0 ch)
      + (columns n).2.2 (ix2 r 0) * (channels w).2.2 (ix2 0 ch)) = shift n w ch := by
    funext r
    obtain ⟨n0, n1, n2⟩ := column_apply n r
    exact congrArg₂ (fun a b : EReal => a + b) (congrArg₂ (fun a b : EReal => a + b) (congrArg₂ (fun a b : EReal => a * b) n0 w0)
      (congrArg₂ (fun a b : EReal => a * b) n1 w1)) (congrArg₂ (fun a b : EReal => a * b) n2 w2)
  revert hs
  generalize columns n = co, channels w = cn
  intro hs
  exact congrFun (congr (congr (congr (congr (congr (congr (congrArg normRow (funext hA)) (funext hB)) (funext hC)) (funext hD)) hs)
    (scale_apply g ch)) (scale_apply b ch)) r
end Norm

section Result
variable (m : (ℓ : Loc nD τ sig) → Buf (Elt Ideal) ℓ) (ρ : Dev nD → PrngReg)
variable (hH : ∀ (c : Dev nD) (t : Fin cfg1.N) (j : S1x1x8x16.Idx), k1_chk1 (iblk1 (V7 m ρ) c 0 t j : BitVec 32)) (c : Dev nD)

abbrev argP : Points := m ((c : Thread nD τ).loc main_arg0)
abbrev argX : Feats := m ((c : Thread nD τ).loc main_arg1)
abbrev argW : Weights := m ((c : Thread nD τ).loc main_arg2)
abbrev argG : Scale := m ((c : Thread nD τ).loc main_arg3)
abbrev argB : Scale := m ((c : Thread nD τ).loc main_arg4)
abbrev argN : Samples := m ((c : Thread nD τ).loc main_arg5)
abbrev argK : Near := m ((c : Thread nD τ).loc main_arg6)

theorem W5_eq : W5 m ρ c = after before (W0 m ρ c) := rfl

/-- The projected features of every point. -/
theorem proj_value : V7 m ρ c main_v9 = projOf (features (argP m c) (argX m c)) (transpose S35x64 [1, 0] (argW m c) transposes_S64x35_S35x64_1_0) := by
  refine (W7_of m ρ c main_v9 (by decide)).trans ((W6_arr m ρ c 2).trans ((arr_proj (V5 m ρ) c).trans ?_))
  have h7 : V5 m ρ c main_v7 = _ := pre_v7 (W0 m ρ c)
  have h8 : V5 m ρ c main_v8 = _ := pre_v8 (W0 m ρ c)
  rw [h7, h8]

theorem near_value : V7 m ρ c main_v10 = (shapeCast S4x196x8x16 (argK m c) shapeCasts_S4x1568x16_S4x196x8x16 : (⟨S4x196x8x16, .i32⟩ : BufTy).Contents (Elt Ideal)) := by
  refine (words_read (W6 m ρ c)).trans ?_
  rw [show W6 m ρ c (Proc.devRef .tc main_arg6) = m ((c : Thread nD τ).loc main_arg6) from W6_args m ρ c main_arg6 (by decide)]

/-- An array that no launch writes is after the gather launch what it was before the first one. -/
theorem W8_before (b : Ref sig .tc) (h0 : ∀ w, Pipeline.arrRef spec0 w ≠ b) (h1 : ∀ w, Pipeline.arrRef spec1 w ≠ b) (hb : b ∉ hostOps1_W) :
    W8 m ρ hH c (Proc.devRef .tc b) = W5 m ρ c (Proc.devRef .tc b) :=
  (W8_of_ne m ρ hH c b h1).trans ((W7_of m ρ c b hb).trans (W6_of_ne m ρ c b h0))

set_option maxHeartbeats 1000000 in
/-- Every entry of the result, from the arguments. -/
theorem result_eq (hk : ∀ i, (argK m c i : BitVec 32).toNat < 25000) (j : Fin 6248) (ch : Fin 64) :
    (W11 m ρ hH c (Proc.devRef .tc main_v33) : (⟨S6248x64, .f32⟩ : BufTy).Contents (Elt Ideal)) (ix2 j ch)
      = normRow (fun r => sum16 (gathered (argP m c) (argX m c) (argW m c) (argK m c) ch r))
          (fun r => sq16 (gathered (argP m c) (argX m c) (argW m c) (argK m c) ch r))
          (fun r => max16 (gathered (argP m c) (argX m c) (argW m c) (argK m c) ch r))
          (fun r => min16 (gathered (argP m c) (argX m c) (argW m c) (argK m c) ch r))
          (shift (argN m c) (argW m c) ch) (argG m c (ix1 ch)) (argB m c (ix1 ch)) (paddedRow j) := by
  rw [show (W11 m ρ hH c (Proc.devRef .tc main_v33)) = _ from post_v33 (W10 m ρ hH c), result_apply]
  rw [show W10 m ρ hH c (Proc.devRef .tc main_v30) = _ from (W10_arr m ρ hH c 12).trans (arr_norm (V9 m ρ hH) c)]
  obtain ⟨h12, h13, h14, h15, h16, h17, h18, h21, h24, h27, h28, h29⟩ := mid_reads (W8 m ρ hH c)
  have e12 : V9 m ρ hH c main_v12 = _ := h12
  have e13 : V9 m ρ hH c main_v13 = _ := h13
  have e14 : V9 m ρ hH c main_v14 = _ := h14
  have e15 : V9 m ρ hH c main_v15 = _ := h15
  have e16 : V9 m ρ hH c main_v16 = _ := h16
  have e17 : V9 m ρ hH c main_v17 = _ := h17
  have e18 : V9 m ρ hH c main_v18 = _ := h18
  have e21 : V9 m ρ hH c main_v21 = _ := h21
  have e24 : V9 m ρ hH c main_v24 = _ := h24
  have e27 : V9 m ρ hH c main_v27 = _ := h27
  have e28 : V9 m ρ hH c main_v28 = _ := h28
  have e29 : V9 m ρ hH c main_v29 = _ := h29
  rw [e12, e13, e14, e15, e16, e17, e18, e21, e24, e27, e28, e29]
  have s0 : W8 m ρ hH c (Proc.devRef .tc main_v11_0) = _ := (W8_arr m ρ hH c 2).trans (arr_sum (V7 m ρ) hH c)
  have s1 : W8 m ρ hH c (Proc.devRef .tc main_v11_1) = _ := (W8_arr m ρ hH c 3).trans (arr_sq (V7 m ρ) hH c)
  have s2 : W8 m ρ hH c (Proc.devRef .tc main_v11_2) = _ := (W8_arr m ρ hH c 4).trans (arr_max (V7 m ρ) hH c)
  have s3 : W8 m ρ hH c (Proc.devRef .tc main_v11_3) = _ := (W8_arr m ρ hH c 5).trans (arr_min (V7 m ρ) hH c)
  have c4 : W8 m ρ hH c (Proc.devRef .tc main_v4) = _ := (W8_before m ρ hH c main_v4 (by decide) (by decide) (by decide)).trans (pre_v4 (W0 m ρ c))
  have c5 : W8 m ρ hH c (Proc.devRef .tc main_v5) = _ := (W8_before m ρ hH c main_v5 (by decide) (by decide) (by decide)).trans (pre_v5 (W0 m ρ c))
  have c6 : W8 m ρ hH c (Proc.devRef .tc main_v6) = _ := (W8_before m ρ hH c main_v6 (by decide) (by decide) (by decide)).trans (pre_v6 (W0 m ρ c))
  have a2 : W8 m ρ hH c (Proc.devRef .tc main_arg2) = argW m c := W8_args m ρ hH c main_arg2 (by decide)
  have a3 : W8 m ρ hH c (Proc.devRef .tc main_arg3) = argG m c := W8_args m ρ hH c main_arg3 (by decide)
  have a4 : W8 m ρ hH c (Proc.devRef .tc main_arg4) = argB m c := W8_args m ρ hH c main_arg4 (by decide)
  have a5 : W0 m ρ c (Proc.devRef .tc main_arg5) = argN m c := rfl
  rw [s0, s1, s2, s3, c4, c5, c6, a2, a3, a4, a5, proj_value, near_value]
  exact norm_value _ _ _ _ _ _ _ _ _ _ _ _ ch _ (fun r => stat_value _ _ _ _ hk _ r ch) (fun r => stat_value _ _ _ _ hk _ r ch)
    (fun r => stat_value _ _ _ _ hk _ r ch) (fun r => stat_value _ _ _ _ hk _ r ch)
end Result

end Cert.Kernel3Ideal.Whole
-- ==== Proof.WholeNumbers.lean ====
module

public import proofs.«01_k».proof.Proof.WholeHost

/-!
One channel's normalisation over the reals: the sums of shifted features from the sums of the features, the variance from
the mean of the squares, and the greatest rectified value at the greatest feature, or at the least where the scale is
negative.
-/

@[expose] public section
set_option maxRecDepth 16384
noncomputable section
open Idealize.ShloMosaic Idealize.ShloMosaic.TcCoe Idealize.ShloMosaic.Tactic
namespace Cert.Kernel3Ideal.Whole
open Cert.Kernel3Ideal Cert.Kernel3Ideal.Gen

theorem ofBits_16 : Ideal.ofBits .f32 0x41800000#32 = ((16 : ℝ) : EReal) := by
  simp [Ideal.ofBits, Ideal.ieee]
  rw [← EReal.coe_mul]
  congr 1
  norm_num

theorem ofBits_2 : Ideal.ofBits .f32 0x40000000#32 = ((2 : ℝ) : EReal) := by
  simp [Ideal.ofBits, Ideal.ieee]
  rw [← EReal.coe_mul]
  congr 1
  norm_num

theorem ofBits_99968 : Ideal.ofBits .f32 0x47C34000#32 = ((99968 : ℝ) : EReal) := by
  simp [Ideal.ofBits, Ideal.ieee]
  rw [← EReal.coe_mul]
  congr 1
  norm_num

/-- The small number added to every variance. -/
theorem ofBits_eps : ∃ e : ℝ, 0 < e ∧ Ideal.ofBits .f32 0x3727C5AC#32 = (e : EReal) := by
  refine ⟨_, ?_, by simp [Ideal.ofBits, Ideal.ieee]; rfl⟩
  norm_num

/-- The greatest of a list, carried along. -/
theorem fold_max {α : Type} [LinearOrder α] {ι : Type} (f : ι → α) (l : List ι) (a : α) :
    a ≤ l.foldl (fun a s => max a (f s)) a ∧ (∀ s ∈ l, f s ≤ l.foldl (fun a s => max a (f s)) a)
      ∧ (l.foldl (fun a s => max a (f s)) a = a ∨ ∃ s ∈ l, l.foldl (fun a s => max a (f s)) a = f s) := by
  induction l generalizing a with
  | nil => exact ⟨le_rfl, fun s h => absurd h List.not_mem_nil, Or.inl rfl⟩
  | cons s l ih =>
    obtain ⟨h1, h2, h3⟩ := ih (max a (f s))
    refine ⟨(le_max_left _ _).trans h1, ?_, ?_⟩
    · intro t ht
      rcases List.mem_cons.mp ht with rfl | ht
      · exact (le_max_right _ _).trans h1
      · exact h2 t ht
    · rcases h3 with h3 | ⟨t, ht, h3⟩
      · rcases le_total a (f s) with h | h
        · exact Or.inr ⟨s, List.mem_cons_self .., h3.trans (max_eq_right h)⟩
        · exact Or.inl (h3.trans (max_eq_left h))
      · exact Or.inr ⟨t, List.mem_cons_of_mem _ ht, h3⟩

theorem mem_later (s : Fin 16) : s = 0 ∨ s ∈ later := by
  revert s
  decide

theorem fold_later {α : Type} [LinearOrder α] (f : Fin 16 → α) :
    ∃ s, later.foldl (fun a s => max a (f s)) (f 0) = f s ∧ ∀ t, f t ≤ f s := by
  obtain ⟨h1, h2, h3⟩ := fold_max f later (f 0)
  have hle : ∀ t, f t ≤ later.foldl (fun a s => max a (f s)) (f 0) := by
    intro t
    rcases mem_later t with rfl | ht
    · exact h1
    · exact h2 t ht
  rcases h3 with h3 | ⟨s, _, h3⟩
  · exact ⟨0, h3, fun t => h3 ▸ hle t⟩
  · exact ⟨s, h3, fun t => h3 ▸ hle t⟩

theorem max16_eq (f : Fin 16 → EReal) : ∃ s, max16 f = f s ∧ ∀ t, f t ≤ f s := fold_later f
theorem min16_eq (f : Fin 16 → EReal) : ∃ s, min16 f = f s ∧ ∀ t, f s ≤ f t := fold_later (α := ERealᵒᵈ) f

theorem sum16_coe (f : Fin 16 → ℝ) : sum16 (fun s => (f s : EReal)) = ((∑ s, f s : ℝ) : EReal) := by
  simp only [Fin.sum_univ_castSucc, Fin.sum_univ_zero, zero_add, EReal.coe_add]
  rfl

theorem sq16_coe (f : Fin 16 → ℝ) : sq16 (fun s => (f s : EReal)) = ((∑ s, f s * f s : ℝ) : EReal) := by
  rw [← sum16_coe]
  simp only [EReal.coe_mul]
  rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The padding rows left out, a sum over the padded rows is one over the result's rows. -/
theorem sum_rows {M : Type} [AddCommMonoid M] (f : Fin 6272 → M) :
    (∑ r : Fin 6272, if r.val % 1568 < 1562 then f r else 0) = ∑ j : Fin 6248, f (paddedRow j) := by
  rw [← Finset.sum_filter]
  symm
  refine Finset.sum_bij (fun j _ => paddedRow j) ?_ ?_ ?_ ?_
  · intro j _
    refine Finset.mem_filter.mpr ⟨Finset.mem_univ _, ?_⟩
    show (j.val / 1562 * 1568 + j.val % 1562) % 1568 < 1562
    omega
  · intro j _ j' _ h
    have h' : j.val / 1562 * 1568 + j.val % 1562 = j'.val / 1562 * 1568 + j'.val % 1562 := congrArg Fin.val h
    apply Fin.ext
    omega
  · intro r hr
    have hr' := (Finset.mem_filter.mp hr).2
    have hl := r.isLt
    refine ⟨⟨r.val / 1568 * 1562 + r.val % 1568, by omega⟩, Finset.mem_univ _, Fin.ext ?_⟩
    show (r.val / 1568 * 1562 + r.val % 1568) / 1562 * 1568 + (r.val / 1568 * 1562 + r.val % 1568) % 1562 = r.val
    omega
  · intro j _
    rfl

theorem div_count (x : ℝ) : Ideal.div (x : EReal) (Ideal.ofBits .f32 0x47C34000#32) = ((x / 99968 : ℝ) : EReal) := by
  rw [ofBits_99968, Ideal.div_coe (by norm_num), ← EReal.coe_mul]
  congr 1
  ring

theorem meanOf_coe (f : Fin 6272 → ℝ) : meanOf (fun r => (f r : EReal)) = (((∑ j : Fin 6248, f (paddedRow j)) / 99968 : ℝ) : EReal) := by
  unfold meanOf
  rw [sum_rows (fun r => (f r : EReal)), ← coe_sum, div_count]

/-- Sixteen values shifted alike. -/
theorem sum_shift (z : Fin 16 → ℝ) (c : ℝ) : (∑ s, z s) - 16 * c = ∑ s, (z s - c) := by
  simp [Finset.sum_sub_distrib]

theorem sum_sq_shift (z : Fin 16 → ℝ) (c : ℝ) :
    (∑ s, z s * z s) - 2 * c * (∑ s, z s) + 16 * (c * c) = ∑ s, (z s - c) * (z s - c) := by
  have h : ∀ s, (z s - c) * (z s - c) = z s * z s - 2 * c * z s + c * c := fun s => by ring
  simp only [h, Finset.sum_add_distrib, Finset.sum_sub_distrib, ← Finset.mul_sum, Finset.sum_const, Finset.card_univ, Fintype.card_fin, nsmul_eq_mul]
  norm_num
  ring

/-- The variance: the mean of the squared deviations is the mean of the squares less the mean's square. -/
theorem variance_real (h : Fin 6248 → Fin 16 → ℝ) :
    (∑ j, ∑ s, h j s * h j s) / 99968 - (∑ j, ∑ s, h j s) / 99968 * ((∑ j, ∑ s, h j s) / 99968)
      = (∑ j, ∑ s, (h j s - (∑ j, ∑ s, h j s) / 99968) * (h j s - (∑ j, ∑ s, h j s) / 99968)) / 99968 := by
  generalize hS : (∑ j, ∑ s, h j s) = S
  generalize hμ : S / 99968 = μ
  have hsq : ∀ j s, (h j s - μ) * (h j s - μ) = h j s * h j s - 2 * μ * h j s + μ * μ := fun j s => by ring
  simp only [hsq, Finset.sum_add_distrib, Finset.sum_sub_distrib, ← Finset.mul_sum, Finset.sum_const, Finset.card_univ, Fintype.card_fin, nsmul_eq_mul, hS]
  have hS' : S = 99968 * μ := by rw [← hμ]; ring
  rw [hS']
  push_cast
  ring

/-- One value normalised and rectified. -/
def rectified (μ k : ℝ) (g b : EReal) (t : ℝ) : EReal := max ((((t - μ) * k : ℝ) : EReal) * g + b) 0

theorem rectified_mono (μ k : ℝ) (hk : 0 ≤ k) (g b : EReal) (hg : 0 ≤ g) {t u : ℝ} (h : t ≤ u) : rectified μ k g b t ≤ rectified μ k g b u := by
  refine max_le_max ?_ le_rfl
  refine add_le_add ?_ le_rfl
  refine mul_le_mul_of_nonneg_right ?_ hg
  exact EReal.coe_le_coe_iff.mpr (mul_le_mul_of_nonneg_right (by linarith) hk)

theorem rectified_anti (μ k : ℝ) (hk : 0 ≤ k) (g b : EReal) (hg : g ≤ 0) {t u : ℝ} (h : t ≤ u) : rectified μ k g b u ≤ rectified μ k g b t := by
  refine max_le_max ?_ le_rfl
  refine add_le_add ?_ le_rfl
  have hng : 0 ≤ -g := EReal.neg_nonneg.mpr hg
  have := mul_le_mul_of_nonneg_right (EReal.coe_le_coe_iff.mpr (mul_le_mul_of_nonneg_right (show t - μ ≤ u - μ by linarith) hk)) hng
  rw [mul_neg, mul_neg] at this
  exact EReal.neg_le_neg_iff.mp this

/-- THE ROW: the kernel's normalised row is the greatest of the sixteen rectified normalised values. -/
theorem row_eq (z : Fin 6272 → Fin 16 → ℝ) (c : Fin 6272 → ℝ) (g b : EReal) (j : Fin 6248) (h : Fin 6248 → Fin 16 → ℝ)
    (hh : ∀ j s, h j s = z (paddedRow j) s - c (paddedRow j)) (M V : EReal)
    (hM : M = Ideal.div (∑ j, ∑ s, (h j s : EReal)) (Ideal.ofBits .f32 0x47C34000#32))
    (hV : V = Ideal.div (∑ j, ∑ s, ((h j s : EReal) - M) * ((h j s : EReal) - M)) (Ideal.ofBits .f32 0x47C34000#32)) :
    normRow (fun r => sum16 fun s => (z r s : EReal)) (fun r => sq16 fun s => (z r s : EReal)) (fun r => max16 fun s => (z r s : EReal))
        (fun r => min16 fun s => (z r s : EReal)) (fun r => (c r : EReal)) g b (paddedRow j)
      = Finset.univ.sup fun s : Fin 16 => max (Ideal.div ((h j s : EReal) - M) (Ideal.sqrt (V + Ideal.ofBits .f32 0x3727C5AC#32)) * g + b) 0 := by
  obtain ⟨e, he, hE⟩ := ofBits_eps
  set μ : ℝ := (∑ j, ∑ s, h j s) / 99968 with hμ
  set v : ℝ := (∑ j, ∑ s, (h j s - μ) * (h j s - μ)) / 99968 with hv
  have hM' : M = (μ : EReal) := by
    rw [hM, hμ, ← div_count, coe_sum]
    simp only [coe_sum]
  have hV' : V = (v : EReal) := by
    rw [hV, hv, ← div_count, coe_sum, hM']
    simp only [coe_sum, EReal.coe_mul, EReal.coe_sub]
  have hv0 : 0 ≤ v := div_nonneg (Finset.sum_nonneg fun j _ => Finset.sum_nonneg fun s _ => mul_self_nonneg _) (by norm_num)
  have hmean : meanOf (fun r => (sum16 fun s => (z r s : EReal)) - Ideal.ofBits .f32 0x41800000#32 * (c r : EReal)) = (μ : EReal) := by
    have : (fun r => (sum16 fun s => (z r s : EReal)) - Ideal.ofBits .f32 0x41800000#32 * (c r : EReal)) = fun r => ((∑ s, (z r s - c r) : ℝ) : EReal) := by
      funext r
      rw [sum16_coe, ofBits_16, ← EReal.coe_mul, ← EReal.coe_sub, sum_shift]
    rw [this, meanOf_coe, hμ]
    simp only [hh]
  have hmsq : meanOf (fun r => (sq16 fun s => (z r s : EReal)) - Ideal.ofBits .f32 0x40000000#32 * (c r : EReal) * (sum16 fun s => (z r s : EReal))
      + Ideal.ofBits .f32 0x41800000#32 * ((c r : EReal) * (c r : EReal))) = (((∑ j, ∑ s, h j s * h j s) / 99968 : ℝ) : EReal) := by
    have : (fun r => (sq16 fun s => (z r s : EReal)) - Ideal.ofBits .f32 0x40000000#32 * (c r : EReal) * (sum16 fun s => (z r s : EReal))
      + Ideal.ofBits .f32 0x41800000#32 * ((c r : EReal) * (c r : EReal))) = fun r => ((∑ s, (z r s - c r) * (z r s - c r) : ℝ) : EReal) := by
      funext r
      rw [sum16_coe, sq16_coe, ofBits_16, ofBits_2, ← EReal.coe_mul, ← EReal.coe_mul, ← EReal.coe_mul, ← EReal.coe_mul, ← EReal.coe_sub, ← EReal.coe_add, sum_sq_shift]
    rw [this, meanOf_coe]
    simp only [hh]
  have hpos : 0 < v + e := by linarith
  set k : ℝ := (Real.sqrt (v + e))⁻¹ with hk
  have hk0 : 0 ≤ k := inv_nonneg.mpr (Real.sqrt_nonneg _)
  have hs0 : Real.sqrt (v + e) ≠ 0 := (Real.sqrt_pos.mpr hpos).ne'
  have href : ∀ s : Fin 16, max (Ideal.div ((h j s : EReal) - M) (Ideal.sqrt (V + Ideal.ofBits .f32 0x3727C5AC#32)) * g + b) 0 = rectified μ k g b (h j s) := by
    intro s
    rw [hM', hV', hE, ← EReal.coe_add, Ideal.sqrt_coe, if_neg (not_lt.mpr hpos.le), Ideal.div_coe hs0, ← EReal.coe_sub, ← EReal.coe_mul, one_div]
    rfl
  have hker : ∀ x : ℝ, max (((x : EReal) - (μ : EReal)) * Ideal.rsqrt ((((∑ j, ∑ s, h j s * h j s) / 99968 : ℝ) : EReal) - (μ : EReal) * (μ : EReal)
      + Ideal.ofBits .f32 0x3727C5AC#32) * g + b) 0 = rectified μ k g b x := by
    intro x
    have hvar : (∑ j, ∑ s, h j s * h j s) / 99968 - μ * μ = v := variance_real h
    rw [hE, ← EReal.coe_mul, ← EReal.coe_sub x μ, ← EReal.coe_sub _ (μ * μ), hvar, ← EReal.coe_add, Ideal.rsqrt_coe, if_neg (not_lt.mpr hpos.le), if_neg hpos.ne',
      ← EReal.coe_mul]
    rfl
  simp only [href]
  unfold normRow
  simp only []
  rw [hmean, hmsq]
  by_cases hg : 0 ≤ g
  · rw [if_pos hg]
    obtain ⟨s, hs, hle⟩ := max16_eq fun s => (z (paddedRow j) s : EReal)
    rw [hs, ← EReal.coe_sub, ← hh, hker]
    refine le_antisymm (Finset.le_sup (f := fun s => rectified μ k g b (h j s)) (Finset.mem_univ s)) (Finset.sup_le fun t _ => rectified_mono μ k hk0 g b hg ?_)
    have := EReal.coe_le_coe_iff.mp (hle t)
    rw [hh, hh]
    linarith
  · rw [if_neg hg]
    obtain ⟨s, hs, hle⟩ := min16_eq fun s => (z (paddedRow j) s : EReal)
    rw [hs, ← EReal.coe_sub, ← hh, hker]
    refine le_antisymm (Finset.le_sup (f := fun s => rectified μ k g b (h j s)) (Finset.mem_univ s))
      (Finset.sup_le fun t _ => rectified_anti μ k hk0 g b (not_le.mp hg).le ?_)
    have := EReal.coe_le_coe_iff.mp (hle t)
    rw [hh, hh]
    linarith

end Cert.Kernel3Ideal.Whole
-- ==== Proof.WholeReference.lean ====
module

public import proofs.«01_k».proof.Proof.WholeNumbers
public import proofs.«01_k».proof.Proof.Gen.Reference3Ideal
public import proofs.«01_k».proof.Proof.Gen.Reference3Ideal.Run
public import Idealize.ShloMosaic.Lib.Pointwise
public import proofs.«01_k».proof.Proof.Words
public import Idealize.ShloMosaic.Lib.KernelVsHost

/-!
The reference's result entry by entry: every neighbour's features, the coordinates taken from the sample's, projected; the
mean and the variance of each channel; the greatest rectified normalised value over a sample's neighbours.
-/

@[expose] public section
set_option maxRecDepth 16384
noncomputable section
open Idealize.ShloMosaic Idealize.ShloMosaic.TcCoe Idealize.ShloMosaic.Tactic Idealize.SL.Sem
namespace Cert.Reference3Ideal.Value
open Cert.Reference3Ideal Cert.Reference3Ideal.Gen Cert.Kernel3Ideal.Whole

abbrev Hidden := FVec Ideal S6248x64x16 .f32

/-- Where every neighbour's features lie: its segment and its place there. -/
def starts (k : IVec S4x1568x16 32) : IVec S4x1562x16x2 32 :=
  concatenate S4x1562x16x2 3 [⟨S4x1562x16x1, (broadcastInDim S4x1562x16x1 ![0, 1, 2] bcast_S4x1562x16_S4x1562x16x1_0_1_2 (broadcastInDim S4x1562x16 ![0, 1, 2] bcast_S4x1x1_S4x1562x16_0_1_2 (broadcastInDim S4x1x1 ![0] bcast_S4_S4x1x1_0 (iotaInDim S4 32 0))))⟩, ⟨S4x1562x16x1, (broadcastInDim S4x1562x16x1 ![0, 1, 2] bcast_S4x1562x16_S4x1562x16x1_0_1_2 (extractStridedSlice S4x1562x16 ![0, 0, 0] k slices_S4x1568x16_S4x1562x16_0_0_0))⟩] concatenates_S4x1562x16x1_S4x1562x16x1_S4x1562x16x2_d3

/-- Every neighbour's features, the coordinates from the sample's. -/
def grouped (p : FVec Ideal S100000x3 .f32) (x : FVec Ideal S100000x32 .f32) (n : FVec Ideal S4x1568x3 .f32) (k : IVec S4x1568x16 32) : FVec Ideal S4x1562x16x35 .f32 :=
  concatenate S4x1562x16x35 3 [⟨S4x1562x16x3, (subf (Host.gather gather_S4x25000x3_S4x1562x16x2_S4x1562x16x3_3_01_n_n_01_3_113 (shapeCast S4x25000x3 p shapeCasts_S100000x3_S4x25000x3) (starts k)) (broadcastInDim S4x1562x16x3 ![0, 1, 2, 3] bcast_S4x1562x1x3_S4x1562x16x3_0_1_2_3 (broadcastInDim S4x1562x1x3 ![0, 1, 3] bcast_S4x1562x3_S4x1562x1x3_0_1_3 (extractStridedSlice S4x1562x3 ![0, 0, 0] n slices_S4x1568x3_S4x1562x3_0_0_0))))⟩, ⟨S4x1562x16x32, (Host.gather gather_S4x25000x32_S4x1562x16x2_S4x1562x16x32_3_01_n_n_01_3_1132 (shapeCast S4x25000x32 x shapeCasts_S100000x32_S4x25000x32) (starts k))⟩] concatenates_S4x1562x16x3_S4x1562x16x32_S4x1562x16x35_d3

/-- The same projected. -/
def hidden (p : FVec Ideal S100000x3 .f32) (x : FVec Ideal S100000x32 .f32) (w : FVec Ideal S64x35 .f32) (n : FVec Ideal S4x1568x3 .f32) (k : IVec S4x1568x16 32) : Hidden :=
  transpose S6248x64x16 [0, 2, 1] (Host.dotGeneral dot_S6248x16x35_S64x35_S6248x16x64_2_1_01_0_n_n none (shapeCast S6248x16x35 (grouped p x n k) shapeCasts_S4x1562x16x35_S6248x16x35) w) transposes_S6248x16x64_S6248x64x16_0_2_1

/-- A channel's mean, its deviations and its variance. -/
def mean (H : Hidden) : FVec Ideal S64 .f32 :=
  Host.divf (Host.reduceAdd H (constant (F := Ideal) S_ .f32 0x00000000#32) reducesTo_S6248x64x16_S64_d0_2 h_S_) (broadcastInDim S64 ![] bcast_S_S64 (constant (F := Ideal) S_ .f32 0x47C34000#32))
def deviation (H : Hidden) : Hidden :=
  subf H (broadcastInDim S6248x64x16 ![0, 1, 2] bcast_S1x64x1_S6248x64x16_0_1_2 (Host.divf (broadcastInDim S1x64x1 ![1] bcast_S64_S1x64x1_1 (Host.reduceAdd H (constant (F := Ideal) S_ .f32 0x00000000#32) reducesTo_S6248x64x16_S64_d0_2 h_S_)) (broadcastInDim S1x64x1 ![] bcast_S_S1x64x1 (constant (F := Ideal) S_ .f32 0x47C34000#32))))
def variance (H : Hidden) : FVec Ideal S64 .f32 :=
  select (broadcastInDim S64 ![] bcast_S_S64 (cmpf .ogt (subf (constant (F := Ideal) S_ .f32 0x47C34000#32) (sitofp (F := Ideal) .f32 (constantI S_ 32 0#32))) (constant (F := Ideal) S_ .f32 0x00000000#32))) (Host.divf (Host.reduceAdd (mulf (deviation H) (deviation H)) (constant (F := Ideal) S_ .f32 0x00000000#32) reducesTo_S6248x64x16_S64_d0_2 h_S_) (broadcastInDim S64 ![] bcast_S_S64 (subf (constant (F := Ideal) S_ .f32 0x47C34000#32) (sitofp (F := Ideal) .f32 (constantI S_ 32 0#32))))) (broadcastInDim S64 ![] bcast_S_S64 (id (constant (F := Ideal) S_ .f32 0x7FC00000#32)))

/-- Every rectified normalised value, and the greatest of a row's. -/
def activated (H : Hidden) (g b : FVec Ideal S64 .f32) : Hidden :=
  maximumf (addf (mulf (Host.divf (subf H (broadcastInDim S6248x64x16 ![0, 1, 2] bcast_S1x64x1_S6248x64x16_0_1_2 (broadcastInDim S1x64x1 ![1] bcast_S64_S1x64x1_1 (mean H)))) (broadcastInDim S6248x64x16 ![0, 1, 2] bcast_S1x64x1_S6248x64x16_0_1_2 (Host.sqrt (addf (broadcastInDim S1x64x1 ![1] bcast_S64_S1x64x1_1 (variance H)) (broadcastInDim S1x64x1 ![] bcast_S_S1x64x1 (constant (F := Ideal) S_ .f32 0x3727C5AC#32)))))) (broadcastInDim S6248x64x16 ![0, 1, 2] bcast_S1x64x1_S6248x64x16_0_1_2 (broadcastInDim S1x64x1 ![1] bcast_S64_S1x64x1_1 (g)))) (broadcastInDim S6248x64x16 ![0, 1, 2] bcast_S1x64x1_S6248x64x16_0_1_2 (broadcastInDim S1x64x1 ![1] bcast_S64_S1x64x1_1 (b)))) (broadcastInDim S6248x64x16 ![] bcast_S_S6248x64x16 (constant (F := Ideal) S_ .f32 0x00000000#32))
def greatest (H : Hidden) (g b : FVec Ideal S64 .f32) : FVec Ideal S6248x64 .f32 :=
  Host.reduce FloatOps.maximumf (activated H g b) (constant (F := Ideal) S_ .f32 0xFF800000#32) reducesTo_S6248x64x16_S6248x64_d2 h_S_

theorem res_eq (m : (ℓ : Loc nD τ sig) → Buf (Elt Ideal) ℓ) (c : Dev nD) :
    res_main_v46 m c = greatest (hidden (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6)))
      (m ((c.tc : Thread nD τ).loc main_arg3)) (m ((c.tc : Thread nD τ).loc main_arg4)) := by
  unfold res_main_v46 greatest activated variance deviation mean hidden grouped starts
  rfl

/-- A gather of whole rows: the segment and the place of each read off the last axis of the starts. -/
abbrev rowDims (K : Nat) (wf : GatherDims.WF ⟨3, ![4, 25000, K]⟩ ⟨4, ![4, 1562, 16, 2]⟩ ⟨4, ![4, 1562, 16, K]⟩ [3] [0, 1] [] [0, 1] [] 3 ![1, 1, K]) :
    GatherDims ⟨3, ![4, 25000, K]⟩ ⟨4, ![4, 1562, 16, 2]⟩ ⟨4, ![4, 1562, 16, K]⟩ where
  offsetDims := [3]
  collapsedSliceDims := [0, 1]
  operandBatchingDims := []
  startIndicesBatchingDims := []
  startIndexMap := [0, 1]
  indexVectorDim := 3
  sliceSizes := ![1, 1, K]
  wf := wf

/-- Its entries, where the starts lie in range. -/
theorem gather_rows_apply {α : Type} {K : Nat} (wf) (x : (⟨3, ![4, 25000, K]⟩ : Shape).Idx → α) (idx : IVec ⟨4, ![4, 1562, 16, 2]⟩ 32)
    (b : Fin 4) (q : Fin 1562) (s : Fin 16) (a : Fin K) (b' : Fin 4) (n : Fin 25000)
    (hb : (idx (ix4 b q s 0)).toInt = b'.val) (hn : (idx (ix4 b q s 1)).toInt = n.val) :
    Host.gather (rowDims K wf) x idx (ix4 b q s a) = x (ix3 b' n a) := by
  unfold Host.gather
  refine congrArg x (funext fun d => Fin.ext ?_)
  have hs0 : ∀ h, (rowDims K wf).siIdx (ix4 b q s a) ⟨List.idxOf (0 : Fin 3) (rowDims K wf).startIndexMap, h⟩ = ix4 b q s 0 := by
    intro h
    funext e
    apply Fin.ext
    fin_cases e <;> rfl
  have hs1 : ∀ h, (rowDims K wf).siIdx (ix4 b q s a) ⟨List.idxOf (1 : Fin 3) (rowDims K wf).startIndexMap, h⟩ = ix4 b q s 1 := by
    intro h
    funext e
    apply Fin.ext
    fin_cases e <;> rfl
  match d with
  | ⟨0, _⟩ =>
    show (rowDims K wf).start (ix4 b q s a) idx 0 + (rowDims K wf).batchCoord (ix4 b q s a) 0 + (rowDims K wf).offCoord (ix4 b q s a) 0 = b'.val
    rw [GatherDims.batchCoord_eq_zero _ _ _ List.not_mem_nil, GatherDims.offCoord_eq_zero _ _ _ (fun h => ((GatherDims.mem_sKept _ _).mp h).1 (show (0 : Fin 3) ∈ ([0, 1] ++ [] : List (Fin 3)) by decide))]
    simp only [Nat.add_zero]
    unfold GatherDims.start
    rw [dif_pos (show (0 : Fin 3) ∈ (rowDims K wf).startIndexMap from List.mem_cons_self ..), hs0, hb]
    show min ((b'.val : Int)).toNat (4 - 1) = b'.val
    omega
  | ⟨1, _⟩ =>
    show (rowDims K wf).start (ix4 b q s a) idx 1 + (rowDims K wf).batchCoord (ix4 b q s a) 1 + (rowDims K wf).offCoord (ix4 b q s a) 1 = n.val
    rw [GatherDims.batchCoord_eq_zero _ _ _ List.not_mem_nil, GatherDims.offCoord_eq_zero _ _ _ (fun h => ((GatherDims.mem_sKept _ _).mp h).1 (show (1 : Fin 3) ∈ ([0, 1] ++ [] : List (Fin 3)) by decide))]
    simp only [Nat.add_zero]
    unfold GatherDims.start
    rw [dif_pos (show (1 : Fin 3) ∈ (rowDims K wf).startIndexMap from List.mem_cons_of_mem _ (List.mem_cons_self ..)), hs1, hn]
    show min ((n.val : Int)).toNat (25000 - 1) = n.val
    omega
  | ⟨2, _⟩ =>
    show (rowDims K wf).start (ix4 b q s a) idx 2 + (rowDims K wf).batchCoord (ix4 b q s a) 2 + (rowDims K wf).offCoord (ix4 b q s a) 2 = a.val
    rw [GatherDims.batchCoord_eq_zero _ _ _ List.not_mem_nil]
    unfold GatherDims.start
    rw [dif_neg (show (2 : Fin 3) ∉ (rowDims K wf).startIndexMap from (by decide : (2 : Fin 3) ∉ ([0, 1] : List (Fin 3))))]
    show 0 + 0 + _ = _
    rw [Nat.zero_add]
    rfl

theorem starts_segment (k : Near) (b : Fin 4) (q : Fin 1562) (s : Fin 16) : starts k (ix4 b q s 0) = BitVec.ofNat 32 b.val := by
  pointwise [starts]
theorem starts_place (k : Near) (b : Fin 4) (q : Fin 1562) (s : Fin 16) : starts k (ix4 b q s 1) = k (ix3 b ⟨q.val, by omega⟩ s) := by
  pointwise [starts]

/-- A sum over every row and neighbour of a channel. -/
theorem channel_sum (v : Hidden) (init : EReal) (ch : Fin 64) :
    Ideal.hostReduceAdd reducesTo_S6248x64x16_S64_d0_2 v init (ix1 ch) = init + ∑ j : Fin 6248, ∑ s : Fin 16, v (ix3 j ch s) := by
  refine congrArg (init + ·) ?_
  refine (Finset.sum_filter_eq_sum_of_fiber _ (fun k : Fin 6248 × Fin 16 => (ix3 k.1 ch k.2 : S6248x64x16.Idx)) (fun _ _ e => Prod.ext (congrFun e 0) (congrFun e 2)) (fun i => ?_) v).trans ?_
  · constructor
    · intro e
      refine ⟨(i 0, i 2), ?_⟩
      funext a
      apply Fin.ext
      match a with
      | ⟨0, _⟩ => rfl
      | ⟨1, _⟩ => exact (congrArg Fin.val (congrFun e 0)).symm
      | ⟨2, _⟩ => rfl
    · rintro ⟨k, rfl⟩
      funext b
      apply Fin.ext
      fin_cases b
      rfl
  · simp only [Fintype.sum_prod_type]

theorem toInt_near (v : BitVec 32) (hn : v.toNat < 25000) : v.toInt = ((v.toNat % 25000 : ℕ) : ℤ) := by
  rw [Nat.mod_eq_of_lt hn, BitVec.toInt_eq_toNat_of_lt (by omega)]

/-- The coordinates taken from the sample's. -/
theorem grouped_apply (p : Points) (x : Feats) (n : Samples) (k : Near) (hk : ∀ i, (k i : BitVec 32).toNat < 25000) (b : Fin 4) (q : Fin 1562) (s : Fin 16) (a : Fin 35) :
    grouped p x n k (ix4 b q s a) = feature p x b (near k b ⟨q.val, by omega⟩ s) a - (if h : a.val < 3 then n (ix3 b ⟨q.val, by omega⟩ ⟨a.val, h⟩) else 0) := by
  have hn := hk (ix3 b ⟨q.val, by omega⟩ s)
  have h0 : (starts k (ix4 b q s 0)).toInt = b.val := by
    rw [starts_segment]
    exact Cert.Sampling.toInt_ofNat (by omega)
  have h1 : (starts k (ix4 b q s 1)).toInt = (near k b ⟨q.val, by omega⟩ s).val := by
    rw [starts_place]
    exact toInt_near _ hn
  have gp := fun a : Fin 3 => gather_rows_apply (K := 3) (by decide) (shapeCast S4x25000x3 p shapeCasts_S100000x3_S4x25000x3) (starts k) b q s a b _ h0 h1
  have gx := fun a : Fin 32 => gather_rows_apply (K := 32) (by decide) (shapeCast S4x25000x32 x shapeCasts_S100000x32_S4x25000x32) (starts k) b q s a b _ h0 h1
  revert gp gx
  unfold grouped
  generalize near k b ⟨q.val, by omega⟩ s = m, starts k = st
  intro gp gx
  unfold feature
  pointwise []
  by_cases h : a.val < 3
  · simp only [dif_pos h]
    refine congrArg (fun v : EReal => v - n (ix3 b ⟨q.val, _⟩ ⟨a.val, h⟩)) ((gp ⟨a.val, h⟩).trans ?_)
    pointwise []
  · simp only [dif_neg h]
    rw [sub_zero]
    refine (gx ⟨a.val - 3, by omega⟩).trans ?_
    pointwise []

theorem hidden_apply (p : Points) (x : Feats) (w : Weights) (n : Samples) (k : Near) (hk : ∀ i, (k i : BitVec 32).toNat < 25000) (j : Fin 6248) (ch : Fin 64) (s : Fin 16) :
    hidden p x w n k (ix3 j ch s) = ∑ a : Fin 35, (feature p x (segment (paddedRow j)) (near k (segment (paddedRow j)) (place (paddedRow j)) s) a
      - (if h : a.val < 3 then n (ix3 (segment (paddedRow j)) (place (paddedRow j)) ⟨a.val, h⟩) else 0)) * w (ix2 ch a) := by
  have e : hidden p x w n k (ix3 j ch s) = ∑ a : Fin 35, grouped p x n k (ix4 ⟨j.val / 1562, by omega⟩ ⟨j.val % 1562, by omega⟩ s a) * w (ix2 ch a) := by
    pointwise [hidden]
  have hb : (⟨j.val / 1562, by omega⟩ : Fin 4) = segment (paddedRow j) := by
    apply Fin.ext
    show j.val / 1562 = (j.val / 1562 * 1568 + j.val % 1562) / 1568
    omega
  have hq : (⟨j.val % 1562, by omega⟩ : Fin 1568) = place (paddedRow j) := by
    apply Fin.ext
    show j.val % 1562 = (j.val / 1562 * 1568 + j.val % 1562) % 1568
    omega
  rw [e, ← hb, ← hq]
  exact Finset.sum_congr rfl fun a _ => congrArg (fun v : EReal => v * w (ix2 ch a)) (grouped_apply p x n k hk _ ⟨j.val % 1562, by omega⟩ s a)

theorem mean_apply (H : Hidden) (ch : Fin 64) : mean H (ix1 ch) = Ideal.div (∑ j : Fin 6248, ∑ s : Fin 16, H (ix3 j ch s)) (Ideal.ofBits .f32 0x47C34000#32) := by
  pointwise [mean, channel_sum]

theorem deviation_apply (H : Hidden) (j : Fin 6248) (ch : Fin 64) (s : Fin 16) : deviation H (ix3 j ch s) = H (ix3 j ch s) - mean H (ix1 ch) := by
  pointwise [mean, deviation]

theorem variance_apply (H : Hidden) (ch : Fin 64) :
    variance H (ix1 ch) = Ideal.div (∑ j : Fin 6248, ∑ s : Fin 16, deviation H (ix3 j ch s) * deviation H (ix3 j ch s)) (Ideal.ofBits .f32 0x47C34000#32) := by
  pointwise [variance, channel_sum]
  have h0 : (FloatOps.sitofp FTy.f32 (0#32 : BitVec 32) : Ideal .f32) = 0 := sitofp_zero
  rw [h0, sub_zero, if_pos ?_]
  rw [ofBits_99968]
  norm_num

theorem activated_apply (H : Hidden) (g b : Scale) (j : Fin 6248) (ch : Fin 64) (s : Fin 16) :
    activated H g b (ix3 j ch s) = max (Ideal.div (H (ix3 j ch s) - mean H (ix1 ch)) (Ideal.sqrt (variance H (ix1 ch) + Ideal.ofBits .f32 0x3727C5AC#32)) * g (ix1 ch) + b (ix1 ch)) 0 := by
  pointwise [activated]

theorem greatest_apply (H : Hidden) (g b : Scale) (j : Fin 6248) (ch : Fin 64) :
    greatest H g b (ix2 j ch) = Finset.univ.sup fun s : Fin 16 => activated H g b (ix3 j ch s) := by
  pointwise [greatest]
  rw [Cert.Sampling.ofBits_negInf]
  rfl

end Cert.Reference3Ideal.Value
-- ==== Proof.WholeEquation.lean ====
module

public import proofs.«01_k».proof.Proof.WholeResult
public import proofs.«01_k».proof.Proof.WholeReference
public import proofs.«01_k».proof.Proof.NeighbourEquation
public import proofs.«01_k».proof.Proof.Gen.Pre_in_range
public import proofs.«01_k».proof.Proof.Gen.Pre_finite_in_range

/-!
# The three launches' result is the reference's

Where the neighbours lie in their segment every gather reads a row of it; where moreover the points, the features, the
weights and the samples are finite, every projected feature is a real number, and the two programs' rows agree.
-/

@[expose] public section
set_option maxRecDepth 16384
noncomputable section
open Idealize.ShloMosaic Idealize.ShloMosaic.TcCoe Idealize.ShloMosaic.StableHlo Idealize.SL.Sem
namespace Cert.Kernel3Ideal.Whole
open Cert.Kernel3Ideal Cert.Kernel3Ideal.Gen Cert.Neighbours

instance : Subsingleton Cert.Pre_in_range.S_.Idx := ⟨fun i j => funext fun a => a.elim0⟩
instance : Subsingleton Cert.Pre_finite_in_range.S_.Idx := ⟨fun i j => funext fun a => a.elim0⟩

/-- The two comparisons say that a word is in range. -/
theorem range_of_cmp (v : BitVec 32) (h0 : IntOp.cmpi .sge v 0#32 = 1#1) (h1 : IntOp.cmpi .slt v 25000#32 = 1#1) : 0 ≤ v.toInt ∧ v.toInt < 25000 := by
  constructor
  · by_contra hn
    have : BitVec.ofBool (decide ((0 : ℤ) ≤ v.toInt)) = 1#1 := h0
    rw [decide_eq_false hn] at this
    exact absurd this (by decide)
  · by_contra hn
    have : BitVec.ofBool (decide (v.toInt < 25000)) = 1#1 := h1
    rw [decide_eq_false hn] at this
    exact absurd this (by decide)

/-- What the frames' precondition says: every neighbour lies in its segment. -/
theorem range_of_pre [Cert.Pre_in_range.Facts] {F : FTy → Type} [FloatOps F] (p : FVec F Cert.Pre_in_range.S100000x3 .f32) (x : FVec F Cert.Pre_in_range.S100000x32 .f32)
    (w : FVec F Cert.Pre_in_range.S64x35 .f32) (g b : FVec F Cert.Pre_in_range.S64 .f32) (n : FVec F Cert.Pre_in_range.S4x1568x3 .f32)
    (k : IVec Cert.Pre_in_range.S4x1568x16 32) (h : Cert.Pre_in_range.fn (F := F) p x w g b n k = fun _ => 1#1) (i) : 0 ≤ (k i).toInt ∧ (k i).toInt < 25000 := by
  have h1 := (IntOp.andi_eq_one).mp (congrFun h (fun a => Fin.elim0 a))
  exact range_of_cmp _ (Host.reduce_andi_all _ _ _ _ _ h1.1 i) (Host.reduce_andi_all _ _ _ _ _ h1.2 i)

/-- What the value claim's precondition says. -/
theorem finite_in_range_of_pre [Cert.Pre_finite_in_range.Facts] (p : FVec Ideal Cert.Pre_finite_in_range.S100000x3 .f32) (x : FVec Ideal Cert.Pre_finite_in_range.S100000x32 .f32)
    (w : FVec Ideal Cert.Pre_finite_in_range.S64x35 .f32) (g b : FVec Ideal Cert.Pre_finite_in_range.S64 .f32) (n : FVec Ideal Cert.Pre_finite_in_range.S4x1568x3 .f32)
    (k : IVec Cert.Pre_finite_in_range.S4x1568x16 32) (h : Cert.Pre_finite_in_range.fn (F := Ideal) p x w g b n k = fun _ => 1#1) :
    (∀ i, Finite (p i)) ∧ (∀ i, Finite (x i)) ∧ (∀ i, Finite (w i)) ∧ (∀ i, Finite (n i)) ∧ ∀ i, 0 ≤ (k i).toInt ∧ (k i).toInt < 25000 := by
  have h1 := (IntOp.andi_eq_one).mp (congrFun h (fun a => Fin.elim0 a))
  have h2 := (IntOp.andi_eq_one).mp h1.1
  have h3 := (IntOp.andi_eq_one).mp h2.1
  have h4 := (IntOp.andi_eq_one).mp h3.1
  have h5 := (IntOp.andi_eq_one).mp h4.1
  exact ⟨fun i => finite_of_cmp _ (Host.reduce_andi_all _ _ _ _ _ h5.1 i), fun i => finite_of_cmp _ (Host.reduce_andi_all _ _ _ _ _ h5.2 i),
    fun i => finite_of_cmp _ (Host.reduce_andi_all _ _ _ _ _ h4.2 i), fun i => finite_of_cmp _ (Host.reduce_andi_all _ _ _ _ _ h3.2 i),
    fun i => range_of_cmp _ (Host.reduce_andi_all _ _ _ _ _ h2.2 i) (Host.reduce_andi_all _ _ _ _ _ h1.2 i)⟩

theorem toNat_lt_of_range {v : BitVec 32} (h0 : 0 ≤ v.toInt) (h1 : v.toInt < 25000) : v.toNat < 25000 := by
  rw [BitVec.toInt_eq_toNat_cond] at h0 h1
  split at h0 <;> rename_i h <;> simp only [h, if_true, if_false] at h1 <;> omega

/-- The first three of 35 products, the others being nothing. -/
theorem sum_first (d : Fin 3 → ℝ) (w : Fin 35 → ℝ) :
    (∑ a : Fin 35, (if h : a.val < 3 then d ⟨a.val, h⟩ else 0) * w a) = d 0 * w 0 + d 1 * w 1 + d 2 * w 2 := by
  have h : (∑ a : Fin (3 + 32), (if h : a.val < 3 then d ⟨a.val, h⟩ else 0) * w a) = d 0 * w 0 + d 1 * w 1 + d 2 * w 2 := by
    rw [Fin.sum_univ_add, Fin.sum_univ_three]
    have hz : ∀ i : Fin 32, (if h : (Fin.natAdd 3 i).val < 3 then d ⟨(Fin.natAdd 3 i).val, h⟩ else 0) * w (Fin.natAdd 3 i) = 0 := fun i => by
      rw [dif_neg (by show ¬(3 + i.val < 3); omega), zero_mul]
    rw [Finset.sum_congr rfl fun i _ => hz i, Finset.sum_const_zero, add_zero]
    rfl
  exact h

theorem coe_of_finite {x : EReal} (h : Finite x) : x = (x.toReal : EReal) := (EReal.coe_toReal h.1 h.2).symm

theorem feature_finite (p : Points) (x : Feats) (hp : ∀ i, Finite (p i)) (hx : ∀ i, Finite (x i)) (b : Fin 4) (n : Fin 25000) (a : Fin 35) :
    Finite (feature p x b n a) := by
  unfold feature
  split
  · exact hp _
  · exact hx _

/-- The reference's row is the kernel's. -/
theorem rows_eq (p : Points) (x : Feats) (w : Weights) (g b : Scale) (n : Samples) (k : Near) (hp : ∀ i, Finite (p i)) (hx : ∀ i, Finite (x i))
    (hw : ∀ i, Finite (w i)) (hn : ∀ i, Finite (n i)) (hk : ∀ i, (k i : BitVec 32).toNat < 25000) (j : Fin 6248) (ch : Fin 64) :
    normRow (fun r => sum16 (gathered p x w k ch r)) (fun r => sq16 (gathered p x w k ch r)) (fun r => max16 (gathered p x w k ch r))
        (fun r => min16 (gathered p x w k ch r)) (shift n w ch) (g (ix1 ch)) (b (ix1 ch)) (paddedRow j)
      = Cert.Reference3Ideal.Value.greatest (Cert.Reference3Ideal.Value.hidden p x w n k) g b (ix2 j ch) := by
  let f : Fin 6272 → Fin 16 → Fin 35 → ℝ := fun r s a => (feature p x (segment r) (near k (segment r) (place r) s) a).toReal
  let u : Fin 35 → ℝ := fun a => (w (ix2 ch a) : EReal).toReal
  let d : Fin 6272 → Fin 3 → ℝ := fun r e => (n (ix3 (segment r) (place r) e) : EReal).toReal
  have hf : ∀ r s a, feature p x (segment r) (near k (segment r) (place r) s) a = (f r s a : EReal) := fun r s a => coe_of_finite (feature_finite p x hp hx _ _ _)
  have hu : ∀ a, (w (ix2 ch a) : EReal) = (u a : EReal) := fun a => coe_of_finite (hw _)
  have hd : ∀ r e, (n (ix3 (segment r) (place r) e) : EReal) = (d r e : EReal) := fun r e => coe_of_finite (hn _)
  have hz : gathered p x w k ch = fun r s => ((∑ a, f r s a * u a : ℝ) : EReal) := by
    funext r s
    unfold gathered
    rw [coe_sum]
    refine Finset.sum_congr rfl fun a _ => ?_
    rw [hf, EReal.coe_mul]
    exact congrArg (fun v : EReal => (f r s a : EReal) * v) (hu a)
  have hc : shift n w ch = fun r => ((d r 0 * u 0 + d r 1 * u 1 + d r 2 * u 2 : ℝ) : EReal) := by
    funext r
    unfold shift
    rw [EReal.coe_add, EReal.coe_add, EReal.coe_mul, EReal.coe_mul, EReal.coe_mul]
    exact congrArg₂ (fun a b : EReal => a + b) (congrArg₂ (fun a b : EReal => a + b) (congrArg₂ (fun a b : EReal => a * b) (hd r 0) (hu 0))
      (congrArg₂ (fun a b : EReal => a * b) (hd r 1) (hu 1))) (congrArg₂ (fun a b : EReal => a * b) (hd r 2) (hu 2))
  let h : Fin 6248 → Fin 16 → ℝ := fun j s => ∑ a : Fin 35, (f (paddedRow j) s a - (if h : a.val < 3 then d (paddedRow j) ⟨a.val, h⟩ else 0)) * u a
  have hH : ∀ j s, Cert.Reference3Ideal.Value.hidden p x w n k (ix3 j ch s) = (h j s : EReal) := by
    intro j s
    rw [Cert.Reference3Ideal.Value.hidden_apply p x w n k hk]
    refine Eq.trans ?_ (coe_sum _ _).symm
    refine Finset.sum_congr rfl fun a _ => ?_
    rw [hf, EReal.coe_mul, EReal.coe_sub]
    refine congrArg₂ (fun v z : EReal => ((f (paddedRow j) s a : EReal) - v) * z) ?_ (hu a)
    split
    · exact hd _ _
    · rfl
  have hh : ∀ j s, h j s = (∑ a, f (paddedRow j) s a * u a) - (d (paddedRow j) 0 * u 0 + d (paddedRow j) 1 * u 1 + d (paddedRow j) 2 * u 2) := by
    intro j s
    rw [← sum_first (d (paddedRow j)) u, ← Finset.sum_sub_distrib]
    exact Finset.sum_congr rfl fun a _ => sub_mul _ _ _
  rw [hz, hc, Cert.Reference3Ideal.Value.greatest_apply]
  simp only [Cert.Reference3Ideal.Value.activated_apply, hH]
  refine row_eq (fun r s => ∑ a, f r s a * u a) (fun r => d r 0 * u 0 + d r 1 * u 1 + d r 2 * u 2) _ _ j h hh _ _ ?_ ?_
  · rw [Cert.Reference3Ideal.Value.mean_apply]
    simp only [hH]
  · rw [Cert.Reference3Ideal.Value.variance_apply]
    simp only [Cert.Reference3Ideal.Value.deviation_apply, hH]

/-- THE RESULT: what the kernel's program leaves is what the reference computes. -/
theorem whole_eq [Cert.Pre_finite_in_range.Facts] (m : (ℓ : Loc nD τ sig) → Buf (Elt Ideal) ℓ) (ρ : Dev nD → PrngReg)
    (hH : ∀ (c : Dev nD) (t : Fin cfg1.N) (j : S1x1x8x16.Idx), k1_chk1 (iblk1 (V7 m ρ) c 0 t j : BitVec 32)) (c : Dev nD)
    (h : Cert.Pre_finite_in_range.fn (F := Ideal) (argP m c) (argX m c) (argW m c) (argG m c) (argB m c) (argN m c) (argK m c) = fun _ => 1#1) :
    Cert.Reference3Ideal.Value.greatest (Cert.Reference3Ideal.Value.hidden (argP m c) (argX m c) (argW m c) (argN m c) (argK m c)) (argG m c) (argB m c)
      = W11 m ρ hH c (Proc.devRef .tc main_v33) := by
  obtain ⟨hp, hx, hw, hn, hr⟩ := finite_in_range_of_pre _ _ _ _ _ _ _ h
  have hk : ∀ i, (argK m c i : BitVec 32).toNat < 25000 := fun i => toNat_lt_of_range (hr i).1 (hr i).2
  funext i
  obtain ⟨j, ch, rfl⟩ : ∃ (j : Fin 6248) (ch : Fin 64), i = ix2 j ch := ⟨_, _, eq_ix2 i⟩
  exact ((result_eq m ρ hH c hk j ch).trans (rows_eq _ _ _ _ _ _ _ hp hx hw hn hk j ch)).symm

end Cert.Kernel3Ideal.Whole
-- ==== Proof.WholeMachine.lean ====
module

public import proofs.«01_k».proof.Proof.WholeHost
public import proofs.«01_k».proof.Proof.Gen.Kernel3

/-!
The three launches' program on machine words. The program and its ideal version are one text, which may be read over
any floats: here that is shown body by body, and the run on words is the ideal version's run, read over words.
-/

@[expose] public section

set_option maxRecDepth 65536
set_option maxHeartbeats 4000000

noncomputable section

namespace Cert.Kernel3.Whole

open Idealize.ShloMosaic Idealize.ShloMosaic.TcCoe Idealize.SL.Sem

variable {F : FTy → Type} [FloatOps F]

/-- The projection's body is the ideal program's. -/
theorem proj_eq : @cc0__proj_kernel F _ Gen.facts = @Cert.Kernel3Ideal.cc0__proj_kernel F _ Cert.Kernel3Ideal.Gen.facts := by
  unfold cc0__proj_kernel Cert.Kernel3Ideal.cc0__proj_kernel
  rfl

/-- The gather's body is the ideal program's. -/
theorem gather_eq : @cc1__gather_kernel F _ Gen.facts = @Cert.Kernel3Ideal.cc1__gather_kernel F _ Cert.Kernel3Ideal.Gen.facts := by
  unfold cc1__gather_kernel Cert.Kernel3Ideal.cc1__gather_kernel
  rfl

/-- The bodies of all three launches are the ideal program's. -/
theorem bodies_eq : @defs₀ F _ Gen.facts = @Cert.Kernel3Ideal.defs₀ F _ Cert.Kernel3Ideal.Gen.facts := by
  unfold defs₀ Cert.Kernel3Ideal.defs₀
  refine congrArg Defs.onTc (funext fun l => funext fun x => ?_)
  match l, x with
  | 0, (t, s) =>
    show cc0__proj_kernel _ _ _ _ _ _ _ = Cert.Kernel3Ideal.cc0__proj_kernel _ _ _ _ _ _ _
    exact congrFun (congrFun (congrFun (congrFun (congrFun (congrFun (congrFun proj_eq _) _) _) _) _) _) _
  | 1, (t, s) => exact congrFun (congrFun (congrFun (congrFun (congrFun (congrFun (congrFun (congrFun (congrFun (congrFun
      (congrFun (congrFun (congrFun gather_eq _) _) _) _) _) _) _) _) _) _) _) _) _
  | 2, (t, s) => rfl
  | ⟨_ + 3, h⟩, _ => exact absurd h (Nat.not_lt.2 (Nat.le_add_left _ _))

/-- The launches are the ideal program's. -/
theorem launches_eq : @defs F _ Gen.facts = @Cert.Kernel3Ideal.defs F _ Cert.Kernel3Ideal.Gen.facts :=
  congrArg (Pipeline.defs Cert.Kernel3Ideal.pcfgs) bodies_eq

/-- The host code is the ideal program's. -/
theorem host_eq : @main F _ Gen.facts = @Cert.Kernel3Ideal.main F _ Cert.Kernel3Ideal.Gen.facts := by
  unfold main Cert.Kernel3Ideal.main
  rfl

/-- Where every neighbour lies in its segment the program runs, leaves its arguments as they were and every counter at zero. -/
theorem frame (m : (ℓ : Loc nD τ sig) → Buf (Elt F) ℓ) (ρ : Dev nD → PrngReg)
    (h : ∀ (c : Dev nD) i, 0 ≤ (m ((c.tc : Thread nD τ).loc main_arg6) i : BitVec 32).toInt ∧ (m ((c.tc : Thread nD τ).loc main_arg6) i : BitVec 32).toInt < 25000) :
    θ_run (@defs F _ Gen.facts) (onTc (τ := τ) (@main F _ Gen.facts)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have hf := @Cert.Kernel3Ideal.Whole.frame F _ m ρ (Cert.Kernel3Ideal.Whole.checked m ρ h)
  rw [launches_eq, host_eq]
  exact hf

end Cert.Kernel3.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Pre_in_range
public import proofs.«01_k».proof.Proof.Gen.Pre_finite_in_range
public import proofs.«01_k».proof.Proof.Equation
public import proofs.«01_k».proof.Proof.NeighbourEquation
public import proofs.«01_k».proof.Proof.WholeEquation
public import proofs.«01_k».proof.Proof.WholeMachine
public import Idealize.ShloMosaic.Adequacy
public import Idealize.ShloMosaic.Init

@[expose] public section

noncomputable section

namespace Cert.Proof

open Idealize.ShloMosaic Idealize.SL.Sem

/-- The reference runs, leaves its argument as it was and every counter at zero. -/
theorem reference_frame : Cert.quiescent_ReferenceIdeal (hReferenceIdeal := Cert.ReferenceIdeal.Gen.facts) := fun m ρ _ =>
  (θ_run _ _ _).mono (fun r h => ⟨fun c => (h.1 c).2.2, h.2⟩) (Cert.ReferenceIdeal.Value.run_value m ρ)

/-- The kernel's sampled points and segment ends are the reference's. -/
theorem values : Cert.algebraic_KernelIdeal_ReferenceIdeal (hKernelIdeal := Cert.KernelIdeal.Gen.facts)
    (hReferenceIdeal := Cert.ReferenceIdeal.Gen.facts) := fun m ρ m' ρ' _ hargs =>
  ⟨fun c => Cert.KernelIdeal.Value.unfold3 (F := Ideal) (Cert.KernelIdeal.Gen.outsAt0 m c Cert.KernelIdeal.Gen.t0_0).1
      (Cert.KernelIdeal.Gen.outsAt0 m c Cert.KernelIdeal.Gen.t0_0).2.1 (Cert.KernelIdeal.Gen.outsAt0 m c Cert.KernelIdeal.Gen.t0_0).2.2,
    fun _ => Cert.KernelIdeal.Value.ends (F := Ideal),
    Cert.KernelIdeal.Value.run_value m ρ,
    (θ_run _ _ _).mono (fun r h c =>
      ⟨(h.1 c).1.trans (Cert.Equation.points_eq m c _ (congrArg (fun p => shapeCast Cert.ReferenceIdeal.S4x25000x3 p
          Cert.ReferenceIdeal.Gen.shapeCasts_S100000x3_S4x25000x3) (hargs c))),
        (h.1 c).2.1.trans Cert.Equation.ends_eq, (h.1 c).2.2⟩) (Cert.ReferenceIdeal.Value.run_value m' ρ')⟩

/-- The neighbours' reference runs, leaves its arguments as they were and every counter at zero. -/
theorem neighbours_reference_frame : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run (F := Ideal) m ρ)

/-- From finite points the kernel's neighbours are the reference's. -/
theorem neighbours : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := fun m ρ m' ρ' hpre hargs =>
  ⟨fun c => (Cert.Kernel2Ideal.Gen.dats m 0 c).arrAt 4 Cert.Kernel2Ideal.cfg0.N,
    Cert.Kernel2Ideal.Value.run_blocks m ρ,
    (θ_run _ _ _).mono (fun r h c => ⟨(h c).1.trans ((congrArg₂ Cert.Reference2Ideal.Value.refOut (hargs c).1 (hargs c).2).trans
      (@Cert.Neighbours.neighbours_eq Cert.Pre_finite.Gen.facts m c (hpre c))), (h c).2⟩) (Cert.Reference2Ideal.Value.run m' ρ')⟩

/-- The last result's reference runs, leaves its arguments as they were and every counter at zero. -/
theorem whole_reference_frame : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run (F := Ideal) m ρ)

/-- The three launches run on machine words, where every neighbour lies in its segment. -/
theorem whole_machine_frame : Cert.quiescent_Kernel3 (hKernel3 := Cert.Kernel3.Gen.facts) (hPre_in_range := Cert.Pre_in_range.Gen.facts) :=
  fun m ρ h => Cert.Kernel3.Whole.frame m ρ fun c i =>
    @Cert.Kernel3Ideal.Whole.range_of_pre Cert.Pre_in_range.Gen.facts Bits _ _ _ _ _ _ _ _ (h c) i

/-- The three launches run over the extended reals, where every neighbour lies in its segment. -/
theorem whole_frame : Cert.quiescent_Kernel3Ideal (hKernel3Ideal := Cert.Kernel3Ideal.Gen.facts) (hPre_in_range := Cert.Pre_in_range.Gen.facts) :=
  fun m ρ h => Cert.Kernel3Ideal.Whole.frame m ρ (Cert.Kernel3Ideal.Whole.checked m ρ fun c i =>
    @Cert.Kernel3Ideal.Whole.range_of_pre Cert.Pre_in_range.Gen.facts Ideal _ _ _ _ _ _ _ _ (h c) i)

open Cert.Kernel3Ideal Cert.Kernel3Ideal.Gen Cert.Kernel3Ideal.Whole in
/-- The gather's loads are in bounds under the value claim's precondition. -/
theorem whole_checked (m : (ℓ : Loc Cert.Kernel3Ideal.nD Cert.Kernel3Ideal.τ Cert.Kernel3Ideal.sig) → Buf (Elt Ideal) ℓ)
    (ρ : Dev Cert.Kernel3Ideal.nD → PrngReg)
    (h : Cert.Pre_Kernel3Ideal_finite_in_range (hPre_finite_in_range := Cert.Pre_finite_in_range.Gen.facts) m)
    (c : Dev Cert.Kernel3Ideal.nD) (t : Fin Cert.Kernel3Ideal.cfg1.N) (j : Cert.Kernel3Ideal.S1x1x8x16.Idx) :
    k1_chk1 (iblk1 (V7 m ρ) c 0 t j : BitVec 32) :=
  Cert.Kernel3Ideal.Whole.checked m ρ (fun c i => (@Cert.Kernel3Ideal.Whole.finite_in_range_of_pre Cert.Pre_finite_in_range.Gen.facts _ _ _ _ _ _ _ (h c)).2.2.2.2 i) c t j

/-- From finite arrays, and neighbours in their segments, the kernel's last result is the reference's. -/
theorem whole : Cert.algebraic_Kernel3Ideal_Reference3Ideal_pre_finite_in_range (hKernel3Ideal := Cert.Kernel3Ideal.Gen.facts)
    (hReference3Ideal := Cert.Reference3Ideal.Gen.facts) (hPre_finite_in_range := Cert.Pre_finite_in_range.Gen.facts) :=
    fun m ρ m' ρ' hpre hargs => by
  have hH := whole_checked m ρ hpre
  refine ⟨fun c => Cert.Kernel3Ideal.Whole.W11 m ρ hH c (Proc.devRef .tc Cert.Kernel3Ideal.main_v33), ?_, ?_⟩
  · refine (θ_run _ _ _).mono (fun r h c => ?_) (Cert.Kernel3Ideal.Whole.run m ρ hH)
    exact ⟨h.1 c _ (Cert.Kernel3Ideal.Whole.mem_uc Cert.Kernel3Ideal.main_v33 (by decide)),
      (h.1 c _ (Cert.Kernel3Ideal.Whole.mem_uc Cert.Kernel3Ideal.main_arg0 (by decide))).trans (Cert.Kernel3Ideal.Whole.W11_main_arg0 m ρ hH c),
      (h.1 c _ (Cert.Kernel3Ideal.Whole.mem_uc Cert.Kernel3Ideal.main_arg1 (by decide))).trans (Cert.Kernel3Ideal.Whole.W11_main_arg1 m ρ hH c),
      (h.1 c _ (Cert.Kernel3Ideal.Whole.mem_uc Cert.Kernel3Ideal.main_arg2 (by decide))).trans (Cert.Kernel3Ideal.Whole.W11_main_arg2 m ρ hH c),
      (h.1 c _ (Cert.Kernel3Ideal.Whole.mem_uc Cert.Kernel3Ideal.main_arg3 (by decide))).trans (Cert.Kernel3Ideal.Whole.W11_main_arg3 m ρ hH c),
      (h.1 c _ (Cert.Kernel3Ideal.Whole.mem_uc Cert.Kernel3Ideal.main_arg4 (by decide))).trans (Cert.Kernel3Ideal.Whole.W11_main_arg4 m ρ hH c),
      (h.1 c _ (Cert.Kernel3Ideal.Whole.mem_uc Cert.Kernel3Ideal.main_arg5 (by decide))).trans (Cert.Kernel3Ideal.Whole.W11_main_arg5 m ρ hH c),
      (h.1 c _ (Cert.Kernel3Ideal.Whole.mem_uc Cert.Kernel3Ideal.main_arg6 (by decide))).trans (Cert.Kernel3Ideal.Whole.W11_main_arg6 m ρ hH c)⟩
  · refine (θ_run _ _ _).mono (fun r h c => ⟨(h c).1.trans ?_, (h c).2⟩) (Cert.Reference3Ideal.Value.run (F := Ideal) m' ρ')
    obtain ⟨h0, h1, h2, h3, h4, h5, h6⟩ := hargs c
    refine (Cert.Reference3Ideal.Value.res_eq m' c).trans ?_
    rw [h0, h1, h2, h3, h4, h5, h6]
    exact @Cert.Kernel3Ideal.Whole.whole_eq Cert.Pre_finite_in_range.Gen.facts m ρ hH c (hpre c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite.Gen.facts, Cert.Pre_in_range.Gen.facts, Cert.Pre_finite_in_range.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, fun m ρ _ => Cert.Kernel2Ideal.Gen.frame m ρ,
  neighbours_reference_frame, fun m ρ _ => neighbours_reference_frame m ρ trivial,
  whole_machine_frame, whole_frame, fun m ρ h => Cert.Kernel3Ideal.Whole.frame m ρ (whole_checked m ρ h),
  whole_reference_frame, fun m ρ _ => whole_reference_frame m ρ trivial,
  trivial, values, trivial, neighbours, trivial, whole⟩

end Cert.Proof

end
